-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S1 : Shape := ⟨1, ![1]⟩
abbrev S16 : Shape := ⟨1, ![16]⟩
abbrev S_ : Shape := ⟨0, ![]⟩
abbrev S2x4x256x256 : Shape := ⟨4, ![2, 4, 256, 256]⟩
abbrev S2x2x4 : Shape := ⟨3, ![2, 2, 4]⟩
abbrev S2x2 : Shape := ⟨2, ![2, 2]⟩
abbrev S256x256 : Shape := ⟨2, ![256, 256]⟩
abbrev S256x1024 : Shape := ⟨2, ![256, 1024]⟩
abbrev S1x1x256x256 : Shape := ⟨4, ![1, 1, 256, 256]⟩
abbrev S1x1x1 : Shape := ⟨3, ![1, 1, 1]⟩
abbrev S1x1 : Shape := ⟨2, ![1, 1]⟩

abbrev nBuf : Space → Nat
  | .hbm => 39
  | .vmem => 7
  | .smem => 6
  | _ => 0

abbrev bufTy : (tb : Table) → Fin (tcTables nBuf tb) → BufTy
  | .hbm, ⟨0, _⟩ => ⟨S4096x256, .fp8e5m2⟩
  | .hbm, ⟨1, _⟩ => ⟨S256x2048, .fp8e5m2⟩
  | .hbm, ⟨2, _⟩ => ⟨S1, .f32⟩
  | .hbm, ⟨3, _⟩ => ⟨S1, .f32⟩
  | .hbm, ⟨4, _⟩ => ⟨S16, .i32⟩
  | .hbm, ⟨5, _⟩ => ⟨S16, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S256x2048, .f32⟩
  | .local _ .vmem, ⟨0, _⟩ => ⟨S4096x256, .fp8e5m2⟩
  | .local _ .vmem, ⟨1, _⟩ => ⟨S256x2048, .fp8e5m2⟩
  | .local _ .vmem, ⟨2, _⟩ => ⟨S256x2048, .f32⟩
  | .local _ .vmem, ⟨3, _⟩ => ⟨S2x4x256x256, .bf16⟩
  | .local _ .vmem, ⟨4, _⟩ => ⟨S2x4x256x256, .bf16⟩
  | .local _ .vmem, ⟨5, _⟩ => ⟨S2x4x256x256, .bf16⟩
  | .local _ .vmem, ⟨6, _⟩ => ⟨S2x4x256x256, .bf16⟩
  | .local _ .smem, ⟨0, _⟩ => ⟨S1, .f32⟩
  | .local _ .smem, ⟨1, _⟩ => ⟨S1, .f32⟩
  | .local _ .smem, ⟨2, _⟩ => ⟨S1, .i32⟩
  | .local _ .smem, ⟨3, _⟩ => ⟨S1, .i32⟩
  | .local _ .smem, ⟨4, _⟩ => ⟨S1, .i32⟩
  | .local _ .smem, ⟨5, _⟩ => ⟨S16, .i32⟩
  | _, _ => ⟨S4096x256, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 5 41 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_5 : Ref sig .tc := ⟨.hbm, 14, rfl⟩
abbrev main_v5 : Ref sig .tc := ⟨.hbm, 15, rfl⟩
abbrev main_c_6 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_7 : Ref sig .tc := ⟨.hbm, 22, rfl⟩
abbrev main_v11 : Ref sig .tc := ⟨.hbm, 23, rfl⟩
abbrev main_c_8 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_9 : Ref sig .tc := ⟨.hbm, 30, rfl⟩
abbrev main_v17 : Ref sig .tc := ⟨.hbm, 31, rfl⟩
abbrev main_c_10 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg8_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc0_stg6_0 : Ref sig .tc := ⟨.smem, 4, rfl⟩
abbrev cc0_stg7_0 : Ref sig .tc := ⟨.smem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 4

abbrev nD : Nat := 16
abbrev τ : Topo := Topo.v7x

variable {F : FTy → Type} [FloatOps F]

abbrev grid0 : Pipeline.Grid := .none

def k0_dev1 (v2 : BitVec 32) : Nat :=
  let c0_i32 : BitVec 32 := 0#32
  let c1_i32_2 : BitVec 32 := 1#32
  let v4 : BitVec 32 := Scalar.muli v2 c1_i32_2
  let v5 : BitVec 32 := Scalar.addi c0_i32 v4
  v5.toNat

def k0_dev2 (v1 : BitVec 32) : Nat :=
  let c0_i32_5 : BitVec 32 := 0#32
  let c1_i32_4 : BitVec 32 := 1#32
  let v6 : BitVec 32 := Scalar.muli v1 c1_i32_4
  let v7 : BitVec 32 := Scalar.addi c0_i32_5 v6
  v7.toNat

def k0_off1 (v0 : BitVec 32) : Fin 1 → Nat :=
  let c32_i32 : BitVec 32 := 32#32
  let v8 : BitVec 32 := Scalar.addi v0 c32_i32
  let c0_i32_6 : BitVec 32 := 0#32
  let v9 : BitVec 32 := Scalar.subi v8 c0_i32_6
  let c1_i32_7 : BitVec 32 := 1#32
  let v10 : BitVec 32 := Scalar.subi v9 c1_i32_7
  let c16_i32 : BitVec 32 := 16#32
  let v11 : BitVec 32 := Scalar.remsi v10 c16_i32
  let v12 : Index := Scalar.indexCast v11
  ![v12.toNat]

def k0_off2 (v0 : BitVec 32) : Fin 1 → Nat :=
  let c0_i32_8 : BitVec 32 := 0#32
  let v14 : BitVec 32 := Scalar.addi v0 c0_i32_8
  let c1_i32_9 : BitVec 32 := 1#32
  let v15 : BitVec 32 := Scalar.addi v14 c1_i32_9
  let c16_i32_10 : BitVec 32 := 16#32
  let v16 : BitVec 32 := Scalar.remsi v15 c16_i32_10
  let v17 : Index := Scalar.indexCast v16
  ![v17.toNat]
def k0_off3 (v13 : BitVec 32) : Fin 2 → Nat :=
  let c256_i32 : BitVec 32 := 256#32
  let v19 : BitVec 32 := Scalar.muli v13 c256_i32
  let v20 : Index := Scalar.indexCast v19
  let c0_11 : Index := 0#32
  ![v20.toNat, 0]

def k0_chk4 (v13 : BitVec 32) : Prop :=
  (∀ a, (k0_off3 v13) a + S256x256.size a ≤ S4096x256.size a)
theorem k0_off3_inb : ∀ (v13 : BitVec 32) (k0_hw4 : k0_chk4 v13), ∀ a, (k0_off3 v13) a + S256x256.size a ≤ S4096x256.size a := fun v13 k0_hw4 => k0_hw4

def k0_off4 (v18 : BitVec 32) : Fin 2 → Nat :=
  let c256_i32_14 : BitVec 32 := 256#32
  let v26 : BitVec 32 := Scalar.muli v18 c256_i32_14
  let v27 : Index := Scalar.indexCast v26
  let c0_15 : Index := 0#32
  ![v27.toNat, 0]

def k0_chk5 (v18 : BitVec 32) : Prop :=
  (∀ a, (k0_off4 v18) a + S256x256.size a ≤ S4096x256.size a)
theorem k0_off4_inb : ∀ (v18 : BitVec 32) (k0_hw5 : k0_chk5 v18), ∀ a, (k0_off4 v18) a + S256x256.size a ≤ S4096x256.size a := fun v18 k0_hw5 => k0_hw5

def k0_dev3 (v1 : BitVec 32) : Nat :=
  let c0_i32_37 : BitVec 32 := 0#32
  let c1_i32_36 : BitVec 32 := 1#32
  let v43 : BitVec 32 := Scalar.muli v1 c1_i32_36
  let v44 : BitVec 32 := Scalar.addi c0_i32_37 v43
  v44.toNat
def k0_dev4 (v2 : BitVec 32) : Nat :=
  let c0_i32_53 : BitVec 32 := 0#32
  let c1_i32_52 : BitVec 32 := 1#32
  let v53 : BitVec 32 := Scalar.muli v2 c1_i32_52
  let v54 : BitVec 32 := Scalar.addi c0_i32_53 v53
  v54.toNat
def k0_dev5 (v1 : BitVec 32) : Nat :=
  let c0_i32_76 : BitVec 32 := 0#32
  let c1_i32_75 : BitVec 32 := 1#32
  let v73 : BitVec 32 := Scalar.muli v1 c1_i32_75
  let v74 : BitVec 32 := Scalar.addi c0_i32_76 v73
  v74.toNat
def k0_dev6 (v2 : BitVec 32) : Nat :=
  let c0_i32_92 : BitVec 32 := 0#32
  let c1_i32_91 : BitVec 32 := 1#32
  let v83 : BitVec 32 := Scalar.muli v2 c1_i32_91
  let v84 : BitVec 32 := Scalar.addi c0_i32_92 v83
  v84.toNat
def k0_dev7 (v1 : BitVec 32) : Nat :=
  let c0_i32_115 : BitVec 32 := 0#32
  let c1_i32_114 : BitVec 32 := 1#32
  let v103 : BitVec 32 := Scalar.muli v1 c1_i32_114
  let v104 : BitVec 32 := Scalar.addi c0_i32_115 v103
  v104.toNat
def k0_dev8 (v2 : BitVec 32) : Nat :=
  let c0_i32_131 : BitVec 32 := 0#32
  let c1_i32_130 : BitVec 32 := 1#32
  let v113 : BitVec 32 := Scalar.muli v2 c1_i32_130
  let v114 : BitVec 32 := Scalar.addi c0_i32_131 v113
  v114.toNat
def k0_dev9 (v1 : BitVec 32) : Nat :=
  let c0_i32_153 : BitVec 32 := 0#32
  let c1_i32_152 : BitVec 32 := 1#32
  let v133 : BitVec 32 := Scalar.muli v1 c1_i32_152
  let v134 : BitVec 32 := Scalar.addi c0_i32_153 v133
  v134.toNat
def k0_dev10 (v2 : BitVec 32) : Nat :=
  let c0_i32_169 : BitVec 32 := 0#32
  let c1_i32_168 : BitVec 32 := 1#32
  let v143 : BitVec 32 := Scalar.muli v2 c1_i32_168
  let v144 : BitVec 32 := Scalar.addi c0_i32_169 v143
  v144.toNat
def k0_off5 (v0 : BitVec 32) : Fin 1 → Nat :=
  let c32_i32_174 : BitVec 32 := 32#32
  let v153 : BitVec 32 := Scalar.addi v0 c32_i32_174
  let c1_i32_175 : BitVec 32 := 1#32
  let v154 : BitVec 32 := Scalar.subi v153 c1_i32_175
  let c1_i32_176 : BitVec 32 := 1#32
  let v155 : BitVec 32 := Scalar.subi v154 c1_i32_176
  let c16_i32_177 : BitVec 32 := 16#32
  let v156 : BitVec 32 := Scalar.remsi v155 c16_i32_177
  let v157 : Index := Scalar.indexCast v156
  ![v157.toNat]
def k0_off6 (v0 : BitVec 32) : Fin 1 → Nat :=
  let c1_i32_178 : BitVec 32 := 1#32
  let v159 : BitVec 32 := Scalar.addi v0 c1_i32_178
  let c1_i32_179 : BitVec 32 := 1#32
  let v160 : BitVec 32 := Scalar.addi v159 c1_i32_179
  let c16_i32_180 : BitVec 32 := 16#32
  let v161 : BitVec 32 := Scalar.remsi v160 c16_i32_180
  let v162 : Index := Scalar.indexCast v161
  ![v162.toNat]
def k0_off7 (v158 : BitVec 32) : Fin 2 → Nat :=
  let c256_i32_181 : BitVec 32 := 256#32
  let v164 : BitVec 32 := Scalar.muli v158 c256_i32_181
  let v165 : Index := Scalar.indexCast v164
  let c0_182 : Index := 0#32
  ![v165.toNat, 0]

def k0_chk6 (v158 : BitVec 32) : Prop :=
  (∀ a, (k0_off7 v158) a + S256x256.size a ≤ S4096x256.size a)
theorem k0_off7_inb : ∀ (v158 : BitVec 32) (k0_hw6 : k0_chk6 v158), ∀ a, (k0_off7 v158) a + S256x256.size a ≤ S4096x256.size a := fun v158 k0_hw6 => k0_hw6

def k0_off8 (v163 : BitVec 32) : Fin 2 → Nat :=
  let c256_i32_186 : BitVec 32 := 256#32
  let v171 : BitVec 32 := Scalar.muli v163 c256_i32_186
  let v172 : Index := Scalar.indexCast v171
  let c0_187 : Index := 0#32
  ![v172.toNat, 0]

def k0_chk7 (v163 : BitVec 32) : Prop :=
  (∀ a, (k0_off8 v163) a + S256x256.size a ≤ S4096x256.size a)
theorem k0_off8_inb : ∀ (v163 : BitVec 32) (k0_hw7 : k0_chk7 v163), ∀ a, (k0_off8 v163) a + S256x256.size a ≤ S4096x256.size a := fun v163 k0_hw7 => k0_hw7

def k0_dev11 (v1 : BitVec 32) : Nat :=
  let c0_i32_250 : BitVec 32 := 0#32
  let c1_i32_249 : BitVec 32 := 1#32
  let v212 : BitVec 32 := Scalar.muli v1 c1_i32_249
  let v213 : BitVec 32 := Scalar.addi c0_i32_250 v212
  v213.toNat
def k0_dev12 (v2 : BitVec 32) : Nat :=
  let c0_i32_266 : BitVec 32 := 0#32
  let c1_i32_265 : BitVec 32 := 1#32
  let v222 : BitVec 32 := Scalar.muli v2 c1_i32_265
  let v223 : BitVec 32 := Scalar.addi c0_i32_266 v222
  v223.toNat
def k0_dev13 (v1 : BitVec 32) : Nat :=
  let c0_i32_330 : BitVec 32 := 0#32
  let c1_i32_329 : BitVec 32 := 1#32
  let v266 : BitVec 32 := Scalar.muli v1 c1_i32_329
  let v267 : BitVec 32 := Scalar.addi c0_i32_330 v266
  v267.toNat
def k0_dev14 (v2 : BitVec 32) : Nat :=
  let c0_i32_346 : BitVec 32 := 0#32
  let c1_i32_345 : BitVec 32 := 1#32
  let v276 : BitVec 32 := Scalar.muli v2 c1_i32_345
  let v277 : BitVec 32 := Scalar.addi c0_i32_346 v276
  v277.toNat
def k0_dev15 (v1 : BitVec 32) : Nat :=
  let c0_i32_410 : BitVec 32 := 0#32
  let c1_i32_409 : BitVec 32 := 1#32
  let v320 : BitVec 32 := Scalar.muli v1 c1_i32_409
  let v321 : BitVec 32 := Scalar.addi c0_i32_410 v320
  v321.toNat
def k0_dev16 (v2 : BitVec 32) : Nat :=
  let c0_i32_426 : BitVec 32 := 0#32
  let c1_i32_425 : BitVec 32 := 1#32
  let v330 : BitVec 32 := Scalar.muli v2 c1_i32_425
  let v331 : BitVec 32 := Scalar.addi c0_i32_426 v330
  v331.toNat
def k0_dev17 (v1 : BitVec 32) : Nat :=
  let c0_i32_490 : BitVec 32 := 0#32
  let c1_i32_489 : BitVec 32 := 1#32
  let v374 : BitVec 32 := Scalar.muli v1 c1_i32_489
  let v375 : BitVec 32 := Scalar.addi c0_i32_490 v374
  v375.toNat
def k0_dev18 (v2 : BitVec 32) : Nat :=
  let c0_i32_506 : BitVec 32 := 0#32
  let c1_i32_505 : BitVec 32 := 1#32
  let v384 : BitVec 32 := Scalar.muli v2 c1_i32_505
  let v385 : BitVec 32 := Scalar.addi c0_i32_506 v384
  v385.toNat
def k0_dev19 (v2 : BitVec 32) : Nat :=
  let c0_i32_515 : BitVec 32 := 0#32
  let c1_i32_514 : BitVec 32 := 1#32
  let v396 : BitVec 32 := Scalar.muli v2 c1_i32_514
  let v397 : BitVec 32 := Scalar.addi c0_i32_515 v396
  v397.toNat
def k0_dev20 (v1 : BitVec 32) : Nat :=
  let c0_i32_520 : BitVec 32 := 0#32
  let c1_i32_519 : BitVec 32 := 1#32
  let v400 : BitVec 32 := Scalar.muli v1 c1_i32_519
  let v401 : BitVec 32 := Scalar.addi c0_i32_520 v400
  v401.toNat
def k0_off9 (v0 : BitVec 32) : Fin 1 → Nat :=
  let c32_i32_521 : BitVec 32 := 32#32
  let v402 : BitVec 32 := Scalar.addi v0 c32_i32_521
  let c2_i32_522 : BitVec 32 := 2#32
  let v403 : BitVec 32 := Scalar.subi v402 c2_i32_522
  let c1_i32_523 : BitVec 32 := 1#32
  let v404 : BitVec 32 := Scalar.subi v403 c1_i32_523
  let c16_i32_524 : BitVec 32 := 16#32
  let v405 : BitVec 32 := Scalar.remsi v404 c16_i32_524
  let v406 : Index := Scalar.indexCast v405
  ![v406.toNat]
def k0_off10 (v0 : BitVec 32) : Fin 1 → Nat :=
  let c2_i32_525 : BitVec 32 := 2#32
  let v408 : BitVec 32 := Scalar.addi v0 c2_i32_525
  let c1_i32_526 : BitVec 32 := 1#32
  let v409 : BitVec 32 := Scalar.addi v408 c1_i32_526
  let c16_i32_527 : BitVec 32 := 16#32
  let v410 : BitVec 32 := Scalar.remsi v409 c16_i32_527
  let v411 : Index := Scalar.indexCast v410
  ![v411.toNat]
def k0_off11 (v407 : BitVec 32) : Fin 2 → Nat :=
  let c256_i32_528 : BitVec 32 := 256#32
  let v413 : BitVec 32 := Scalar.muli v407 c256_i32_528
  let v414 : Index := Scalar.indexCast v413
  let c0_529 : Index := 0#32
  ![v414.toNat, 0]

def k0_chk8 (v407 : BitVec 32) : Prop :=
  (∀ a, (k0_off11 v407) a + S256x256.size a ≤ S4096x256.size a)
theorem k0_off11_inb : ∀ (v407 : BitVec 32) (k0_hw8 : k0_chk8 v407), ∀ a, (k0_off11 v407) a + S256x256.size a ≤ S4096x256.size a := fun v407 k0_hw8 => k0_hw8

def k0_off12 (v412 : BitVec 32) : Fin 2 → Nat :=
  let c256_i32_533 : BitVec 32 := 256#32
  let v420 : BitVec 32 := Scalar.muli v412 c256_i32_533
  let v421 : Index := Scalar.indexCast v420
  let c0_534 : Index := 0#32
  ![v421.toNat, 0]

def k0_chk9 (v412 : BitVec 32) : Prop :=
  (∀ a, (k0_off12 v412) a + S256x256.size a ≤ S4096x256.size a)
theorem k0_off12_inb : ∀ (v412 : BitVec 32) (k0_hw9 : k0_chk9 v412), ∀ a, (k0_off12 v412) a + S256x256.size a ≤ S4096x256.size a := fun v412 k0_hw9 => k0_hw9

def k0_dev21 (v1 : BitVec 32) : Nat :=
  let c0_i32_635 : BitVec 32 := 0#32
  let c1_i32_634 : BitVec 32 := 1#32
  let v477 : BitVec 32 := Scalar.muli v1 c1_i32_634
  let v478 : BitVec 32 := Scalar.addi c0_i32_635 v477
  v478.toNat
def k0_dev22 (v2 : BitVec 32) : Nat :=
  let c0_i32_651 : BitVec 32 := 0#32
  let c1_i32_650 : BitVec 32 := 1#32
  let v487 : BitVec 32 := Scalar.muli v2 c1_i32_650
  let v488 : BitVec 32 := Scalar.addi c0_i32_651 v487
  v488.toNat
def k0_dev23 (v1 : BitVec 32) : Nat :=
  let c0_i32_745 : BitVec 32 := 0#32
  let c1_i32_744 : BitVec 32 := 1#32
  let v543 : BitVec 32 := Scalar.muli v1 c1_i32_744
  let v544 : BitVec 32 := Scalar.addi c0_i32_745 v543
  v544.toNat
def k0_dev24 (v2 : BitVec 32) : Nat :=
  let c0_i32_761 : BitVec 32 := 0#32
  let c1_i32_760 : BitVec 32 := 1#32
  let v553 : BitVec 32 := Scalar.muli v2 c1_i32_760
  let v554 : BitVec 32 := Scalar.addi c0_i32_761 v553
  v554.toNat
def k0_dev25 (v1 : BitVec 32) : Nat :=
  let c0_i32_855 : BitVec 32 := 0#32
  let c1_i32_854 : BitVec 32 := 1#32
  let v609 : BitVec 32 := Scalar.muli v1 c1_i32_854
  let v610 : BitVec 32 := Scalar.addi c0_i32_855 v609
  v610.toNat
def k0_dev26 (v2 : BitVec 32) : Nat :=
  let c0_i32_871 : BitVec 32 := 0#32
  let c1_i32_870 : BitVec 32 := 1#32
  let v619 : BitVec 32 := Scalar.muli v2 c1_i32_870
  let v620 : BitVec 32 := Scalar.addi c0_i32_871 v619
  v620.toNat
def k0_dev27 (v1 : BitVec 32) : Nat :=
  let c0_i32_965 : BitVec 32 := 0#32
  let c1_i32_964 : BitVec 32 := 1#32
  let v675 : BitVec 32 := Scalar.muli v1 c1_i32_964
  let v676 : BitVec 32 := Scalar.addi c0_i32_965 v675
  v676.toNat
def k0_dev28 (v2 : BitVec 32) : Nat :=
  let c0_i32_981 : BitVec 32 := 0#32
  let c1_i32_980 : BitVec 32 := 1#32
  let v685 : BitVec 32 := Scalar.muli v2 c1_i32_980
  let v686 : BitVec 32 := Scalar.addi c0_i32_981 v685
  v686.toNat
def k0_dev29 (v2 : BitVec 32) : Nat :=
  let c0_i32_990 : BitVec 32 := 0#32
  let c1_i32_989 : BitVec 32 := 1#32
  let v697 : BitVec 32 := Scalar.muli v2 c1_i32_989
  let v698 : BitVec 32 := Scalar.addi c0_i32_990 v697
  v698.toNat
def k0_dev30 (v1 : BitVec 32) : Nat :=
  let c0_i32_995 : BitVec 32 := 0#32
  let c1_i32_994 : BitVec 32 := 1#32
  let v701 : BitVec 32 := Scalar.muli v1 c1_i32_994
  let v702 : BitVec 32 := Scalar.addi c0_i32_995 v701
  v702.toNat
def k0_off13 (v0 : BitVec 32) : Fin 1 → Nat :=
  let c32_i32_996 : BitVec 32 := 32#32
  let v703 : BitVec 32 := Scalar.addi v0 c32_i32_996
  let c3_i32_997 : BitVec 32 := 3#32
  let v704 : BitVec 32 := Scalar.subi v703 c3_i32_997
  let c1_i32_998 : BitVec 32 := 1#32
  let v705 : BitVec 32 := Scalar.subi v704 c1_i32_998
  let c16_i32_999 : BitVec 32 := 16#32
  let v706 : BitVec 32 := Scalar.remsi v705 c16_i32_999
  let v707 : Index := Scalar.indexCast v706
  ![v707.toNat]
def k0_off14 (v0 : BitVec 32) : Fin 1 → Nat :=
  let c3_i32_1000 : BitVec 32 := 3#32
  let v709 : BitVec 32 := Scalar.addi v0 c3_i32_1000
  let c1_i32_1001 : BitVec 32 := 1#32
  let v710 : BitVec 32 := Scalar.addi v709 c1_i32_1001
  let c16_i32_1002 : BitVec 32 := 16#32
  let v711 : BitVec 32 := Scalar.remsi v710 c16_i32_1002
  let v712 : Index := Scalar.indexCast v711
  ![v712.toNat]
def k0_off15 (v708 : BitVec 32) : Fin 2 → Nat :=
  let c256_i32_1003 : BitVec 32 := 256#32
  let v714 : BitVec 32 := Scalar.muli v708 c256_i32_1003
  let v715 : Index := Scalar.indexCast v714
  let c0_1004 : Index := 0#32
  ![v715.toNat, 0]

def k0_chk10 (v708 : BitVec 32) : Prop :=
  (∀ a, (k0_off15 v708) a + S256x256.size a ≤ S4096x256.size a)
theorem k0_off15_inb : ∀ (v708 : BitVec 32) (k0_hw10 : k0_chk10 v708), ∀ a, (k0_off15 v708) a + S256x256.size a ≤ S4096x256.size a := fun v708 k0_hw10 => k0_hw10

def k0_off16 (v713 : BitVec 32) : Fin 2 → Nat :=
  let c256_i32_1008 : BitVec 32 := 256#32
  let v721 : BitVec 32 := Scalar.muli v713 c256_i32_1008
  let v722 : Index := Scalar.indexCast v721
  let c0_1009 : Index := 0#32
  ![v722.toNat, 0]

def k0_chk11 (v713 : BitVec 32) : Prop :=
  (∀ a, (k0_off16 v713) a + S256x256.size a ≤ S4096x256.size a)
theorem k0_off16_inb : ∀ (v713 : BitVec 32) (k0_hw11 : k0_chk11 v713), ∀ a, (k0_off16 v713) a + S256x256.size a ≤ S4096x256.size a := fun v713 k0_hw11 => k0_hw11

def k0_dev31 (v1 : BitVec 32) : Nat :=
  let c0_i32_1110 : BitVec 32 := 0#32
  let c1_i32_1109 : BitVec 32 := 1#32
  let v778 : BitVec 32 := Scalar.muli v1 c1_i32_1109
  let v779 : BitVec 32 := Scalar.addi c0_i32_1110 v778
  v779.toNat
def k0_dev32 (v2 : BitVec 32) : Nat :=
  let c0_i32_1126 : BitVec 32 := 0#32
  let c1_i32_1125 : BitVec 32 := 1#32
  let v788 : BitVec 32 := Scalar.muli v2 c1_i32_1125
  let v789 : BitVec 32 := Scalar.addi c0_i32_1126 v788
  v789.toNat
def k0_dev33 (v1 : BitVec 32) : Nat :=
  let c0_i32_1220 : BitVec 32 := 0#32
  let c1_i32_1219 : BitVec 32 := 1#32
  let v844 : BitVec 32 := Scalar.muli v1 c1_i32_1219
  let v845 : BitVec 32 := Scalar.addi c0_i32_1220 v844
  v845.toNat
def k0_dev34 (v2 : BitVec 32) : Nat :=
  let c0_i32_1236 : BitVec 32 := 0#32
  let c1_i32_1235 : BitVec 32 := 1#32
  let v854 : BitVec 32 := Scalar.muli v2 c1_i32_1235
  let v855 : BitVec 32 := Scalar.addi c0_i32_1236 v854
  v855.toNat
def k0_dev35 (v1 : BitVec 32) : Nat :=
  let c0_i32_1330 : BitVec 32 := 0#32
  let c1_i32_1329 : BitVec 32 := 1#32
  let v910 : BitVec 32 := Scalar.muli v1 c1_i32_1329
  let v911 : BitVec 32 := Scalar.addi c0_i32_1330 v910
  v911.toNat
def k0_dev36 (v2 : BitVec 32) : Nat :=
  let c0_i32_1346 : BitVec 32 := 0#32
  let c1_i32_1345 : BitVec 32 := 1#32
  let v920 : BitVec 32 := Scalar.muli v2 c1_i32_1345
  let v921 : BitVec 32 := Scalar.addi c0_i32_1346 v920
  v921.toNat
def k0_dev37 (v1 : BitVec 32) : Nat :=
  let c0_i32_1440 : BitVec 32 := 0#32
  let c1_i32_1439 : BitVec 32 := 1#32
  let v976 : BitVec 32 := Scalar.muli v1 c1_i32_1439
  let v977 : BitVec 32 := Scalar.addi c0_i32_1440 v976
  v977.toNat
def k0_dev38 (v2 : BitVec 32) : Nat :=
  let c0_i32_1456 : BitVec 32 := 0#32
  let c1_i32_1455 : BitVec 32 := 1#32
  let v986 : BitVec 32 := Scalar.muli v2 c1_i32_1455
  let v987 : BitVec 32 := Scalar.addi c0_i32_1456 v986
  v987.toNat
def k0_dev39 (v2 : BitVec 32) : Nat :=
  let c0_i32_1465 : BitVec 32 := 0#32
  let c1_i32_1464 : BitVec 32 := 1#32
  let v998 : BitVec 32 := Scalar.muli v2 c1_i32_1464
  let v999 : BitVec 32 := Scalar.addi c0_i32_1465 v998
  v999.toNat
def k0_dev40 (v1 : BitVec 32) : Nat :=
  let c0_i32_1470 : BitVec 32 := 0#32
  let c1_i32_1469 : BitVec 32 := 1#32
  let v1002 : BitVec 32 := Scalar.muli v1 c1_i32_1469
  let v1003 : BitVec 32 := Scalar.addi c0_i32_1470 v1002
  v1003.toNat
def k0_off17 (v0 : BitVec 32) : Fin 1 → Nat :=
  let c32_i32_1471 : BitVec 32 := 32#32
  let v1004 : BitVec 32 := Scalar.addi v0 c32_i32_1471
  let c4_i32 : BitVec 32 := 4#32
  let v1005 : BitVec 32 := Scalar.subi v1004 c4_i32
  let c1_i32_1472 : BitVec 32 := 1#32
  let v1006 : BitVec 32 := Scalar.subi v1005 c1_i32_1472
  let c16_i32_1473 : BitVec 32 := 16#32
  let v1007 : BitVec 32 := Scalar.remsi v1006 c16_i32_1473
  let v1008 : Index := Scalar.indexCast v1007
  ![v1008.toNat]
def k0_off18 (v0 : BitVec 32) : Fin 1 → Nat :=
  let c4_i32_1474 : BitVec 32 := 4#32
  let v1010 : BitVec 32 := Scalar.addi v0 c4_i32_1474
  let c1_i32_1475 : BitVec 32 := 1#32
  let v1011 : BitVec 32 := Scalar.addi v1010 c1_i32_1475
  let c16_i32_1476 : BitVec 32 := 16#32
  let v1012 : BitVec 32 := Scalar.remsi v1011 c16_i32_1476
  let v1013 : Index := Scalar.indexCast v1012
  ![v1013.toNat]
def k0_off19 (v1009 : BitVec 32) : Fin 2 → Nat :=
  let c256_i32_1477 : BitVec 32 := 256#32
  let v1015 : BitVec 32 := Scalar.muli v1009 c256_i32_1477
  let v1016 : Index := Scalar.indexCast v1015
  let c0_1478 : Index := 0#32
  ![v1016.toNat, 0]

def k0_chk12 (v1009 : BitVec 32) : Prop :=
  (∀ a, (k0_off19 v1009) a + S256x256.size a ≤ S4096x256.size a)
theorem k0_off19_inb : ∀ (v1009 : BitVec 32) (k0_hw12 : k0_chk12 v1009), ∀ a, (k0_off19 v1009) a + S256x256.size a ≤ S4096x256.size a := fun v1009 k0_hw12 => k0_hw12

def k0_off20 (v1014 : BitVec 32) : Fin 2 → Nat :=
  let c256_i32_1482 : BitVec 32 := 256#32
  let v1022 : BitVec 32 := Scalar.muli v1014 c256_i32_1482
  let v1023 : Index := Scalar.indexCast v1022
  let c0_1483 : Index := 0#32
  ![v1023.toNat, 0]

def k0_chk13 (v1014 : BitVec 32) : Prop :=
  (∀ a, (k0_off20 v1014) a + S256x256.size a ≤ S4096x256.size a)
theorem k0_off20_inb : ∀ (v1014 : BitVec 32) (k0_hw13 : k0_chk13 v1014), ∀ a, (k0_off20 v1014) a + S256x256.size a ≤ S4096x256.size a := fun v1014 k0_hw13 => k0_hw13

def k0_dev41 (v1 : BitVec 32) : Nat :=
  let c0_i32_1584 : BitVec 32 := 0#32
  let c1_i32_1583 : BitVec 32 := 1#32
  let v1079 : BitVec 32 := Scalar.muli v1 c1_i32_1583
  let v1080 : BitVec 32 := Scalar.addi c0_i32_1584 v1079
  v1080.toNat
def k0_dev42 (v2 : BitVec 32) : Nat :=
  let c0_i32_1600 : BitVec 32 := 0#32
  let c1_i32_1599 : BitVec 32 := 1#32
  let v1089 : BitVec 32 := Scalar.muli v2 c1_i32_1599
  let v1090 : BitVec 32 := Scalar.addi c0_i32_1600 v1089
  v1090.toNat
def k0_dev43 (v1 : BitVec 32) : Nat :=
  let c0_i32_1694 : BitVec 32 := 0#32
  let c1_i32_1693 : BitVec 32 := 1#32
  let v1145 : BitVec 32 := Scalar.muli v1 c1_i32_1693
  let v1146 : BitVec 32 := Scalar.addi c0_i32_1694 v1145
  v1146.toNat
def k0_dev44 (v2 : BitVec 32) : Nat :=
  let c0_i32_1710 : BitVec 32 := 0#32
  let c1_i32_1709 : BitVec 32 := 1#32
  let v1155 : BitVec 32 := Scalar.muli v2 c1_i32_1709
  let v1156 : BitVec 32 := Scalar.addi c0_i32_1710 v1155
  v1156.toNat
def k0_dev45 (v1 : BitVec 32) : Nat :=
  let c0_i32_1804 : BitVec 32 := 0#32
  let c1_i32_1803 : BitVec 32 := 1#32
  let v1211 : BitVec 32 := Scalar.muli v1 c1_i32_1803
  let v1212 : BitVec 32 := Scalar.addi c0_i32_1804 v1211
  v1212.toNat
def k0_dev46 (v2 : BitVec 32) : Nat :=
  let c0_i32_1820 : BitVec 32 := 0#32
  let c1_i32_1819 : BitVec 32 := 1#32
  let v1221 : BitVec 32 := Scalar.muli v2 c1_i32_1819
  let v1222 : BitVec 32 := Scalar.addi c0_i32_1820 v1221
  v1222.toNat
def k0_dev47 (v1 : BitVec 32) : Nat :=
  let c0_i32_1914 : BitVec 32 := 0#32
  let c1_i32_1913 : BitVec 32 := 1#32
  let v1277 : BitVec 32 := Scalar.muli v1 c1_i32_1913
  let v1278 : BitVec 32 := Scalar.addi c0_i32_1914 v1277
  v1278.toNat
def k0_dev48 (v2 : BitVec 32) : Nat :=
  let c0_i32_1930 : BitVec 32 := 0#32
  let c1_i32_1929 : BitVec 32 := 1#32
  let v1287 : BitVec 32 := Scalar.muli v2 c1_i32_1929
  let v1288 : BitVec 32 := Scalar.addi c0_i32_1930 v1287
  v1288.toNat
def k0_dev49 (v2 : BitVec 32) : Nat :=
  let c0_i32_1939 : BitVec 32 := 0#32
  let c1_i32_1938 : BitVec 32 := 1#32
  let v1299 : BitVec 32 := Scalar.muli v2 c1_i32_1938
  let v1300 : BitVec 32 := Scalar.addi c0_i32_1939 v1299
  v1300.toNat
def k0_dev50 (v1 : BitVec 32) : Nat :=
  let c0_i32_1944 : BitVec 32 := 0#32
  let c1_i32_1943 : BitVec 32 := 1#32
  let v1303 : BitVec 32 := Scalar.muli v1 c1_i32_1943
  let v1304 : BitVec 32 := Scalar.addi c0_i32_1944 v1303
  v1304.toNat
def k0_off21 (v0 : BitVec 32) : Fin 1 → Nat :=
  let c32_i32_1945 : BitVec 32 := 32#32
  let v1305 : BitVec 32 := Scalar.addi v0 c32_i32_1945
  let c5_i32 : BitVec 32 := 5#32
  let v1306 : BitVec 32 := Scalar.subi v1305 c5_i32
  let c1_i32_1946 : BitVec 32 := 1#32
  let v1307 : BitVec 32 := Scalar.subi v1306 c1_i32_1946
  let c16_i32_1947 : BitVec 32 := 16#32
  let v1308 : BitVec 32 := Scalar.remsi v1307 c16_i32_1947
  let v1309 : Index := Scalar.indexCast v1308
  ![v1309.toNat]
def k0_off22 (v0 : BitVec 32) : Fin 1 → Nat :=
  let c5_i32_1948 : BitVec 32 := 5#32
  let v1311 : BitVec 32 := Scalar.addi v0 c5_i32_1948
  let c1_i32_1949 : BitVec 32 := 1#32
  let v1312 : BitVec 32 := Scalar.addi v1311 c1_i32_1949
  let c16_i32_1950 : BitVec 32 := 16#32
  let v1313 : BitVec 32 := Scalar.remsi v1312 c16_i32_1950
  let v1314 : Index := Scalar.indexCast v1313
  ![v1314.toNat]
def k0_off23 (v1310 : BitVec 32) : Fin 2 → Nat :=
  let c256_i32_1951 : BitVec 32 := 256#32
  let v1316 : BitVec 32 := Scalar.muli v1310 c256_i32_1951
  let v1317 : Index := Scalar.indexCast v1316
  let c0_1952 : Index := 0#32
  ![v1317.toNat, 0]

def k0_chk14 (v1310 : BitVec 32) : Prop :=
  (∀ a, (k0_off23 v1310) a + S256x256.size a ≤ S4096x256.size a)
theorem k0_off23_inb : ∀ (v1310 : BitVec 32) (k0_hw14 : k0_chk14 v1310), ∀ a, (k0_off23 v1310) a + S256x256.size a ≤ S4096x256.size a := fun v1310 k0_hw14 => k0_hw14

def k0_off24 (v1315 : BitVec 32) : Fin 2 → Nat :=
  let c256_i32_1956 : BitVec 32 := 256#32
  let v1323 : BitVec 32 := Scalar.muli v1315 c256_i32_1956
  let v1324 : Index := Scalar.indexCast v1323
  let c0_1957 : Index := 0#32
  ![v1324.toNat, 0]

def k0_chk15 (v1315 : BitVec 32) : Prop :=
  (∀ a, (k0_off24 v1315) a + S256x256.size a ≤ S4096x256.size a)
theorem k0_off24_inb : ∀ (v1315 : BitVec 32) (k0_hw15 : k0_chk15 v1315), ∀ a, (k0_off24 v1315) a + S256x256.size a ≤ S4096x256.size a := fun v1315 k0_hw15 => k0_hw15

def k0_dev51 (v1 : BitVec 32) : Nat :=
  let c0_i32_2058 : BitVec 32 := 0#32
  let c1_i32_2057 : BitVec 32 := 1#32
  let v1380 : BitVec 32 := Scalar.muli v1 c1_i32_2057
  let v1381 : BitVec 32 := Scalar.addi c0_i32_2058 v1380
  v1381.toNat
def k0_dev52 (v2 : BitVec 32) : Nat :=
  let c0_i32_2074 : BitVec 32 := 0#32
  let c1_i32_2073 : BitVec 32 := 1#32
  let v1390 : BitVec 32 := Scalar.muli v2 c1_i32_2073
  let v1391 : BitVec 32 := Scalar.addi c0_i32_2074 v1390
  v1391.toNat
def k0_dev53 (v1 : BitVec 32) : Nat :=
  let c0_i32_2168 : BitVec 32 := 0#32
  let c1_i32_2167 : BitVec 32 := 1#32
  let v1446 : BitVec 32 := Scalar.muli v1 c1_i32_2167
  let v1447 : BitVec 32 := Scalar.addi c0_i32_2168 v1446
  v1447.toNat
def k0_dev54 (v2 : BitVec 32) : Nat :=
  let c0_i32_2184 : BitVec 32 := 0#32
  let c1_i32_2183 : BitVec 32 := 1#32
  let v1456 : BitVec 32 := Scalar.muli v2 c1_i32_2183
  let v1457 : BitVec 32 := Scalar.addi c0_i32_2184 v1456
  v1457.toNat
def k0_dev55 (v1 : BitVec 32) : Nat :=
  let c0_i32_2278 : BitVec 32 := 0#32
  let c1_i32_2277 : BitVec 32 := 1#32
  let v1512 : BitVec 32 := Scalar.muli v1 c1_i32_2277
  let v1513 : BitVec 32 := Scalar.addi c0_i32_2278 v1512
  v1513.toNat
def k0_dev56 (v2 : BitVec 32) : Nat :=
  let c0_i32_2294 : BitVec 32 := 0#32
  let c1_i32_2293 : BitVec 32 := 1#32
  let v1522 : BitVec 32 := Scalar.muli v2 c1_i32_2293
  let v1523 : BitVec 32 := Scalar.addi c0_i32_2294 v1522
  v1523.toNat
def k0_dev57 (v1 : BitVec 32) : Nat :=
  let c0_i32_2388 : BitVec 32 := 0#32
  let c1_i32_2387 : BitVec 32 := 1#32
  let v1578 : BitVec 32 := Scalar.muli v1 c1_i32_2387
  let v1579 : BitVec 32 := Scalar.addi c0_i32_2388 v1578
  v1579.toNat
def k0_dev58 (v2 : BitVec 32) : Nat :=
  let c0_i32_2404 : BitVec 32 := 0#32
  let c1_i32_2403 : BitVec 32 := 1#32
  let v1588 : BitVec 32 := Scalar.muli v2 c1_i32_2403
  let v1589 : BitVec 32 := Scalar.addi c0_i32_2404 v1588
  v1589.toNat
def k0_dev59 (v2 : BitVec 32) : Nat :=
  let c0_i32_2413 : BitVec 32 := 0#32
  let c1_i32_2412 : BitVec 32 := 1#32
  let v1600 : BitVec 32 := Scalar.muli v2 c1_i32_2412
  let v1601 : BitVec 32 := Scalar.addi c0_i32_2413 v1600
  v1601.toNat
def k0_dev60 (v1 : BitVec 32) : Nat :=
  let c0_i32_2418 : BitVec 32 := 0#32
  let c1_i32_2417 : BitVec 32 := 1#32
  let v1604 : BitVec 32 := Scalar.muli v1 c1_i32_2417
  let v1605 : BitVec 32 := Scalar.addi c0_i32_2418 v1604
  v1605.toNat
def k0_off25 (v0 : BitVec 32) : Fin 1 → Nat :=
  let c32_i32_2419 : BitVec 32 := 32#32
  let v1606 : BitVec 32 := Scalar.addi v0 c32_i32_2419
  let c6_i32 : BitVec 32 := 6#32
  let v1607 : BitVec 32 := Scalar.subi v1606 c6_i32
  let c1_i32_2420 : BitVec 32 := 1#32
  let v1608 : BitVec 32 := Scalar.subi v1607 c1_i32_2420
  let c16_i32_2421 : BitVec 32 := 16#32
  let v1609 : BitVec 32 := Scalar.remsi v1608 c16_i32_2421
  let v1610 : Index := Scalar.indexCast v1609
  ![v1610.toNat]
def k0_off26 (v0 : BitVec 32) : Fin 1 → Nat :=
  let c6_i32_2422 : BitVec 32 := 6#32
  let v1612 : BitVec 32 := Scalar.addi v0 c6_i32_2422
  let c1_i32_2423 : BitVec 32 := 1#32
  let v1613 : BitVec 32 := Scalar.addi v1612 c1_i32_2423
  let c16_i32_2424 : BitVec 32 := 16#32
  let v1614 : BitVec 32 := Scalar.remsi v1613 c16_i32_2424
  let v1615 : Index := Scalar.indexCast v1614
  ![v1615.toNat]
def k0_off27 (v1611 : BitVec 32) : Fin 2 → Nat :=
  let c256_i32_2425 : BitVec 32 := 256#32
  let v1617 : BitVec 32 := Scalar.muli v1611 c256_i32_2425
  let v1618 : Index := Scalar.indexCast v1617
  let c0_2426 : Index := 0#32
  ![v1618.toNat, 0]

def k0_chk16 (v1611 : BitVec 32) : Prop :=
  (∀ a, (k0_off27 v1611) a + S256x256.size a ≤ S4096x256.size a)
theorem k0_off27_inb : ∀ (v1611 : BitVec 32) (k0_hw16 : k0_chk16 v1611), ∀ a, (k0_off27 v1611) a + S256x256.size a ≤ S4096x256.size a := fun v1611 k0_hw16 => k0_hw16

def k0_off28 (v1616 : BitVec 32) : Fin 2 → Nat :=
  let c256_i32_2430 : BitVec 32 := 256#32
  let v1624 : BitVec 32 := Scalar.muli v1616 c256_i32_2430
  let v1625 : Index := Scalar.indexCast v1624
  let c0_2431 : Index := 0#32
  ![v1625.toNat, 0]

def k0_chk17 (v1616 : BitVec 32) : Prop :=
  (∀ a, (k0_off28 v1616) a + S256x256.size a ≤ S4096x256.size a)
theorem k0_off28_inb : ∀ (v1616 : BitVec 32) (k0_hw17 : k0_chk17 v1616), ∀ a, (k0_off28 v1616) a + S256x256.size a ≤ S4096x256.size a := fun v1616 k0_hw17 => k0_hw17

def k0_dev61 (v1 : BitVec 32) : Nat :=
  let c0_i32_2532 : BitVec 32 := 0#32
  let c1_i32_2531 : BitVec 32 := 1#32
  let v1681 : BitVec 32 := Scalar.muli v1 c1_i32_2531
  let v1682 : BitVec 32 := Scalar.addi c0_i32_2532 v1681
  v1682.toNat
def k0_dev62 (v2 : BitVec 32) : Nat :=
  let c0_i32_2548 : BitVec 32 := 0#32
  let c1_i32_2547 : BitVec 32 := 1#32
  let v1691 : BitVec 32 := Scalar.muli v2 c1_i32_2547
  let v1692 : BitVec 32 := Scalar.addi c0_i32_2548 v1691
  v1692.toNat
def k0_dev63 (v1 : BitVec 32) : Nat :=
  let c0_i32_2642 : BitVec 32 := 0#32
  let c1_i32_2641 : BitVec 32 := 1#32
  let v1747 : BitVec 32 := Scalar.muli v1 c1_i32_2641
  let v1748 : BitVec 32 := Scalar.addi c0_i32_2642 v1747
  v1748.toNat
def k0_dev64 (v2 : BitVec 32) : Nat :=
  let c0_i32_2658 : BitVec 32 := 0#32
  let c1_i32_2657 : BitVec 32 := 1#32
  let v1757 : BitVec 32 := Scalar.muli v2 c1_i32_2657
  let v1758 : BitVec 32 := Scalar.addi c0_i32_2658 v1757
  v1758.toNat
def k0_dev65 (v1 : BitVec 32) : Nat :=
  let c0_i32_2752 : BitVec 32 := 0#32
  let c1_i32_2751 : BitVec 32 := 1#32
  let v1813 : BitVec 32 := Scalar.muli v1 c1_i32_2751
  let v1814 : BitVec 32 := Scalar.addi c0_i32_2752 v1813
  v1814.toNat
def k0_dev66 (v2 : BitVec 32) : Nat :=
  let c0_i32_2768 : BitVec 32 := 0#32
  let c1_i32_2767 : BitVec 32 := 1#32
  let v1823 : BitVec 32 := Scalar.muli v2 c1_i32_2767
  let v1824 : BitVec 32 := Scalar.addi c0_i32_2768 v1823
  v1824.toNat
def k0_dev67 (v1 : BitVec 32) : Nat :=
  let c0_i32_2862 : BitVec 32 := 0#32
  let c1_i32_2861 : BitVec 32 := 1#32
  let v1879 : BitVec 32 := Scalar.muli v1 c1_i32_2861
  let v1880 : BitVec 32 := Scalar.addi c0_i32_2862 v1879
  v1880.toNat
def k0_dev68 (v2 : BitVec 32) : Nat :=
  let c0_i32_2878 : BitVec 32 := 0#32
  let c1_i32_2877 : BitVec 32 := 1#32
  let v1889 : BitVec 32 := Scalar.muli v2 c1_i32_2877
  let v1890 : BitVec 32 := Scalar.addi c0_i32_2878 v1889
  v1890.toNat
def k0_dev69 (v2 : BitVec 32) : Nat :=
  let c0_i32_2887 : BitVec 32 := 0#32
  let c1_i32_2886 : BitVec 32 := 1#32
  let v1901 : BitVec 32 := Scalar.muli v2 c1_i32_2886
  let v1902 : BitVec 32 := Scalar.addi c0_i32_2887 v1901
  v1902.toNat
def k0_dev70 (v1 : BitVec 32) : Nat :=
  let c0_i32_2892 : BitVec 32 := 0#32
  let c1_i32_2891 : BitVec 32 := 1#32
  let v1905 : BitVec 32 := Scalar.muli v1 c1_i32_2891
  let v1906 : BitVec 32 := Scalar.addi c0_i32_2892 v1905
  v1906.toNat
def k0_off29 (v0 : BitVec 32) : Fin 1 → Nat :=
  let c32_i32_2893 : BitVec 32 := 32#32
  let v1907 : BitVec 32 := Scalar.addi v0 c32_i32_2893
  let c7_i32 : BitVec 32 := 7#32
  let v1908 : BitVec 32 := Scalar.subi v1907 c7_i32
  let c1_i32_2894 : BitVec 32 := 1#32
  let v1909 : BitVec 32 := Scalar.subi v1908 c1_i32_2894
  let c16_i32_2895 : BitVec 32 := 16#32
  let v1910 : BitVec 32 := Scalar.remsi v1909 c16_i32_2895
  let v1911 : Index := Scalar.indexCast v1910
  ![v1911.toNat]
def k0_off30 (v0 : BitVec 32) : Fin 1 → Nat :=
  let c7_i32_2896 : BitVec 32 := 7#32
  let v1913 : BitVec 32 := Scalar.addi v0 c7_i32_2896
  let c1_i32_2897 : BitVec 32 := 1#32
  let v1914 : BitVec 32 := Scalar.addi v1913 c1_i32_2897
  let c16_i32_2898 : BitVec 32 := 16#32
  let v1915 : BitVec 32 := Scalar.remsi v1914 c16_i32_2898
  let v1916 : Index := Scalar.indexCast v1915
  ![v1916.toNat]
def k0_off31 (v1912 : BitVec 32) : Fin 2 → Nat :=
  let c256_i32_2899 : BitVec 32 := 256#32
  let v1918 : BitVec 32 := Scalar.muli v1912 c256_i32_2899
  let v1919 : Index := Scalar.indexCast v1918
  let c0_2900 : Index := 0#32
  ![v1919.toNat, 0]

def k0_chk18 (v1912 : BitVec 32) : Prop :=
  (∀ a, (k0_off31 v1912) a + S256x256.size a ≤ S4096x256.size a)
theorem k0_off31_inb : ∀ (v1912 : BitVec 32) (k0_hw18 : k0_chk18 v1912), ∀ a, (k0_off31 v1912) a + S256x256.size a ≤ S4096x256.size a := fun v1912 k0_hw18 => k0_hw18

def k0_off32 (v1917 : BitVec 32) : Fin 2 → Nat :=
  let c256_i32_2904 : BitVec 32 := 256#32
  let v1925 : BitVec 32 := Scalar.muli v1917 c256_i32_2904
  let v1926 : Index := Scalar.indexCast v1925
  let c0_2905 : Index := 0#32
  ![v1926.toNat, 0]

def k0_chk19 (v1917 : BitVec 32) : Prop :=
  (∀ a, (k0_off32 v1917) a + S256x256.size a ≤ S4096x256.size a)
theorem k0_off32_inb : ∀ (v1917 : BitVec 32) (k0_hw19 : k0_chk19 v1917), ∀ a, (k0_off32 v1917) a + S256x256.size a ≤ S4096x256.size a := fun v1917 k0_hw19 => k0_hw19

def k0_dev71 (v1 : BitVec 32) : Nat :=
  let c0_i32_3006 : BitVec 32 := 0#32
  let c1_i32_3005 : BitVec 32 := 1#32
  let v1982 : BitVec 32 := Scalar.muli v1 c1_i32_3005
  let v1983 : BitVec 32 := Scalar.addi c0_i32_3006 v1982
  v1983.toNat
def k0_dev72 (v2 : BitVec 32) : Nat :=
  let c0_i32_3022 : BitVec 32 := 0#32
  let c1_i32_3021 : BitVec 32 := 1#32
  let v1992 : BitVec 32 := Scalar.muli v2 c1_i32_3021
  let v1993 : BitVec 32 := Scalar.addi c0_i32_3022 v1992
  v1993.toNat
def k0_dev73 (v1 : BitVec 32) : Nat :=
  let c0_i32_3116 : BitVec 32 := 0#32
  let c1_i32_3115 : BitVec 32 := 1#32
  let v2048 : BitVec 32 := Scalar.muli v1 c1_i32_3115
  let v2049 : BitVec 32 := Scalar.addi c0_i32_3116 v2048
  v2049.toNat
def k0_dev74 (v2 : BitVec 32) : Nat :=
  let c0_i32_3132 : BitVec 32 := 0#32
  let c1_i32_3131 : BitVec 32 := 1#32
  let v2058 : BitVec 32 := Scalar.muli v2 c1_i32_3131
  let v2059 : BitVec 32 := Scalar.addi c0_i32_3132 v2058
  v2059.toNat
def k0_dev75 (v1 : BitVec 32) : Nat :=
  let c0_i32_3226 : BitVec 32 := 0#32
  let c1_i32_3225 : BitVec 32 := 1#32
  let v2114 : BitVec 32 := Scalar.muli v1 c1_i32_3225
  let v2115 : BitVec 32 := Scalar.addi c0_i32_3226 v2114
  v2115.toNat
def k0_dev76 (v2 : BitVec 32) : Nat :=
  let c0_i32_3242 : BitVec 32 := 0#32
  let c1_i32_3241 : BitVec 32 := 1#32
  let v2124 : BitVec 32 := Scalar.muli v2 c1_i32_3241
  let v2125 : BitVec 32 := Scalar.addi c0_i32_3242 v2124
  v2125.toNat
def k0_dev77 (v1 : BitVec 32) : Nat :=
  let c0_i32_3336 : BitVec 32 := 0#32
  let c1_i32_3335 : BitVec 32 := 1#32
  let v2180 : BitVec 32 := Scalar.muli v1 c1_i32_3335
  let v2181 : BitVec 32 := Scalar.addi c0_i32_3336 v2180
  v2181.toNat
def k0_dev78 (v2 : BitVec 32) : Nat :=
  let c0_i32_3352 : BitVec 32 := 0#32
  let c1_i32_3351 : BitVec 32 := 1#32
  let v2190 : BitVec 32 := Scalar.muli v2 c1_i32_3351
  let v2191 : BitVec 32 := Scalar.addi c0_i32_3352 v2190
  v2191.toNat
def k0_dev79 (v2 : BitVec 32) : Nat :=
  let c0_i32_3361 : BitVec 32 := 0#32
  let c1_i32_3360 : BitVec 32 := 1#32
  let v2202 : BitVec 32 := Scalar.muli v2 c1_i32_3360
  let v2203 : BitVec 32 := Scalar.addi c0_i32_3361 v2202
  v2203.toNat
def k0_dev80 (v1 : BitVec 32) : Nat :=
  let c0_i32_3366 : BitVec 32 := 0#32
  let c1_i32_3365 : BitVec 32 := 1#32
  let v2206 : BitVec 32 := Scalar.muli v1 c1_i32_3365
  let v2207 : BitVec 32 := Scalar.addi c0_i32_3366 v2206
  v2207.toNat
def k0_off33 (v0 : BitVec 32) : Fin 1 → Nat :=
  let c32_i32_3367 : BitVec 32 := 32#32
  let v2208 : BitVec 32 := Scalar.addi v0 c32_i32_3367
  let c8_i32 : BitVec 32 := 8#32
  let v2209 : BitVec 32 := Scalar.subi v2208 c8_i32
  let c1_i32_3368 : BitVec 32 := 1#32
  let v2210 : BitVec 32 := Scalar.subi v2209 c1_i32_3368
  let c16_i32_3369 : BitVec 32 := 16#32
  let v2211 : BitVec 32 := Scalar.remsi v2210 c16_i32_3369
  let v2212 : Index := Scalar.indexCast v2211
  ![v2212.toNat]
def k0_off34 (v0 : BitVec 32) : Fin 1 → Nat :=
  let c8_i32_3370 : BitVec 32 := 8#32
  let v2214 : BitVec 32 := Scalar.addi v0 c8_i32_3370
  let c1_i32_3371 : BitVec 32 := 1#32
  let v2215 : BitVec 32 := Scalar.addi v2214 c1_i32_3371
  let c16_i32_3372 : BitVec 32 := 16#32
  let v2216 : BitVec 32 := Scalar.remsi v2215 c16_i32_3372
  let v2217 : Index := Scalar.indexCast v2216
  ![v2217.toNat]
def k0_off35 (v2213 : BitVec 32) : Fin 2 → Nat :=
  let c256_i32_3373 : BitVec 32 := 256#32
  let v2219 : BitVec 32 := Scalar.muli v2213 c256_i32_3373
  let v2220 : Index := Scalar.indexCast v2219
  let c0_3374 : Index := 0#32
  ![v2220.toNat, 0]

def k0_chk20 (v2213 : BitVec 32) : Prop :=
  (∀ a, (k0_off35 v2213) a + S256x256.size a ≤ S4096x256.size a)
theorem k0_off35_inb : ∀ (v2213 : BitVec 32) (k0_hw20 : k0_chk20 v2213), ∀ a, (k0_off35 v2213) a + S256x256.size a ≤ S4096x256.size a := fun v2213 k0_hw20 => k0_hw20

def k0_off36 (v2218 : BitVec 32) : Fin 2 → Nat :=
  let c256_i32_3378 : BitVec 32 := 256#32
  let v2226 : BitVec 32 := Scalar.muli v2218 c256_i32_3378
  let v2227 : Index := Scalar.indexCast v2226
  let c0_3379 : Index := 0#32
  ![v2227.toNat, 0]

def k0_chk21 (v2218 : BitVec 32) : Prop :=
  (∀ a, (k0_off36 v2218) a + S256x256.size a ≤ S4096x256.size a)
theorem k0_off36_inb : ∀ (v2218 : BitVec 32) (k0_hw21 : k0_chk21 v2218), ∀ a, (k0_off36 v2218) a + S256x256.size a ≤ S4096x256.size a := fun v2218 k0_hw21 => k0_hw21

def k0_dev81 (v1 : BitVec 32) : Nat :=
  let c0_i32_3480 : BitVec 32 := 0#32
  let c1_i32_3479 : BitVec 32 := 1#32
  let v2283 : BitVec 32 := Scalar.muli v1 c1_i32_3479
  let v2284 : BitVec 32 := Scalar.addi c0_i32_3480 v2283
  v2284.toNat
def k0_dev82 (v2 : BitVec 32) : Nat :=
  let c0_i32_3496 : BitVec 32 := 0#32
  let c1_i32_3495 : BitVec 32 := 1#32
  let v2293 : BitVec 32 := Scalar.muli v2 c1_i32_3495
  let v2294 : BitVec 32 := Scalar.addi c0_i32_3496 v2293
  v2294.toNat
def k0_dev83 (v1 : BitVec 32) : Nat :=
  let c0_i32_3590 : BitVec 32 := 0#32
  let c1_i32_3589 : BitVec 32 := 1#32
  let v2349 : BitVec 32 := Scalar.muli v1 c1_i32_3589
  let v2350 : BitVec 32 := Scalar.addi c0_i32_3590 v2349
  v2350.toNat
def k0_dev84 (v2 : BitVec 32) : Nat :=
  let c0_i32_3606 : BitVec 32 := 0#32
  let c1_i32_3605 : BitVec 32 := 1#32
  let v2359 : BitVec 32 := Scalar.muli v2 c1_i32_3605
  let v2360 : BitVec 32 := Scalar.addi c0_i32_3606 v2359
  v2360.toNat
def k0_dev85 (v1 : BitVec 32) : Nat :=
  let c0_i32_3700 : BitVec 32 := 0#32
  let c1_i32_3699 : BitVec 32 := 1#32
  let v2415 : BitVec 32 := Scalar.muli v1 c1_i32_3699
  let v2416 : BitVec 32 := Scalar.addi c0_i32_3700 v2415
  v2416.toNat
def k0_dev86 (v2 : BitVec 32) : Nat :=
  let c0_i32_3716 : BitVec 32 := 0#32
  let c1_i32_3715 : BitVec 32 := 1#32
  let v2425 : BitVec 32 := Scalar.muli v2 c1_i32_3715
  let v2426 : BitVec 32 := Scalar.addi c0_i32_3716 v2425
  v2426.toNat
def k0_dev87 (v1 : BitVec 32) : Nat :=
  let c0_i32_3810 : BitVec 32 := 0#32
  let c1_i32_3809 : BitVec 32 := 1#32
  let v2481 : BitVec 32 := Scalar.muli v1 c1_i32_3809
  let v2482 : BitVec 32 := Scalar.addi c0_i32_3810 v2481
  v2482.toNat
def k0_dev88 (v2 : BitVec 32) : Nat :=
  let c0_i32_3826 : BitVec 32 := 0#32
  let c1_i32_3825 : BitVec 32 := 1#32
  let v2491 : BitVec 32 := Scalar.muli v2 c1_i32_3825
  let v2492 : BitVec 32 := Scalar.addi c0_i32_3826 v2491
  v2492.toNat
def k0_dev89 (v2 : BitVec 32) : Nat :=
  let c0_i32_3835 : BitVec 32 := 0#32
  let c1_i32_3834 : BitVec 32 := 1#32
  let v2503 : BitVec 32 := Scalar.muli v2 c1_i32_3834
  let v2504 : BitVec 32 := Scalar.addi c0_i32_3835 v2503
  v2504.toNat
def k0_dev90 (v1 : BitVec 32) : Nat :=
  let c0_i32_3840 : BitVec 32 := 0#32
  let c1_i32_3839 : BitVec 32 := 1#32
  let v2507 : BitVec 32 := Scalar.muli v1 c1_i32_3839
  let v2508 : BitVec 32 := Scalar.addi c0_i32_3840 v2507
  v2508.toNat
def k0_off37 (v0 : BitVec 32) : Fin 1 → Nat :=
  let c32_i32_3841 : BitVec 32 := 32#32
  let v2509 : BitVec 32 := Scalar.addi v0 c32_i32_3841
  let c9_i32 : BitVec 32 := 9#32
  let v2510 : BitVec 32 := Scalar.subi v2509 c9_i32
  let c1_i32_3842 : BitVec 32 := 1#32
  let v2511 : BitVec 32 := Scalar.subi v2510 c1_i32_3842
  let c16_i32_3843 : BitVec 32 := 16#32
  let v2512 : BitVec 32 := Scalar.remsi v2511 c16_i32_3843
  let v2513 : Index := Scalar.indexCast v2512
  ![v2513.toNat]
def k0_off38 (v0 : BitVec 32) : Fin 1 → Nat :=
  let c9_i32_3844 : BitVec 32 := 9#32
  let v2515 : BitVec 32 := Scalar.addi v0 c9_i32_3844
  let c1_i32_3845 : BitVec 32 := 1#32
  let v2516 : BitVec 32 := Scalar.addi v2515 c1_i32_3845
  let c16_i32_3846 : BitVec 32 := 16#32
  let v2517 : BitVec 32 := Scalar.remsi v2516 c16_i32_3846
  let v2518 : Index := Scalar.indexCast v2517
  ![v2518.toNat]
def k0_off39 (v2514 : BitVec 32) : Fin 2 → Nat :=
  let c256_i32_3847 : BitVec 32 := 256#32
  let v2520 : BitVec 32 := Scalar.muli v2514 c256_i32_3847
  let v2521 : Index := Scalar.indexCast v2520
  let c0_3848 : Index := 0#32
  ![v2521.toNat, 0]

def k0_chk22 (v2514 : BitVec 32) : Prop :=
  (∀ a, (k0_off39 v2514) a + S256x256.size a ≤ S4096x256.size a)
theorem k0_off39_inb : ∀ (v2514 : BitVec 32) (k0_hw22 : k0_chk22 v2514), ∀ a, (k0_off39 v2514) a + S256x256.size a ≤ S4096x256.size a := fun v2514 k0_hw22 => k0_hw22

def k0_off40 (v2519 : BitVec 32) : Fin 2 → Nat :=
  let c256_i32_3852 : BitVec 32 := 256#32
  let v2527 : BitVec 32 := Scalar.muli v2519 c256_i32_3852
  let v2528 : Index := Scalar.indexCast v2527
  let c0_3853 : Index := 0#32
  ![v2528.toNat, 0]

def k0_chk23 (v2519 : BitVec 32) : Prop :=
  (∀ a, (k0_off40 v2519) a + S256x256.size a ≤ S4096x256.size a)
theorem k0_off40_inb : ∀ (v2519 : BitVec 32) (k0_hw23 : k0_chk23 v2519), ∀ a, (k0_off40 v2519) a + S256x256.size a ≤ S4096x256.size a := fun v2519 k0_hw23 => k0_hw23

def k0_dev91 (v1 : BitVec 32) : Nat :=
  let c0_i32_3954 : BitVec 32 := 0#32
  let c1_i32_3953 : BitVec 32 := 1#32
  let v2584 : BitVec 32 := Scalar.muli v1 c1_i32_3953
  let v2585 : BitVec 32 := Scalar.addi c0_i32_3954 v2584
  v2585.toNat
def k0_dev92 (v2 : BitVec 32) : Nat :=
  let c0_i32_3970 : BitVec 32 := 0#32
  let c1_i32_3969 : BitVec 32 := 1#32
  let v2594 : BitVec 32 := Scalar.muli v2 c1_i32_3969
  let v2595 : BitVec 32 := Scalar.addi c0_i32_3970 v2594
  v2595.toNat
def k0_dev93 (v1 : BitVec 32) : Nat :=
  let c0_i32_4064 : BitVec 32 := 0#32
  let c1_i32_4063 : BitVec 32 := 1#32
  let v2650 : BitVec 32 := Scalar.muli v1 c1_i32_4063
  let v2651 : BitVec 32 := Scalar.addi c0_i32_4064 v2650
  v2651.toNat
def k0_dev94 (v2 : BitVec 32) : Nat :=
  let c0_i32_4080 : BitVec 32 := 0#32
  let c1_i32_4079 : BitVec 32 := 1#32
  let v2660 : BitVec 32 := Scalar.muli v2 c1_i32_4079
  let v2661 : BitVec 32 := Scalar.addi c0_i32_4080 v2660
  v2661.toNat
def k0_dev95 (v1 : BitVec 32) : Nat :=
  let c0_i32_4174 : BitVec 32 := 0#32
  let c1_i32_4173 : BitVec 32 := 1#32
  let v2716 : BitVec 32 := Scalar.muli v1 c1_i32_4173
  let v2717 : BitVec 32 := Scalar.addi c0_i32_4174 v2716
  v2717.toNat
def k0_dev96 (v2 : BitVec 32) : Nat :=
  let c0_i32_4190 : BitVec 32 := 0#32
  let c1_i32_4189 : BitVec 32 := 1#32
  let v2726 : BitVec 32 := Scalar.muli v2 c1_i32_4189
  let v2727 : BitVec 32 := Scalar.addi c0_i32_4190 v2726
  v2727.toNat
def k0_dev97 (v1 : BitVec 32) : Nat :=
  let c0_i32_4284 : BitVec 32 := 0#32
  let c1_i32_4283 : BitVec 32 := 1#32
  let v2782 : BitVec 32 := Scalar.muli v1 c1_i32_4283
  let v2783 : BitVec 32 := Scalar.addi c0_i32_4284 v2782
  v2783.toNat
def k0_dev98 (v2 : BitVec 32) : Nat :=
  let c0_i32_4300 : BitVec 32 := 0#32
  let c1_i32_4299 : BitVec 32 := 1#32
  let v2792 : BitVec 32 := Scalar.muli v2 c1_i32_4299
  let v2793 : BitVec 32 := Scalar.addi c0_i32_4300 v2792
  v2793.toNat
def k0_dev99 (v2 : BitVec 32) : Nat :=
  let c0_i32_4309 : BitVec 32 := 0#32
  let c1_i32_4308 : BitVec 32 := 1#32
  let v2804 : BitVec 32 := Scalar.muli v2 c1_i32_4308
  let v2805 : BitVec 32 := Scalar.addi c0_i32_4309 v2804
  v2805.toNat
def k0_dev100 (v1 : BitVec 32) : Nat :=
  let c0_i32_4314 : BitVec 32 := 0#32
  let c1_i32_4313 : BitVec 32 := 1#32
  let v2808 : BitVec 32 := Scalar.muli v1 c1_i32_4313
  let v2809 : BitVec 32 := Scalar.addi c0_i32_4314 v2808
  v2809.toNat
def k0_off41 (v0 : BitVec 32) : Fin 1 → Nat :=
  let c32_i32_4315 : BitVec 32 := 32#32
  let v2810 : BitVec 32 := Scalar.addi v0 c32_i32_4315
  let c10_i32 : BitVec 32 := 10#32
  let v2811 : BitVec 32 := Scalar.subi v2810 c10_i32
  let c1_i32_4316 : BitVec 32 := 1#32
  let v2812 : BitVec 32 := Scalar.subi v2811 c1_i32_4316
  let c16_i32_4317 : BitVec 32 := 16#32
  let v2813 : BitVec 32 := Scalar.remsi v2812 c16_i32_4317
  let v2814 : Index := Scalar.indexCast v2813
  ![v2814.toNat]
def k0_off42 (v0 : BitVec 32) : Fin 1 → Nat :=
  let c10_i32_4318 : BitVec 32 := 10#32
  let v2816 : BitVec 32 := Scalar.addi v0 c10_i32_4318
  let c1_i32_4319 : BitVec 32 := 1#32
  let v2817 : BitVec 32 := Scalar.addi v2816 c1_i32_4319
  let c16_i32_4320 : BitVec 32 := 16#32
  let v2818 : BitVec 32 := Scalar.remsi v2817 c16_i32_4320
  let v2819 : Index := Scalar.indexCast v2818
  ![v2819.toNat]
def k0_off43 (v2815 : BitVec 32) : Fin 2 → Nat :=
  let c256_i32_4321 : BitVec 32 := 256#32
  let v2821 : BitVec 32 := Scalar.muli v2815 c256_i32_4321
  let v2822 : Index := Scalar.indexCast v2821
  let c0_4322 : Index := 0#32
  ![v2822.toNat, 0]

def k0_chk24 (v2815 : BitVec 32) : Prop :=
  (∀ a, (k0_off43 v2815) a + S256x256.size a ≤ S4096x256.size a)
theorem k0_off43_inb : ∀ (v2815 : BitVec 32) (k0_hw24 : k0_chk24 v2815), ∀ a, (k0_off43 v2815) a + S256x256.size a ≤ S4096x256.size a := fun v2815 k0_hw24 => k0_hw24

def k0_off44 (v2820 : BitVec 32) : Fin 2 → Nat :=
  let c256_i32_4326 : BitVec 32 := 256#32
  let v2828 : BitVec 32 := Scalar.muli v2820 c256_i32_4326
  let v2829 : Index := Scalar.indexCast v2828
  let c0_4327 : Index := 0#32
  ![v2829.toNat, 0]

def k0_chk25 (v2820 : BitVec 32) : Prop :=
  (∀ a, (k0_off44 v2820) a + S256x256.size a ≤ S4096x256.size a)
theorem k0_off44_inb : ∀ (v2820 : BitVec 32) (k0_hw25 : k0_chk25 v2820), ∀ a, (k0_off44 v2820) a + S256x256.size a ≤ S4096x256.size a := fun v2820 k0_hw25 => k0_hw25

def k0_dev101 (v1 : BitVec 32) : Nat :=
  let c0_i32_4428 : BitVec 32 := 0#32
  let c1_i32_4427 : BitVec 32 := 1#32
  let v2885 : BitVec 32 := Scalar.muli v1 c1_i32_4427
  let v2886 : BitVec 32 := Scalar.addi c0_i32_4428 v2885
  v2886.toNat
def k0_dev102 (v2 : BitVec 32) : Nat :=
  let c0_i32_4444 : BitVec 32 := 0#32
  let c1_i32_4443 : BitVec 32 := 1#32
  let v2895 : BitVec 32 := Scalar.muli v2 c1_i32_4443
  let v2896 : BitVec 32 := Scalar.addi c0_i32_4444 v2895
  v2896.toNat
def k0_dev103 (v1 : BitVec 32) : Nat :=
  let c0_i32_4538 : BitVec 32 := 0#32
  let c1_i32_4537 : BitVec 32 := 1#32
  let v2951 : BitVec 32 := Scalar.muli v1 c1_i32_4537
  let v2952 : BitVec 32 := Scalar.addi c0_i32_4538 v2951
  v2952.toNat
def k0_dev104 (v2 : BitVec 32) : Nat :=
  let c0_i32_4554 : BitVec 32 := 0#32
  let c1_i32_4553 : BitVec 32 := 1#32
  let v2961 : BitVec 32 := Scalar.muli v2 c1_i32_4553
  let v2962 : BitVec 32 := Scalar.addi c0_i32_4554 v2961
  v2962.toNat
def k0_dev105 (v1 : BitVec 32) : Nat :=
  let c0_i32_4648 : BitVec 32 := 0#32
  let c1_i32_4647 : BitVec 32 := 1#32
  let v3017 : BitVec 32 := Scalar.muli v1 c1_i32_4647
  let v3018 : BitVec 32 := Scalar.addi c0_i32_4648 v3017
  v3018.toNat
def k0_dev106 (v2 : BitVec 32) : Nat :=
  let c0_i32_4664 : BitVec 32 := 0#32
  let c1_i32_4663 : BitVec 32 := 1#32
  let v3027 : BitVec 32 := Scalar.muli v2 c1_i32_4663
  let v3028 : BitVec 32 := Scalar.addi c0_i32_4664 v3027
  v3028.toNat
def k0_dev107 (v1 : BitVec 32) : Nat :=
  let c0_i32_4758 : BitVec 32 := 0#32
  let c1_i32_4757 : BitVec 32 := 1#32
  let v3083 : BitVec 32 := Scalar.muli v1 c1_i32_4757
  let v3084 : BitVec 32 := Scalar.addi c0_i32_4758 v3083
  v3084.toNat
def k0_dev108 (v2 : BitVec 32) : Nat :=
  let c0_i32_4774 : BitVec 32 := 0#32
  let c1_i32_4773 : BitVec 32 := 1#32
  let v3093 : BitVec 32 := Scalar.muli v2 c1_i32_4773
  let v3094 : BitVec 32 := Scalar.addi c0_i32_4774 v3093
  v3094.toNat
def k0_dev109 (v2 : BitVec 32) : Nat :=
  let c0_i32_4783 : BitVec 32 := 0#32
  let c1_i32_4782 : BitVec 32 := 1#32
  let v3105 : BitVec 32 := Scalar.muli v2 c1_i32_4782
  let v3106 : BitVec 32 := Scalar.addi c0_i32_4783 v3105
  v3106.toNat
def k0_dev110 (v1 : BitVec 32) : Nat :=
  let c0_i32_4788 : BitVec 32 := 0#32
  let c1_i32_4787 : BitVec 32 := 1#32
  let v3109 : BitVec 32 := Scalar.muli v1 c1_i32_4787
  let v3110 : BitVec 32 := Scalar.addi c0_i32_4788 v3109
  v3110.toNat
def k0_off45 (v0 : BitVec 32) : Fin 1 → Nat :=
  let c32_i32_4789 : BitVec 32 := 32#32
  let v3111 : BitVec 32 := Scalar.addi v0 c32_i32_4789
  let c11_i32 : BitVec 32 := 11#32
  let v3112 : BitVec 32 := Scalar.subi v3111 c11_i32
  let c1_i32_4790 : BitVec 32 := 1#32
  let v3113 : BitVec 32 := Scalar.subi v3112 c1_i32_4790
  let c16_i32_4791 : BitVec 32 := 16#32
  let v3114 : BitVec 32 := Scalar.remsi v3113 c16_i32_4791
  let v3115 : Index := Scalar.indexCast v3114
  ![v3115.toNat]
def k0_off46 (v0 : BitVec 32) : Fin 1 → Nat :=
  let c11_i32_4792 : BitVec 32 := 11#32
  let v3117 : BitVec 32 := Scalar.addi v0 c11_i32_4792
  let c1_i32_4793 : BitVec 32 := 1#32
  let v3118 : BitVec 32 := Scalar.addi v3117 c1_i32_4793
  let c16_i32_4794 : BitVec 32 := 16#32
  let v3119 : BitVec 32 := Scalar.remsi v3118 c16_i32_4794
  let v3120 : Index := Scalar.indexCast v3119
  ![v3120.toNat]
def k0_off47 (v3116 : BitVec 32) : Fin 2 → Nat :=
  let c256_i32_4795 : BitVec 32 := 256#32
  let v3122 : BitVec 32 := Scalar.muli v3116 c256_i32_4795
  let v3123 : Index := Scalar.indexCast v3122
  let c0_4796 : Index := 0#32
  ![v3123.toNat, 0]

def k0_chk26 (v3116 : BitVec 32) : Prop :=
  (∀ a, (k0_off47 v3116) a + S256x256.size a ≤ S4096x256.size a)
theorem k0_off47_inb : ∀ (v3116 : BitVec 32) (k0_hw26 : k0_chk26 v3116), ∀ a, (k0_off47 v3116) a + S256x256.size a ≤ S4096x256.size a := fun v3116 k0_hw26 => k0_hw26

def k0_off48 (v3121 : BitVec 32) : Fin 2 → Nat :=
  let c256_i32_4800 : BitVec 32 := 256#32
  let v3129 : BitVec 32 := Scalar.muli v3121 c256_i32_4800
  let v3130 : Index := Scalar.indexCast v3129
  let c0_4801 : Index := 0#32
  ![v3130.toNat, 0]

def k0_chk27 (v3121 : BitVec 32) : Prop :=
  (∀ a, (k0_off48 v3121) a + S256x256.size a ≤ S4096x256.size a)
theorem k0_off48_inb : ∀ (v3121 : BitVec 32) (k0_hw27 : k0_chk27 v3121), ∀ a, (k0_off48 v3121) a + S256x256.size a ≤ S4096x256.size a := fun v3121 k0_hw27 => k0_hw27

def k0_dev111 (v1 : BitVec 32) : Nat :=
  let c0_i32_4902 : BitVec 32 := 0#32
  let c1_i32_4901 : BitVec 32 := 1#32
  let v3186 : BitVec 32 := Scalar.muli v1 c1_i32_4901
  let v3187 : BitVec 32 := Scalar.addi c0_i32_4902 v3186
  v3187.toNat
def k0_dev112 (v2 : BitVec 32) : Nat :=
  let c0_i32_4918 : BitVec 32 := 0#32
  let c1_i32_4917 : BitVec 32 := 1#32
  let v3196 : BitVec 32 := Scalar.muli v2 c1_i32_4917
  let v3197 : BitVec 32 := Scalar.addi c0_i32_4918 v3196
  v3197.toNat
def k0_dev113 (v1 : BitVec 32) : Nat :=
  let c0_i32_5012 : BitVec 32 := 0#32
  let c1_i32_5011 : BitVec 32 := 1#32
  let v3252 : BitVec 32 := Scalar.muli v1 c1_i32_5011
  let v3253 : BitVec 32 := Scalar.addi c0_i32_5012 v3252
  v3253.toNat
def k0_dev114 (v2 : BitVec 32) : Nat :=
  let c0_i32_5028 : BitVec 32 := 0#32
  let c1_i32_5027 : BitVec 32 := 1#32
  let v3262 : BitVec 32 := Scalar.muli v2 c1_i32_5027
  let v3263 : BitVec 32 := Scalar.addi c0_i32_5028 v3262
  v3263.toNat
def k0_dev115 (v1 : BitVec 32) : Nat :=
  let c0_i32_5122 : BitVec 32 := 0#32
  let c1_i32_5121 : BitVec 32 := 1#32
  let v3318 : BitVec 32 := Scalar.muli v1 c1_i32_5121
  let v3319 : BitVec 32 := Scalar.addi c0_i32_5122 v3318
  v3319.toNat
def k0_dev116 (v2 : BitVec 32) : Nat :=
  let c0_i32_5138 : BitVec 32 := 0#32
  let c1_i32_5137 : BitVec 32 := 1#32
  let v3328 : BitVec 32 := Scalar.muli v2 c1_i32_5137
  let v3329 : BitVec 32 := Scalar.addi c0_i32_5138 v3328
  v3329.toNat
def k0_dev117 (v1 : BitVec 32) : Nat :=
  let c0_i32_5232 : BitVec 32 := 0#32
  let c1_i32_5231 : BitVec 32 := 1#32
  let v3384 : BitVec 32 := Scalar.muli v1 c1_i32_5231
  let v3385 : BitVec 32 := Scalar.addi c0_i32_5232 v3384
  v3385.toNat
def k0_dev118 (v2 : BitVec 32) : Nat :=
  let c0_i32_5248 : BitVec 32 := 0#32
  let c1_i32_5247 : BitVec 32 := 1#32
  let v3394 : BitVec 32 := Scalar.muli v2 c1_i32_5247
  let v3395 : BitVec 32 := Scalar.addi c0_i32_5248 v3394
  v3395.toNat
def k0_dev119 (v2 : BitVec 32) : Nat :=
  let c0_i32_5257 : BitVec 32 := 0#32
  let c1_i32_5256 : BitVec 32 := 1#32
  let v3406 : BitVec 32 := Scalar.muli v2 c1_i32_5256
  let v3407 : BitVec 32 := Scalar.addi c0_i32_5257 v3406
  v3407.toNat
def k0_dev120 (v1 : BitVec 32) : Nat :=
  let c0_i32_5262 : BitVec 32 := 0#32
  let c1_i32_5261 : BitVec 32 := 1#32
  let v3410 : BitVec 32 := Scalar.muli v1 c1_i32_5261
  let v3411 : BitVec 32 := Scalar.addi c0_i32_5262 v3410
  v3411.toNat
def k0_off49 (v0 : BitVec 32) : Fin 1 → Nat :=
  let c32_i32_5263 : BitVec 32 := 32#32
  let v3412 : BitVec 32 := Scalar.addi v0 c32_i32_5263
  let c12_i32 : BitVec 32 := 12#32
  let v3413 : BitVec 32 := Scalar.subi v3412 c12_i32
  let c1_i32_5264 : BitVec 32 := 1#32
  let v3414 : BitVec 32 := Scalar.subi v3413 c1_i32_5264
  let c16_i32_5265 : BitVec 32 := 16#32
  let v3415 : BitVec 32 := Scalar.remsi v3414 c16_i32_5265
  let v3416 : Index := Scalar.indexCast v3415
  ![v3416.toNat]
def k0_off50 (v0 : BitVec 32) : Fin 1 → Nat :=
  let c12_i32_5266 : BitVec 32 := 12#32
  let v3418 : BitVec 32 := Scalar.addi v0 c12_i32_5266
  let c1_i32_5267 : BitVec 32 := 1#32
  let v3419 : BitVec 32 := Scalar.addi v3418 c1_i32_5267
  let c16_i32_5268 : BitVec 32 := 16#32
  let v3420 : BitVec 32 := Scalar.remsi v3419 c16_i32_5268
  let v3421 : Index := Scalar.indexCast v3420
  ![v3421.toNat]
def k0_off51 (v3417 : BitVec 32) : Fin 2 → Nat :=
  let c256_i32_5269 : BitVec 32 := 256#32
  let v3423 : BitVec 32 := Scalar.muli v3417 c256_i32_5269
  let v3424 : Index := Scalar.indexCast v3423
  let c0_5270 : Index := 0#32
  ![v3424.toNat, 0]

def k0_chk28 (v3417 : BitVec 32) : Prop :=
  (∀ a, (k0_off51 v3417) a + S256x256.size a ≤ S4096x256.size a)
theorem k0_off51_inb : ∀ (v3417 : BitVec 32) (k0_hw28 : k0_chk28 v3417), ∀ a, (k0_off51 v3417) a + S256x256.size a ≤ S4096x256.size a := fun v3417 k0_hw28 => k0_hw28

def k0_off52 (v3422 : BitVec 32) : Fin 2 → Nat :=
  let c256_i32_5274 : BitVec 32 := 256#32
  let v3430 : BitVec 32 := Scalar.muli v3422 c256_i32_5274
  let v3431 : Index := Scalar.indexCast v3430
  let c0_5275 : Index := 0#32
  ![v3431.toNat, 0]

def k0_chk29 (v3422 : BitVec 32) : Prop :=
  (∀ a, (k0_off52 v3422) a + S256x256.size a ≤ S4096x256.size a)
theorem k0_off52_inb : ∀ (v3422 : BitVec 32) (k0_hw29 : k0_chk29 v3422), ∀ a, (k0_off52 v3422) a + S256x256.size a ≤ S4096x256.size a := fun v3422 k0_hw29 => k0_hw29

def k0_dev121 (v1 : BitVec 32) : Nat :=
  let c0_i32_5376 : BitVec 32 := 0#32
  let c1_i32_5375 : BitVec 32 := 1#32
  let v3487 : BitVec 32 := Scalar.muli v1 c1_i32_5375
  let v3488 : BitVec 32 := Scalar.addi c0_i32_5376 v3487
  v3488.toNat
def k0_dev122 (v2 : BitVec 32) : Nat :=
  let c0_i32_5392 : BitVec 32 := 0#32
  let c1_i32_5391 : BitVec 32 := 1#32
  let v3497 : BitVec 32 := Scalar.muli v2 c1_i32_5391
  let v3498 : BitVec 32 := Scalar.addi c0_i32_5392 v3497
  v3498.toNat
def k0_dev123 (v1 : BitVec 32) : Nat :=
  let c0_i32_5486 : BitVec 32 := 0#32
  let c1_i32_5485 : BitVec 32 := 1#32
  let v3553 : BitVec 32 := Scalar.muli v1 c1_i32_5485
  let v3554 : BitVec 32 := Scalar.addi c0_i32_5486 v3553
  v3554.toNat
def k0_dev124 (v2 : BitVec 32) : Nat :=
  let c0_i32_5502 : BitVec 32 := 0#32
  let c1_i32_5501 : BitVec 32 := 1#32
  let v3563 : BitVec 32 := Scalar.muli v2 c1_i32_5501
  let v3564 : BitVec 32 := Scalar.addi c0_i32_5502 v3563
  v3564.toNat
def k0_dev125 (v1 : BitVec 32) : Nat :=
  let c0_i32_5596 : BitVec 32 := 0#32
  let c1_i32_5595 : BitVec 32 := 1#32
  let v3619 : BitVec 32 := Scalar.muli v1 c1_i32_5595
  let v3620 : BitVec 32 := Scalar.addi c0_i32_5596 v3619
  v3620.toNat
def k0_dev126 (v2 : BitVec 32) : Nat :=
  let c0_i32_5612 : BitVec 32 := 0#32
  let c1_i32_5611 : BitVec 32 := 1#32
  let v3629 : BitVec 32 := Scalar.muli v2 c1_i32_5611
  let v3630 : BitVec 32 := Scalar.addi c0_i32_5612 v3629
  v3630.toNat
def k0_dev127 (v1 : BitVec 32) : Nat :=
  let c0_i32_5706 : BitVec 32 := 0#32
  let c1_i32_5705 : BitVec 32 := 1#32
  let v3685 : BitVec 32 := Scalar.muli v1 c1_i32_5705
  let v3686 : BitVec 32 := Scalar.addi c0_i32_5706 v3685
  v3686.toNat
def k0_dev128 (v2 : BitVec 32) : Nat :=
  let c0_i32_5722 : BitVec 32 := 0#32
  let c1_i32_5721 : BitVec 32 := 1#32
  let v3695 : BitVec 32 := Scalar.muli v2 c1_i32_5721
  let v3696 : BitVec 32 := Scalar.addi c0_i32_5722 v3695
  v3696.toNat
def k0_dev129 (v2 : BitVec 32) : Nat :=
  let c0_i32_5731 : BitVec 32 := 0#32
  let c1_i32_5730 : BitVec 32 := 1#32
  let v3707 : BitVec 32 := Scalar.muli v2 c1_i32_5730
  let v3708 : BitVec 32 := Scalar.addi c0_i32_5731 v3707
  v3708.toNat
def k0_dev130 (v1 : BitVec 32) : Nat :=
  let c0_i32_5736 : BitVec 32 := 0#32
  let c1_i32_5735 : BitVec 32 := 1#32
  let v3711 : BitVec 32 := Scalar.muli v1 c1_i32_5735
  let v3712 : BitVec 32 := Scalar.addi c0_i32_5736 v3711
  v3712.toNat
def k0_off53 (v0 : BitVec 32) : Fin 1 → Nat :=
  let c32_i32_5737 : BitVec 32 := 32#32
  let v3713 : BitVec 32 := Scalar.addi v0 c32_i32_5737
  let c13_i32 : BitVec 32 := 13#32
  let v3714 : BitVec 32 := Scalar.subi v3713 c13_i32
  let c1_i32_5738 : BitVec 32 := 1#32
  let v3715 : BitVec 32 := Scalar.subi v3714 c1_i32_5738
  let c16_i32_5739 : BitVec 32 := 16#32
  let v3716 : BitVec 32 := Scalar.remsi v3715 c16_i32_5739
  let v3717 : Index := Scalar.indexCast v3716
  ![v3717.toNat]
def k0_off54 (v0 : BitVec 32) : Fin 1 → Nat :=
  let c13_i32_5740 : BitVec 32 := 13#32
  let v3719 : BitVec 32 := Scalar.addi v0 c13_i32_5740
  let c1_i32_5741 : BitVec 32 := 1#32
  let v3720 : BitVec 32 := Scalar.addi v3719 c1_i32_5741
  let c16_i32_5742 : BitVec 32 := 16#32
  let v3721 : BitVec 32 := Scalar.remsi v3720 c16_i32_5742
  let v3722 : Index := Scalar.indexCast v3721
  ![v3722.toNat]
def k0_off55 (v3718 : BitVec 32) : Fin 2 → Nat :=
  let c256_i32_5743 : BitVec 32 := 256#32
  let v3724 : BitVec 32 := Scalar.muli v3718 c256_i32_5743
  let v3725 : Index := Scalar.indexCast v3724
  let c0_5744 : Index := 0#32
  ![v3725.toNat, 0]

def k0_chk30 (v3718 : BitVec 32) : Prop :=
  (∀ a, (k0_off55 v3718) a + S256x256.size a ≤ S4096x256.size a)
theorem k0_off55_inb : ∀ (v3718 : BitVec 32) (k0_hw30 : k0_chk30 v3718), ∀ a, (k0_off55 v3718) a + S256x256.size a ≤ S4096x256.size a := fun v3718 k0_hw30 => k0_hw30

def k0_off56 (v3723 : BitVec 32) : Fin 2 → Nat :=
  let c256_i32_5748 : BitVec 32 := 256#32
  let v3731 : BitVec 32 := Scalar.muli v3723 c256_i32_5748
  let v3732 : Index := Scalar.indexCast v3731
  let c0_5749 : Index := 0#32
  ![v3732.toNat, 0]

def k0_chk31 (v3723 : BitVec 32) : Prop :=
  (∀ a, (k0_off56 v3723) a + S256x256.size a ≤ S4096x256.size a)
theorem k0_off56_inb : ∀ (v3723 : BitVec 32) (k0_hw31 : k0_chk31 v3723), ∀ a, (k0_off56 v3723) a + S256x256.size a ≤ S4096x256.size a := fun v3723 k0_hw31 => k0_hw31

def k0_dev131 (v1 : BitVec 32) : Nat :=
  let c0_i32_5850 : BitVec 32 := 0#32
  let c1_i32_5849 : BitVec 32 := 1#32
  let v3788 : BitVec 32 := Scalar.muli v1 c1_i32_5849
  let v3789 : BitVec 32 := Scalar.addi c0_i32_5850 v3788
  v3789.toNat
def k0_dev132 (v2 : BitVec 32) : Nat :=
  let c0_i32_5866 : BitVec 32 := 0#32
  let c1_i32_5865 : BitVec 32 := 1#32
  let v3798 : BitVec 32 := Scalar.muli v2 c1_i32_5865
  let v3799 : BitVec 32 := Scalar.addi c0_i32_5866 v3798
  v3799.toNat
def k0_dev133 (v1 : BitVec 32) : Nat :=
  let c0_i32_5960 : BitVec 32 := 0#32
  let c1_i32_5959 : BitVec 32 := 1#32
  let v3854 : BitVec 32 := Scalar.muli v1 c1_i32_5959
  let v3855 : BitVec 32 := Scalar.addi c0_i32_5960 v3854
  v3855.toNat
def k0_dev134 (v2 : BitVec 32) : Nat :=
  let c0_i32_5976 : BitVec 32 := 0#32
  let c1_i32_5975 : BitVec 32 := 1#32
  let v3864 : BitVec 32 := Scalar.muli v2 c1_i32_5975
  let v3865 : BitVec 32 := Scalar.addi c0_i32_5976 v3864
  v3865.toNat
def k0_dev135 (v1 : BitVec 32) : Nat :=
  let c0_i32_6070 : BitVec 32 := 0#32
  let c1_i32_6069 : BitVec 32 := 1#32
  let v3920 : BitVec 32 := Scalar.muli v1 c1_i32_6069
  let v3921 : BitVec 32 := Scalar.addi c0_i32_6070 v3920
  v3921.toNat
def k0_dev136 (v2 : BitVec 32) : Nat :=
  let c0_i32_6086 : BitVec 32 := 0#32
  let c1_i32_6085 : BitVec 32 := 1#32
  let v3930 : BitVec 32 := Scalar.muli v2 c1_i32_6085
  let v3931 : BitVec 32 := Scalar.addi c0_i32_6086 v3930
  v3931.toNat
def k0_dev137 (v1 : BitVec 32) : Nat :=
  let c0_i32_6180 : BitVec 32 := 0#32
  let c1_i32_6179 : BitVec 32 := 1#32
  let v3986 : BitVec 32 := Scalar.muli v1 c1_i32_6179
  let v3987 : BitVec 32 := Scalar.addi c0_i32_6180 v3986
  v3987.toNat
def k0_dev138 (v2 : BitVec 32) : Nat :=
  let c0_i32_6196 : BitVec 32 := 0#32
  let c1_i32_6195 : BitVec 32 := 1#32
  let v3996 : BitVec 32 := Scalar.muli v2 c1_i32_6195
  let v3997 : BitVec 32 := Scalar.addi c0_i32_6196 v3996
  v3997.toNat
def k0_dev139 (v2 : BitVec 32) : Nat :=
  let c0_i32_6205 : BitVec 32 := 0#32
  let c1_i32_6204 : BitVec 32 := 1#32
  let v4008 : BitVec 32 := Scalar.muli v2 c1_i32_6204
  let v4009 : BitVec 32 := Scalar.addi c0_i32_6205 v4008
  v4009.toNat
def k0_dev140 (v1 : BitVec 32) : Nat :=
  let c0_i32_6210 : BitVec 32 := 0#32
  let c1_i32_6209 : BitVec 32 := 1#32
  let v4012 : BitVec 32 := Scalar.muli v1 c1_i32_6209
  let v4013 : BitVec 32 := Scalar.addi c0_i32_6210 v4012
  v4013.toNat
def k0_off57 (v0 : BitVec 32) : Fin 1 → Nat :=
  let c32_i32_6211 : BitVec 32 := 32#32
  let v4014 : BitVec 32 := Scalar.addi v0 c32_i32_6211
  let c14_i32 : BitVec 32 := 14#32
  let v4015 : BitVec 32 := Scalar.subi v4014 c14_i32
  let c1_i32_6212 : BitVec 32 := 1#32
  let v4016 : BitVec 32 := Scalar.subi v4015 c1_i32_6212
  let c16_i32_6213 : BitVec 32 := 16#32
  let v4017 : BitVec 32 := Scalar.remsi v4016 c16_i32_6213
  let v4018 : Index := Scalar.indexCast v4017
  ![v4018.toNat]
def k0_off58 (v0 : BitVec 32) : Fin 1 → Nat :=
  let c14_i32_6214 : BitVec 32 := 14#32
  let v4020 : BitVec 32 := Scalar.addi v0 c14_i32_6214
  let c1_i32_6215 : BitVec 32 := 1#32
  let v4021 : BitVec 32 := Scalar.addi v4020 c1_i32_6215
  let c16_i32_6216 : BitVec 32 := 16#32
  let v4022 : BitVec 32 := Scalar.remsi v4021 c16_i32_6216
  let v4023 : Index := Scalar.indexCast v4022
  ![v4023.toNat]
def k0_off59 (v4019 : BitVec 32) : Fin 2 → Nat :=
  let c256_i32_6217 : BitVec 32 := 256#32
  let v4025 : BitVec 32 := Scalar.muli v4019 c256_i32_6217
  let v4026 : Index := Scalar.indexCast v4025
  let c0_6218 : Index := 0#32
  ![v4026.toNat, 0]

def k0_chk32 (v4019 : BitVec 32) : Prop :=
  (∀ a, (k0_off59 v4019) a + S256x256.size a ≤ S4096x256.size a)
theorem k0_off59_inb : ∀ (v4019 : BitVec 32) (k0_hw32 : k0_chk32 v4019), ∀ a, (k0_off59 v4019) a + S256x256.size a ≤ S4096x256.size a := fun v4019 k0_hw32 => k0_hw32

def k0_off60 (v4024 : BitVec 32) : Fin 2 → Nat :=
  let c256_i32_6222 : BitVec 32 := 256#32
  let v4032 : BitVec 32 := Scalar.muli v4024 c256_i32_6222
  let v4033 : Index := Scalar.indexCast v4032
  let c0_6223 : Index := 0#32
  ![v4033.toNat, 0]

def k0_chk33 (v4024 : BitVec 32) : Prop :=
  (∀ a, (k0_off60 v4024) a + S256x256.size a ≤ S4096x256.size a)
theorem k0_off60_inb : ∀ (v4024 : BitVec 32) (k0_hw33 : k0_chk33 v4024), ∀ a, (k0_off60 v4024) a + S256x256.size a ≤ S4096x256.size a := fun v4024 k0_hw33 => k0_hw33

def k0_dev141 (v1 : BitVec 32) : Nat :=
  let c0_i32_6324 : BitVec 32 := 0#32
  let c1_i32_6323 : BitVec 32 := 1#32
  let v4089 : BitVec 32 := Scalar.muli v1 c1_i32_6323
  let v4090 : BitVec 32 := Scalar.addi c0_i32_6324 v4089
  v4090.toNat
def k0_dev142 (v2 : BitVec 32) : Nat :=
  let c0_i32_6340 : BitVec 32 := 0#32
  let c1_i32_6339 : BitVec 32 := 1#32
  let v4099 : BitVec 32 := Scalar.muli v2 c1_i32_6339
  let v4100 : BitVec 32 := Scalar.addi c0_i32_6340 v4099
  v4100.toNat
def k0_dev143 (v1 : BitVec 32) : Nat :=
  let c0_i32_6434 : BitVec 32 := 0#32
  let c1_i32_6433 : BitVec 32 := 1#32
  let v4155 : BitVec 32 := Scalar.muli v1 c1_i32_6433
  let v4156 : BitVec 32 := Scalar.addi c0_i32_6434 v4155
  v4156.toNat
def k0_dev144 (v2 : BitVec 32) : Nat :=
  let c0_i32_6450 : BitVec 32 := 0#32
  let c1_i32_6449 : BitVec 32 := 1#32
  let v4165 : BitVec 32 := Scalar.muli v2 c1_i32_6449
  let v4166 : BitVec 32 := Scalar.addi c0_i32_6450 v4165
  v4166.toNat
def k0_dev145 (v1 : BitVec 32) : Nat :=
  let c0_i32_6544 : BitVec 32 := 0#32
  let c1_i32_6543 : BitVec 32 := 1#32
  let v4221 : BitVec 32 := Scalar.muli v1 c1_i32_6543
  let v4222 : BitVec 32 := Scalar.addi c0_i32_6544 v4221
  v4222.toNat
def k0_dev146 (v2 : BitVec 32) : Nat :=
  let c0_i32_6560 : BitVec 32 := 0#32
  let c1_i32_6559 : BitVec 32 := 1#32
  let v4231 : BitVec 32 := Scalar.muli v2 c1_i32_6559
  let v4232 : BitVec 32 := Scalar.addi c0_i32_6560 v4231
  v4232.toNat
def k0_dev147 (v1 : BitVec 32) : Nat :=
  let c0_i32_6654 : BitVec 32 := 0#32
  let c1_i32_6653 : BitVec 32 := 1#32
  let v4287 : BitVec 32 := Scalar.muli v1 c1_i32_6653
  let v4288 : BitVec 32 := Scalar.addi c0_i32_6654 v4287
  v4288.toNat

def k0_chk2_0 (v1 : BitVec 32) : Prop :=
  ((k0_dev2 v1) < nD) ∧
  ((k0_dev3 v1) < nD) ∧
  ((k0_dev5 v1) < nD) ∧
  ((k0_dev7 v1) < nD) ∧
  ((k0_dev9 v1) < nD) ∧
  ((k0_dev11 v1) < nD) ∧
  ((k0_dev13 v1) < nD) ∧
  ((k0_dev15 v1) < nD) ∧
  ((k0_dev17 v1) < nD) ∧
  ((k0_dev20 v1) < nD) ∧
  ((k0_dev21 v1) < nD) ∧
  ((k0_dev23 v1) < nD) ∧
  ((k0_dev25 v1) < nD) ∧
  ((k0_dev27 v1) < nD) ∧
  ((k0_dev30 v1) < nD) ∧
  ((k0_dev31 v1) < nD) ∧
  ((k0_dev33 v1) < nD) ∧
  ((k0_dev35 v1) < nD) ∧
  ((k0_dev37 v1) < nD) ∧
  ((k0_dev40 v1) < nD) ∧
  ((k0_dev41 v1) < nD) ∧
  ((k0_dev43 v1) < nD) ∧
  ((k0_dev45 v1) < nD) ∧
  ((k0_dev47 v1) < nD) ∧
  ((k0_dev50 v1) < nD) ∧
  ((k0_dev51 v1) < nD) ∧
  ((k0_dev53 v1) < nD) ∧
  ((k0_dev55 v1) < nD) ∧
  ((k0_dev57 v1) < nD) ∧
  ((k0_dev60 v1) < nD) ∧
  ((k0_dev61 v1) < nD) ∧
  ((k0_dev63 v1) < nD)
def k0_chk2_1 (v1 : BitVec 32) : Prop :=
  ((k0_dev65 v1) < nD) ∧
  ((k0_dev67 v1) < nD) ∧
  ((k0_dev70 v1) < nD) ∧
  ((k0_dev71 v1) < nD) ∧
  ((k0_dev73 v1) < nD) ∧
  ((k0_dev75 v1) < nD) ∧
  ((k0_dev77 v1) < nD) ∧
  ((k0_dev80 v1) < nD) ∧
  ((k0_dev81 v1) < nD) ∧
  ((k0_dev83 v1) < nD) ∧
  ((k0_dev85 v1) < nD) ∧
  ((k0_dev87 v1) < nD) ∧
  ((k0_dev90 v1) < nD) ∧
  ((k0_dev91 v1) < nD) ∧
  ((k0_dev93 v1) < nD) ∧
  ((k0_dev95 v1) < nD) ∧
  ((k0_dev97 v1) < nD) ∧
  ((k0_dev100 v1) < nD) ∧
  ((k0_dev101 v1) < nD) ∧
  ((k0_dev103 v1) < nD) ∧
  ((k0_dev105 v1) < nD) ∧
  ((k0_dev107 v1) < nD) ∧
  ((k0_dev110 v1) < nD) ∧
  ((k0_dev111 v1) < nD) ∧
  ((k0_dev113 v1) < nD) ∧
  ((k0_dev115 v1) < nD) ∧
  ((k0_dev117 v1) < nD) ∧
  ((k0_dev120 v1) < nD) ∧
  ((k0_dev121 v1) < nD) ∧
  ((k0_dev123 v1) < nD) ∧
  ((k0_dev125 v1) < nD) ∧
  ((k0_dev127 v1) < nD)
def k0_chk2_2 (v1 : BitVec 32) : Prop :=
  ((k0_dev130 v1) < nD) ∧
  ((k0_dev131 v1) < nD) ∧
  ((k0_dev133 v1) < nD) ∧
  ((k0_dev135 v1) < nD) ∧
  ((k0_dev137 v1) < nD) ∧
  ((k0_dev140 v1) < nD) ∧
  ((k0_dev141 v1) < nD) ∧
  ((k0_dev143 v1) < nD) ∧
  ((k0_dev145 v1) < nD) ∧
  ((k0_dev147 v1) < nD)
def k0_chk2 (v1 : BitVec 32) : Prop :=
  k0_chk2_0 v1 ∧
  k0_chk2_1 v1 ∧
  k0_chk2_2 v1
theorem k0_dev2_lt : ∀ (v1 : BitVec 32) (k0_hw2 : k0_chk2 v1), (k0_dev2 v1) < nD := fun v1 k0_hw2 => k0_hw2.1.1
theorem k0_dev3_lt : ∀ (v1 : BitVec 32) (k0_hw2 : k0_chk2 v1), (k0_dev3 v1) < nD := fun v1 k0_hw2 => k0_hw2.1.2.1
theorem k0_dev5_lt : ∀ (v1 : BitVec 32) (k0_hw2 : k0_chk2 v1), (k0_dev5 v1) < nD := fun v1 k0_hw2 => k0_hw2.1.2.2.1
theorem k0_dev7_lt : ∀ (v1 : BitVec 32) (k0_hw2 : k0_chk2 v1), (k0_dev7 v1) < nD := fun v1 k0_hw2 => k0_hw2.1.2.2.2.1
theorem k0_dev9_lt : ∀ (v1 : BitVec 32) (k0_hw2 : k0_chk2 v1), (k0_dev9 v1) < nD := fun v1 k0_hw2 => k0_hw2.1.2.2.2.2.1
theorem k0_dev11_lt : ∀ (v1 : BitVec 32) (k0_hw2 : k0_chk2 v1), (k0_dev11 v1) < nD := fun v1 k0_hw2 => k0_hw2.1.2.2.2.2.2.1
theorem k0_dev13_lt : ∀ (v1 : BitVec 32) (k0_hw2 : k0_chk2 v1), (k0_dev13 v1) < nD := fun v1 k0_hw2 => k0_hw2.1.2.2.2.2.2.2.1
theorem k0_dev15_lt : ∀ (v1 : BitVec 32) (k0_hw2 : k0_chk2 v1), (k0_dev15 v1) < nD := fun v1 k0_hw2 => k0_hw2.1.2.2.2.2.2.2.2.1
theorem k0_dev17_lt : ∀ (v1 : BitVec 32) (k0_hw2 : k0_chk2 v1), (k0_dev17 v1) < nD := fun v1 k0_hw2 => k0_hw2.1.2.2.2.2.2.2.2.2.1
theorem k0_dev20_lt : ∀ (v1 : BitVec 32) (k0_hw2 : k0_chk2 v1), (k0_dev20 v1) < nD := fun v1 k0_hw2 => k0_hw2.1.2.2.2.2.2.2.2.2.2.1
theorem k0_dev21_lt : ∀ (v1 : BitVec 32) (k0_hw2 : k0_chk2 v1), (k0_dev21 v1) < nD := fun v1 k0_hw2 => k0_hw2.1.2.2.2.2.2.2.2.2.2.2.1
theorem k0_dev23_lt : ∀ (v1 : BitVec 32) (k0_hw2 : k0_chk2 v1), (k0_dev23 v1) < nD := fun v1 k0_hw2 => k0_hw2.1.2.2.2.2.2.2.2.2.2.2.2.1
theorem k0_dev25_lt : ∀ (v1 : BitVec 32) (k0_hw2 : k0_chk2 v1), (k0_dev25 v1) < nD := fun v1 k0_hw2 => k0_hw2.1.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.1
theorem k0_dev30_lt : ∀ (v1 : BitVec 32) (k0_hw2 : k0_chk2 v1), (k0_dev30 v1) < nD := fun v1 k0_hw2 => k0_hw2.1.2.2.2.2.2.2.2.2.2.2.2.2.2.2.1
theorem k0_dev31_lt : ∀ (v1 : BitVec 32) (k0_hw2 : k0_chk2 v1), (k0_dev31 v1) < nD := fun v1 k0_hw2 => k0_hw2.1.2.2.2.2.2.2.2.2.2.2.2.2.2.2.2.1
theorem k0_dev33_lt : ∀ (v1 : BitVec 32) (k0_hw2 : k0_chk2 v1), (k0_dev33 v1) < nD := fun v1 k0_hw2 => k0_hw2.1.2.2.2.2.2.2.2.2.2.2.2.2.2.2.2.2.1
theorem k0_dev35_lt : ∀ (v1 : BitVec 32) (k0_hw2 : k0_chk2 v1), (k0_dev35 v1) < nD := fun v1 k0_hw2 => k0_hw2.1.2.2.2.2.2.2.2.2.2.2.2.2.2.2.2.2.2.1
theorem k0_dev37_lt : ∀ (v1 : BitVec 32) (k0_hw2 : k0_chk2 v1), (k0_dev37 v1) < nD := fun v1 k0_hw2 => k0_hw2.1.2.2.2.2.2.2.2.2.2.2.2.2.2.2.2.2.2.2.1
theorem k0_dev40_lt : ∀ (v1 : BitVec 32) (k0_hw2 : k0_chk2 v1), (k0_dev40 v1) < nD := fun v1 k0_hw2 => k0_hw2.1.2.2.2.2.2.2.2.2.2.2.2.2.2.2.2.2.2.2.2.1
theorem k0_dev41_lt : ∀ (v1 : BitVec 32) (k0_hw2 : k0_chk2 v1), (k0_dev41 v1) < nD := fun v1 k0_hw2 => k0_hw2.1.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.1
theorem k0_dev45_lt : ∀ (v1 : BitVec 32) (k0_hw2 : k0_chk2 v1), (k0_dev45 v1) < nD := fun v1 k0_hw2 => k0_hw2.1.2.2.2.2.2.2.2.2.2.2.2.2.2.2.2.2.2.2.2.2.2.2.1
theorem k0_dev47_lt : ∀ (v1 : BitVec 32) (k0_hw2 : k0_chk2 v1), (k0_dev47 v1) < nD := fun v1 k0_hw2 => k0_hw2.1.2.2.2.2.2.2.2.2.2.2.2.2.2.2.2.2.2.2.2.2.2.2.2.1
theorem k0_dev50_lt : ∀ (v1 : BitVec 32) (k0_hw2 : k0_chk2 v1), (k0_dev50 v1) < nD := fun v1 k0_hw2 => k0_hw2.1.2.2.2.2.2.2.2.2.2.2.2.2.2.2.2.2.2.2.2.2.2.2.2.2.1
theorem k0_dev51_lt : ∀ (v1 : BitVec 32) (k0_hw2 : k0_chk2 v1), (k0_dev51 v1) < nD := fun v1 k0_hw2 => k0_hw2.1.2.2.2.2.2.2.2.2.2.2.2.2.2.2.2.2.2.2.2.2.2.2.2.2.2.1
theorem k0_dev53_lt : ∀ (v1 : BitVec 32) (k0_hw2 : k0_chk2 v1), (k0_dev53 v1) < nD := fun v1 k0_hw2 => k0_hw2.1.2.2.2.2.2.2.2.2.2.2.2.2.2.2.2.2.2.2.2.2.2.2.2.2.2.2.1
theorem k0_dev55_lt : ∀ (v1 : BitVec 32) (k0_hw2 : k0_chk2 v1), (k0_dev55 v1) < nD := fun v1 k0_hw2 => k0_hw2.1.2.2.2.2.2.2.2.2.2.2.2.2.2.2.2.2.2.2.2.2.2.2.2.2.2.2.2.1
theorem k0_dev57_lt : ∀ (v1 : BitVec 32) (k0_hw2 : k0_chk2 v1), (k0_dev57 v1) < nD := fun v1 k0_hw2 => k0_hw2.1.2.2.2.2.2.2.2.2.2.2.2.2.2.2.2.2.2.2.2.2.2.2.2.2.2.2.2.2.1
theorem k0_dev60_lt : ∀ (v1 : BitVec 32) (k0_hw2 : k0_chk2 v1), (k0_dev60 v1) < nD := fun v1 k0_hw2 => k0_hw2.1.2.2.2.2.2.2.2.2.2.2.2.2.2.2.2.2.2.2.2.2.2.2.2.2.2.2.2.2.2.1
theorem k0_dev61_lt : ∀ (v1 : BitVec 32) (k0_hw2 : k0_chk2 v1), (k0_dev61 v1) < nD := fun v1 k0_hw2 => k0_hw2.1.2.2.2.2.2.2.2.2.2.2.2.2.2.2.2.2.2.2.2.2.2.2.2.2.2.2.2.2.2.2.1
theorem k0_dev63_lt : ∀ (v1 : BitVec 32) (k0_hw2 : k0_chk2 v1), (k0_dev63 v1) < nD := fun v1 k0_hw2 => k0_hw2.1.2.2.2.2.2.2.2.2.2.2.2.2.2.2.2.2.2.2.2.2.2.2.2.2.2.2.2.2.2.2.2
theorem k0_dev65_lt : ∀ (v1 : BitVec 32) (k0_hw2 : k0_chk2 v1), (k0_dev65 v1) < nD := fun v1 k0_hw2 => k0_hw2.2.1.1
theorem k0_dev67_lt : ∀ (v1 : BitVec 32) (k0_hw2 : k0_chk2 v1), (k0_dev67 v1) < nD := fun v1 k0_hw2 => k0_hw2.2.1.2.1
theorem k0_dev70_lt : ∀ (v1 : BitVec 32) (k0_hw2 : k0_chk2 v1), (k0_dev70 v1) < nD := fun v1 k0_hw2 => k0_hw2.2.1.2.2.1
theorem k0_dev71_lt : ∀ (v1 : BitVec 32) (k0_hw2 : k0_chk2 v1), (k0_dev71 v1) < nD := fun v1 k0_hw2 => k0_hw2.2.1.2.2.2.1
theorem k0_dev73_lt : ∀ (v1 : BitVec 32) (k0_hw2 : k0_chk2 v1), (k0_dev73 v1) < nD := fun v1 k0_hw2 => k0_hw2.2.1.2.2.2.2.1
theorem k0_dev75_lt : ∀ (v1 : BitVec 32) (k0_hw2 : k0_chk2 v1), (k0_dev75 v1) < nD := fun v1 k0_hw2 => k0_hw2.2.1.2.2.2.2.2.1
theorem k0_dev77_lt : ∀ (v1 : BitVec 32) (k0_hw2 : k0_chk2 v1), (k0_dev77 v1) < nD := fun v1 k0_hw2 => k0_hw2.2.1.2.2.2.2.2.2.1
theorem k0_dev80_lt : ∀ (v1 : BitVec 32) (k0_hw2 : k0_chk2 v1), (k0_dev80 v1) < nD := fun v1 k0_hw2 => k0_hw2.2.1.2.2.2.2.2.2.2.1
theorem k0_dev81_lt : ∀ (v1 : BitVec 32) (k0_hw2 : k0_chk2 v1), (k0_dev81 v1) < nD := fun v1 k0_hw2 => k0_hw2.2.1.2.2.2.2.2.2.2.2.1
theorem k0_dev83_lt : ∀ (v1 : BitVec 32) (k0_hw2 : k0_chk2 v1), (k0_dev83 v1) < nD := fun v1 k0_hw2 => k0_hw2.2.1.2.2.2.2.2.2.2.2.2.1
theorem k0_dev85_lt : ∀ (v1 : BitVec 32) (k0_hw2 : k0_chk2 v1), (k0_dev85 v1) < nD := fun v1 k0_hw2 => k0_hw2.2.1.2.2.2.2.2.2.2.2.2.2.1
theorem k0_dev87_lt : ∀ (v1 : BitVec 32) (k0_hw2 : k0_chk2 v1), (k0_dev87 v1) < nD := fun v1 k0_hw2 => k0_hw2.2.1.2.2.2.2.2.2.2.2.2.2.2.1
theorem k0_dev90_lt : ∀ (v1 : BitVec 32) (k0_hw2 : k0_chk2 v1), (k0_dev90 v1) < nD := fun v1 k0_hw2 => k0_hw2.2.1.2.2.2.2.2.2.2.2.2.2.2.2.1
theorem k0_dev91_lt : ∀ (v1 : BitVec 32) (k0_hw2 : k0_chk2 v1), (k0_dev91 v1) < nD := fun v1 k0_hw2 => k0_hw2.2.1.2.2.2.2.2.2.2.2.2.2.2.2.2.1
theorem k0_dev93_lt : ∀ (v1 : BitVec 32) (k0_hw2 : k0_chk2 v1), (k0_dev93 v1) < nD := fun v1 k0_hw2 => k0_hw2.2.1.2.2.2.2.2.2.2.2.2.2.2.2.2.2.1
theorem k0_dev95_lt : ∀ (v1 : BitVec 32) (k0_hw2 : k0_chk2 v1), (k0_dev95 v1) < nD := fun v1 k0_hw2 => k0_hw2.2.1.2.2.2.2.2.2.2.2.2.2.2.2.2.2.2.1
theorem k0_dev97_lt : ∀ (v1 : BitVec 32) (k0_hw2 : k0_chk2 v1), (k0_dev97 v1) < nD := fun v1 k0_hw2 => k0_hw2.2.1.2.2.2.2.2.2.2.2.2.2.2.2.2.2.2.2.1
theorem k0_dev100_lt : ∀ (v1 : BitVec 32) (k0_hw2 : k0_chk2 v1), (k0_dev100 v1) < nD := fun v1 k0_hw2 => k0_hw2.2.1.2.2.2.2.2.2.2.2.2.2.2.2.2.2.2.2.2.1
theorem k0_dev101_lt : ∀ (v1 : BitVec 32) (k0_hw2 : k0_chk2 v1), (k0_dev101 v1) < nD := fun v1 k0_hw2 => k0_hw2.2.1.2.2.2.2.2.2.2.2.2.2.2.2.2.2.2.2.2.2.1
theorem k0_dev103_lt : ∀ (v1 : BitVec 32) (k0_hw2 : k0_chk2 v1), (k0_dev103 v1) < nD := fun v1 k0_hw2 => k0_hw2.2.1.2.2.2.2.2.2.2.2.2.2.2.2.2.2.2.2.2.2.2.1
theorem k0_dev105_lt : ∀ (v1 : BitVec 32) (k0_hw2 : k0_chk2 v1), (k0_dev105 v1) < nD := fun v1 k0_hw2 => k0_hw2.2.1.2.2.2.2.2.2.2.2.2.2.2.2.2.2.2.2.2.2.2.2.1
theorem k0_dev107_lt : ∀ (v1 : BitVec 32) (k0_hw2 : k0_chk2 v1), (k0_dev107 v1) < nD := fun v1 k0_hw2 => k0_hw2.2.1.2.2.2.2.2.2.2.2.2.2.2.2.2.2.2.2.2.2.2.2.2.1
theorem k0_dev110_lt : ∀ (v1 : BitVec 32) (k0_hw2 : k0_chk2 v1), (k0_dev110 v1) < nD := fun v1 k0_hw2 => k0_hw2.2.1.2.2.2.2.2.2.2.2.2.2.2.2.2.2.2.2.2.2.2.2.2.2.1
theorem k0_dev111_lt : ∀ (v1 : BitVec 32) (k0_hw2 : k0_chk2 v1), (k0_dev111 v1) < nD := fun v1 k0_hw2 => k0_hw2.2.1.2.2.2.2.2.2.2.2.2.2.2.2.2.2.2.2.2.2.2.2.2.2.2.1
theorem k0_dev113_lt : ∀ (v1 : BitVec 32) (k0_hw2 : k0_chk2 v1), (k0_dev113 v1) < nD := fun v1 k0_hw2 => k0_hw2.2.1.2.2.2.2.2.2.2.2.2.2.2.2.2.2.2.2.2.2.2.2.2.2.2.2.1
theorem k0_dev115_lt : ∀ (v1 : BitVec 32) (k0_hw2 : k0_chk2 v1), (k0_dev115 v1) < nD := fun v1 k0_hw2 => k0_hw2.2.1.2.2.2.2.2.2.2.2.2.2.2.2.2.2.2.2.2.2.2.2.2.2.2.2.2.1
theorem k0_dev117_lt : ∀ (v1 : BitVec 32) (k0_hw2 : k0_chk2 v1), (k0_dev117 v1) < nD := fun v1 k0_hw2 => k0_hw2.2.1.2.2.2.2.2.2.2.2.2.2.2.2.2.2.2.2.2.2.2.2.2.2.2.2.2.2.1
theorem k0_dev120_lt : ∀ (v1 : BitVec 32) (k0_hw2 : k0_chk2 v1), (k0_dev120 v1) < nD := fun v1 k0_hw2 => k0_hw2.2.1.2.2.2.2.2.2.2.2.2.2.2.2.2.2.2.2.2.2.2.2.2.2.2.2.2.2.2.1
theorem k0_dev121_lt : ∀ (v1 : BitVec 32) (k0_hw2 : k0_chk2 v1), (k0_dev121 v1) < nD := fun v1 k0_hw2 => k0_hw2.2.1.2.2.2.2.2.2.2.2.2.2.2.2.2.2.2.2.2.2.2.2.2.2.2.2.2.2.2.2.1
theorem k0_dev123_lt : ∀ (v1 : BitVec 32) (k0_hw2 : k0_chk2 v1), (k0_dev123 v1) < nD := fun v1 k0_hw2 => k0_hw2.2.1.2.2.2.2.2.2.2.2.2.2.2.2.2.2.2.2.2.2.2.2.2.2.2.2.2.2.2.2.2.1
theorem k0_dev125_lt : ∀ (v1 : BitVec 32) (k0_hw2 : k0_chk2 v1), (k0_dev125 v1) < nD := fun v1 k0_hw2 => k0_hw2.2.1.2.2.2.2.2.2.2.2.2.2.2.2.2.2.2.2.2.2.2.2.2.2.2.2.2.2.2.2.2.2.1
theorem k0_dev127_lt : ∀ (v1 : BitVec 32) (k0_hw2 : k0_chk2 v1), (k0_dev127 v1) < nD := fun v1 k0_hw2 => k0_hw2.2.1.2.2.2.2.2.2.2.2.2.2.2.2.2.2.2.2.2.2.2.2.2.2.2.2.2.2.2.2.2.2.2
theorem k0_dev130_lt : ∀ (v1 : BitVec 32) (k0_hw2 : k0_chk2 v1), (k0_dev130 v1) < nD := fun v1 k0_hw2 => k0_hw2.2.2.1
theorem k0_dev131_lt : ∀ (v1 : BitVec 32) (k0_hw2 : k0_chk2 v1), (k0_dev131 v1) < nD := fun v1 k0_hw2 => k0_hw2.2.2.2.1
theorem k0_dev133_lt : ∀ (v1 : BitVec 32) (k0_hw2 : k0_chk2 v1), (k0_dev133 v1) < nD := fun v1 k0_hw2 => k0_hw2.2.2.2.2.1
theorem k0_dev135_lt : ∀ (v1 : BitVec 32) (k0_hw2 : k0_chk2 v1), (k0_dev135 v1) < nD := fun v1 k0_hw2 => k0_hw2.2.2.2.2.2.1
theorem k0_dev137_lt : ∀ (v1 : BitVec 32) (k0_hw2 : k0_chk2 v1), (k0_dev137 v1) < nD := fun v1 k0_hw2 => k0_hw2.2.2.2.2.2.2.1
theorem k0_dev140_lt : ∀ (v1 : BitVec 32) (k0_hw2 : k0_chk2 v1), (k0_dev140 v1) < nD := fun v1 k0_hw2 => k0_hw2.2.2.2.2.2.2.2.1
theorem k0_dev141_lt : ∀ (v1 : BitVec 32) (k0_hw2 : k0_chk2 v1), (k0_dev141 v1) < nD := fun v1 k0_hw2 => k0_hw2.2.2.2.2.2.2.2.2.1
theorem k0_dev143_lt : ∀ (v1 : BitVec 32) (k0_hw2 : k0_chk2 v1), (k0_dev143 v1) < nD := fun v1 k0_hw2 => k0_hw2.2.2.2.2.2.2.2.2.2.1
theorem k0_dev145_lt : ∀ (v1 : BitVec 32) (k0_hw2 : k0_chk2 v1), (k0_dev145 v1) < nD := fun v1 k0_hw2 => k0_hw2.2.2.2.2.2.2.2.2.2.2.1
theorem k0_dev147_lt : ∀ (v1 : BitVec 32) (k0_hw2 : k0_chk2 v1), (k0_dev147 v1) < nD := fun v1 k0_hw2 => k0_hw2.2.2.2.2.2.2.2.2.2.2.2

def k0_dev148 (v2 : BitVec 32) : Nat :=
  let c0_i32_6670 : BitVec 32 := 0#32
  let c1_i32_6669 : BitVec 32 := 1#32
  let v4297 : BitVec 32 := Scalar.muli v2 c1_i32_6669
  let v4298 : BitVec 32 := Scalar.addi c0_i32_6670 v4297
  v4298.toNat

def k0_chk1_0 (v2 : BitVec 32) : Prop :=
  ((k0_dev1 v2) < nD) ∧
  ((k0_dev4 v2) < nD) ∧
  ((k0_dev6 v2) < nD) ∧
  ((k0_dev8 v2) < nD) ∧
  ((k0_dev10 v2) < nD) ∧
  ((k0_dev12 v2) < nD) ∧
  ((k0_dev14 v2) < nD) ∧
  ((k0_dev16 v2) < nD) ∧
  ((k0_dev18 v2) < nD) ∧
  ((k0_dev19 v2) < nD) ∧
  ((k0_dev22 v2) < nD) ∧
  ((k0_dev24 v2) < nD) ∧
  ((k0_dev26 v2) < nD) ∧
  ((k0_dev28 v2) < nD) ∧
  ((k0_dev29 v2) < nD) ∧
  ((k0_dev32 v2) < nD) ∧
  ((k0_dev34 v2) < nD) ∧
  ((k0_dev36 v2) < nD) ∧
  ((k0_dev38 v2) < nD) ∧
  ((k0_dev39 v2) < nD) ∧
  ((k0_dev42 v2) < nD) ∧
  ((k0_dev44 v2) < nD) ∧
  ((k0_dev46 v2) < nD) ∧
  ((k0_dev48 v2) < nD) ∧
  ((k0_dev49 v2) < nD) ∧
  ((k0_dev52 v2) < nD) ∧
  ((k0_dev54 v2) < nD) ∧
  ((k0_dev56 v2) < nD) ∧
  ((k0_dev58 v2) < nD) ∧
  ((k0_dev59 v2) < nD) ∧
  ((k0_dev62 v2) < nD) ∧
  ((k0_dev64 v2) < nD)
def k0_chk1_1 (v2 : BitVec 32) : Prop :=
  ((k0_dev66 v2) < nD) ∧
  ((k0_dev68 v2) < nD) ∧
  ((k0_dev69 v2) < nD) ∧
  ((k0_dev72 v2) < nD) ∧
  ((k0_dev74 v2) < nD) ∧
  ((k0_dev76 v2) < nD) ∧
  ((k0_dev78 v2) < nD) ∧
  ((k0_dev79 v2) < nD) ∧
  ((k0_dev82 v2) < nD) ∧
  ((k0_dev84 v2) < nD) ∧
  ((k0_dev86 v2) < nD) ∧
  ((k0_dev88 v2) < nD) ∧
  ((k0_dev89 v2) < nD) ∧
  ((k0_dev92 v2) < nD) ∧
  ((k0_dev94 v2) < nD) ∧
  ((k0_dev96 v2) < nD) ∧
  ((k0_dev98 v2) < nD) ∧
  ((k0_dev99 v2) < nD) ∧
  ((k0_dev102 v2) < nD) ∧
  ((k0_dev104 v2) < nD) ∧
  ((k0_dev106 v2) < nD) ∧
  ((k0_dev108 v2) < nD) ∧
  ((k0_dev109 v2) < nD) ∧
  ((k0_dev112 v2) < nD) ∧
  ((k0_dev114 v2) < nD) ∧
  ((k0_dev116 v2) < nD) ∧
  ((k0_dev118 v2) < nD) ∧
  ((k0_dev119 v2) < nD) ∧
  ((k0_dev122 v2) < nD) ∧
  ((k0_dev124 v2) < nD) ∧
  ((k0_dev126 v2) < nD) ∧
  ((k0_dev128 v2) < nD)
def k0_chk1_2 (v2 : BitVec 32) : Prop :=
  ((k0_dev129 v2) < nD) ∧
  ((k0_dev132 v2) < nD) ∧
  ((k0_dev134 v2) < nD) ∧
  ((k0_dev136 v2) < nD) ∧
  ((k0_dev138 v2) < nD) ∧
  ((k0_dev139 v2) < nD) ∧
  ((k0_dev142 v2) < nD) ∧
  ((k0_dev144 v2) < nD) ∧
  ((k0_dev146 v2) < nD) ∧
  ((k0_dev148 v2) < nD)
def k0_chk1 (v2 : BitVec 32) : Prop :=
  k0_chk1_0 v2 ∧
  k0_chk1_1 v2 ∧
  k0_chk1_2 v2
theorem k0_dev1_lt : ∀ (v2 : BitVec 32) (k0_hw1 : k0_chk1 v2), (k0_dev1 v2) < nD := fun v2 k0_hw1 => k0_hw1.1.1
theorem k0_dev4_lt : ∀ (v2 : BitVec 32) (k0_hw1 : k0_chk1 v2), (k0_dev4 v2) < nD := fun v2 k0_hw1 => k0_hw1.1.2.1
theorem k0_dev6_lt : ∀ (v2 : BitVec 32) (k0_hw1 : k0_chk1 v2), (k0_dev6 v2) < nD := fun v2 k0_hw1 => k0_hw1.1.2.2.1
theorem k0_dev8_lt : ∀ (v2 : BitVec 32) (k0_hw1 : k0_chk1 v2), (k0_dev8 v2) < nD := fun v2 k0_hw1 => k0_hw1.1.2.2.2.1
theorem k0_dev10_lt : ∀ (v2 : BitVec 32) (k0_hw1 : k0_chk1 v2), (k0_dev10 v2) < nD := fun v2 k0_hw1 => k0_hw1.1.2.2.2.2.1
theorem k0_dev12_lt : ∀ (v2 : BitVec 32) (k0_hw1 : k0_chk1 v2), (k0_dev12 v2) < nD := fun v2 k0_hw1 => k0_hw1.1.2.2.2.2.2.1
theorem k0_dev14_lt : ∀ (v2 : BitVec 32) (k0_hw1 : k0_chk1 v2), (k0_dev14 v2) < nD := fun v2 k0_hw1 => k0_hw1.1.2.2.2.2.2.2.1
theorem k0_dev16_lt : ∀ (v2 : BitVec 32) (k0_hw1 : k0_chk1 v2), (k0_dev16 v2) < nD := fun v2 k0_hw1 => k0_hw1.1.2.2.2.2.2.2.2.1
theorem k0_dev18_lt : ∀ (v2 : BitVec 32) (k0_hw1 : k0_chk1 v2), (k0_dev18 v2) < nD := fun v2 k0_hw1 => k0_hw1.1.2.2.2.2.2.2.2.2.1
theorem k0_dev19_lt : ∀ (v2 : BitVec 32) (k0_hw1 : k0_chk1 v2), (k0_dev19 v2) < nD := fun v2 k0_hw1 => k0_hw1.1.2.2.2.2.2.2.2.2.2.1
theorem k0_dev22_lt : ∀ (v2 : BitVec 32) (k0_hw1 : k0_chk1 v2), (k0_dev22 v2) < nD := fun v2 k0_hw1 => k0_hw1.1.2.2.2.2.2.2.2.2.2.2.1
theorem k0_dev24_lt : ∀ (v2 : BitVec 32) (k0_hw1 : k0_chk1 v2), (k0_dev24 v2) < nD := fun v2 k0_hw1 => k0_hw1.1.2.2.2.2.2.2.2.2.2.2.2.1
theorem k0_dev26_lt : ∀ (v2 : BitVec 32) (k0_hw1 : k0_chk1 v2), (k0_dev26 v2) < nD := fun v2 k0_hw1 => k0_hw1.1.2.2.2.2.2.2.2.2.2.2.2.2.1
theorem k0_dev28_lt : ∀ (v2 : BitVec 32) (k0_hw1 : k0_chk1 v2), (k0_dev28 v2) < nD := fun v2 k0_hw1 => k0_hw1.1.2.2.2.2.2.2.2.2.2.2.2.2.2.1
theorem k0_dev29_lt : ∀ (v2 : BitVec 32) (k0_hw1 : k0_chk1 v2), (k0_dev29 v2) < nD := fun v2 k0_hw1 => k0_hw1.1.2.2.2.2.2.2.2.2.2.2.2.2.2.2.1
theorem k0_dev32_lt : ∀ (v2 : BitVec 32) (k0_hw1 : k0_chk1 v2), (k0_dev32 v2) < nD := fun v2 k0_hw1 => k0_hw1.1.2.2.2.2.2.2.2.2.2.2.2.2.2.2.2.1
theorem k0_dev34_lt : ∀ (v2 : BitVec 32) (k0_hw1 : k0_chk1 v2), (k0_dev34 v2) < nD := fun v2 k0_hw1 => k0_hw1.1.2.2.2.2.2.2.2.2.2.2.2.2.2.2.2.2.1
theorem k0_dev36_lt : ∀ (v2 : BitVec 32) (k0_hw1 : k0_chk1 v2), (k0_dev36 v2) < nD := fun v2 k0_hw1 => k0_hw1.1.2.2.2.2.2.2.2.2.2.2.2.2.2.2.2.2.2.1
theorem k0_dev38_lt : ∀ (v2 : BitVec 32) (k0_hw1 : k0_chk1 v2), (k0_dev38 v2) < nD := fun v2 k0_hw1 => k0_hw1.1.2.2.2.2.2.2.2.2.2.2.2.2.2.2.2.2.2.2.1
theorem k0_dev39_lt : ∀ (v2 : BitVec 32) (k0_hw1 : k0_chk1 v2), (k0_dev39 v2) < nD := fun v2 k0_hw1 => k0_hw1.1.2.2.2.2.2.2.2.2.2.2.2.2.2.2.2.2.2.2.2.1
theorem k0_dev42_lt : ∀ (v2 : BitVec 32) (k0_hw1 : k0_chk1 v2), (k0_dev42 v2) < nD := fun v2 k0_hw1 => k0_hw1.1.2.2.2.2.2.2.2.2.2.2.2.2.2.2.2.2.2.2.2.2.1
theorem k0_dev44_lt : ∀ (v2 : BitVec 32) (k0_hw1 : k0_chk1 v2), (k0_dev44 v2) < nD := fun v2 k0_hw1 => k0_hw1.1.2.2.2.2.2.2.2.2.2.2.2.2.2.2.2.2.2.2.2.2.2.1
theorem k0_dev46_lt : ∀ (v2 : BitVec 32) (k0_hw1 : k0_chk1 v2), (k0_dev46 v2) < nD := fun v2 k0_hw1 => k0_hw1.1.2.2.2.2.2.2.2.2.2.2.2.2.2.2.2.2.2.2.2.2.2.2.1
theorem k0_dev48_lt : ∀ (v2 : BitVec 32) (k0_hw1 : k0_chk1 v2), (k0_dev48 v2) < nD := fun v2 k0_hw1 => k0_hw1.1.2.2.2.2.2.2.2.2.2.2.2.2.2.2.2.2.2.2.2.2.2.2.2.1
theorem k0_dev49_lt : ∀ (v2 : BitVec 32) (k0_hw1 : k0_chk1 v2), (k0_dev49 v2) < nD := fun v2 k0_hw1 => k0_hw1.1.2.2.2.2.2.2.2.2.2.2.2.2.2.2.2.2.2.2.2.2.2.2.2.2.1
theorem k0_dev52_lt : ∀ (v2 : BitVec 32) (k0_hw1 : k0_chk1 v2), (k0_dev52 v2) < nD := fun v2 k0_hw1 => k0_hw1.1.2.2.2.2.2.2.2.2.2.2.2.2.2.2.2.2.2.2.2.2.2.2.2.2.2.1
theorem k0_dev54_lt : ∀ (v2 : BitVec 32) (k0_hw1 : k0_chk1 v2), (k0_dev54 v2) < nD := fun v2 k0_hw1 => k0_hw1.1.2.2.2.2.2.2.2.2.2.2.2.2.2.2.2.2.2.2.2.2.2.2.2.2.2.2.1
theorem k0_dev56_lt : ∀ (v2 : BitVec 32) (k0_hw1 : k0_chk1 v2), (k0_dev56 v2) < nD := fun v2 k0_hw1 => k0_hw1.1.2.2.2.2.2.2.2.2.2.2.2.2.2.2.2.2.2.2.2.2.2.2.2.2.2.2.2.1
theorem k0_dev58_lt : ∀ (v2 : BitVec 32) (k0_hw1 : k0_chk1 v2), (k0_dev58 v2) < nD := fun v2 k0_hw1 => k0_hw1.1.2.2.2.2.2.2.2.2.2.2.2.2.2.2.2.2.2.2.2.2.2.2.2.2.2.2.2.2.1
theorem k0_dev59_lt : ∀ (v2 : BitVec 32) (k0_hw1 : k0_chk1 v2), (k0_dev59 v2) < nD := fun v2 k0_hw1 => k0_hw1.1.2.2.2.2.2.2.2.2.2.2.2.2.2.2.2.2.2.2.2.2.2.2.2.2.2.2.2.2.2.1
theorem k0_dev62_lt : ∀ (v2 : BitVec 32) (k0_hw1 : k0_chk1 v2), (k0_dev62 v2) < nD := fun v2 k0_hw1 => k0_hw1.1.2.2.2.2.2.2.2.2.2.2.2.2.2.2.2.2.2.2.2.2.2.2.2.2.2.2.2.2.2.2.1
theorem k0_dev64_lt : ∀ (v2 : BitVec 32) (k0_hw1 : k0_chk1 v2), (k0_dev64 v2) < nD := fun v2 k0_hw1 => k0_hw1.1.2.2.2.2.2.2.2.2.2.2.2.2.2.2.2.2.2.2.2.2.2.2.2.2.2.2.2.2.2.2.2
theorem k0_dev66_lt : ∀ (v2 : BitVec 32) (k0_hw1 : k0_chk1 v2), (k0_dev66 v2) < nD := fun v2 k0_hw1 => k0_hw1.2.1.1
theorem k0_dev68_lt : ∀ (v2 : BitVec 32) (k0_hw1 : k0_chk1 v2), (k0_dev68 v2) < nD := fun v2 k0_hw1 => k0_hw1.2.1.2.1
theorem k0_dev69_lt : ∀ (v2 : BitVec 32) (k0_hw1 : k0_chk1 v2), (k0_dev69 v2) < nD := fun v2 k0_hw1 => k0_hw1.2.1.2.2.1
theorem k0_dev72_lt : ∀ (v2 : BitVec 32) (k0_hw1 : k0_chk1 v2), (k0_dev72 v2) < nD := fun v2 k0_hw1 => k0_hw1.2.1.2.2.2.1
theorem k0_dev74_lt : ∀ (v2 : BitVec 32) (k0_hw1 : k0_chk1 v2), (k0_dev74 v2) < nD := fun v2 k0_hw1 => k0_hw1.2.1.2.2.2.2.1
theorem k0_dev76_lt : ∀ (v2 : BitVec 32) (k0_hw1 : k0_chk1 v2), (k0_dev76 v2) < nD := fun v2 k0_hw1 => k0_hw1.2.1.2.2.2.2.2.1
theorem k0_dev78_lt : ∀ (v2 : BitVec 32) (k0_hw1 : k0_chk1 v2), (k0_dev78 v2) < nD := fun v2 k0_hw1 => k0_hw1.2.1.2.2.2.2.2.2.1
theorem k0_dev79_lt : ∀ (v2 : BitVec 32) (k0_hw1 : k0_chk1 v2), (k0_dev79 v2) < nD := fun v2 k0_hw1 => k0_hw1.2.1.2.2.2.2.2.2.2.1
theorem k0_dev82_lt : ∀ (v2 : BitVec 32) (k0_hw1 : k0_chk1 v2), (k0_dev82 v2) < nD := fun v2 k0_hw1 => k0_hw1.2.1.2.2.2.2.2.2.2.2.1
theorem k0_dev84_lt : ∀ (v2 : BitVec 32) (k0_hw1 : k0_chk1 v2), (k0_dev84 v2) < nD := fun v2 k0_hw1 => k0_hw1.2.1.2.2.2.2.2.2.2.2.2.1
theorem k0_dev86_lt : ∀ (v2 : BitVec 32) (k0_hw1 : k0_chk1 v2), (k0_dev86 v2) < nD := fun v2 k0_hw1 => k0_hw1.2.1.2.2.2.2.2.2.2.2.2.2.1
theorem k0_dev88_lt : ∀ (v2 : BitVec 32) (k0_hw1 : k0_chk1 v2), (k0_dev88 v2) < nD := fun v2 k0_hw1 => k0_hw1.2.1.2.2.2.2.2.2.2.2.2.2.2.1
theorem k0_dev89_lt : ∀ (v2 : BitVec 32) (k0_hw1 : k0_chk1 v2), (k0_dev89 v2) < nD := fun v2 k0_hw1 => k0_hw1.2.1.2.2.2.2.2.2.2.2.2.2.2.2.1
theorem k0_dev92_lt : ∀ (v2 : BitVec 32) (k0_hw1 : k0_chk1 v2), (k0_dev92 v2) < nD := fun v2 k0_hw1 => k0_hw1.2.1.2.2.2.2.2.2.2.2.2.2.2.2.2.1
theorem k0_dev94_lt : ∀ (v2 : BitVec 32) (k0_hw1 : k0_chk1 v2), (k0_dev94 v2) < nD := fun v2 k0_hw1 => k0_hw1.2.1.2.2.2.2.2.2.2.2.2.2.2.2.2.2.1
theorem k0_dev96_lt : ∀ (v2 : BitVec 32) (k0_hw1 : k0_chk1 v2), (k0_dev96 v2) < nD := fun v2 k0_hw1 => k0_hw1.2.1.2.2.2.2.2.2.2.2.2.2.2.2.2.2.2.1
theorem k0_dev98_lt : ∀ (v2 : BitVec 32) (k0_hw1 : k0_chk1 v2), (k0_dev98 v2) < nD := fun v2 k0_hw1 => k0_hw1.2.1.2.2.2.2.2.2.2.2.2.2.2.2.2.2.2.2.1
theorem k0_dev99_lt : ∀ (v2 : BitVec 32) (k0_hw1 : k0_chk1 v2), (k0_dev99 v2) < nD := fun v2 k0_hw1 => k0_hw1.2.1.2.2.2.2.2.2.2.2.2.2.2.2.2.2.2.2.2.1
theorem k0_dev102_lt : ∀ (v2 : BitVec 32) (k0_hw1 : k0_chk1 v2), (k0_dev102 v2) < nD := fun v2 k0_hw1 => k0_hw1.2.1.2.2.2.2.2.2.2.2.2.2.2.2.2.2.2.2.2.2.1
theorem k0_dev104_lt : ∀ (v2 : BitVec 32) (k0_hw1 : k0_chk1 v2), (k0_dev104 v2) < nD := fun v2 k0_hw1 => k0_hw1.2.1.2.2.2.2.2.2.2.2.2.2.2.2.2.2.2.2.2.2.2.1
theorem k0_dev106_lt : ∀ (v2 : BitVec 32) (k0_hw1 : k0_chk1 v2), (k0_dev106 v2) < nD := fun v2 k0_hw1 => k0_hw1.2.1.2.2.2.2.2.2.2.2.2.2.2.2.2.2.2.2.2.2.2.2.1
theorem k0_dev108_lt : ∀ (v2 : BitVec 32) (k0_hw1 : k0_chk1 v2), (k0_dev108 v2) < nD := fun v2 k0_hw1 => k0_hw1.2.1.2.2.2.2.2.2.2.2.2.2.2.2.2.2.2.2.2.2.2.2.2.1
theorem k0_dev109_lt : ∀ (v2 : BitVec 32) (k0_hw1 : k0_chk1 v2), (k0_dev109 v2) < nD := fun v2 k0_hw1 => k0_hw1.2.1.2.2.2.2.2.2.2.2.2.2.2.2.2.2.2.2.2.2.2.2.2.2.1
theorem k0_dev112_lt : ∀ (v2 : BitVec 32) (k0_hw1 : k0_chk1 v2), (k0_dev112 v2) < nD := fun v2 k0_hw1 => k0_hw1.2.1.2.2.2.2.2.2.2.2.2.2.2.2.2.2.2.2.2.2.2.2.2.2.2.1
theorem k0_dev114_lt : ∀ (v2 : BitVec 32) (k0_hw1 : k0_chk1 v2), (k0_dev114 v2) < nD := fun v2 k0_hw1 => k0_hw1.2.1.2.2.2.2.2.2.2.2.2.2.2.2.2.2.2.2.2.2.2.2.2.2.2.2.1
theorem k0_dev116_lt : ∀ (v2 : BitVec 32) (k0_hw1 : k0_chk1 v2), (k0_dev116 v2) < nD := fun v2 k0_hw1 => k0_hw1.2.1.2.2.2.2.2.2.2.2.2.2.2.2.2.2.2.2.2.2.2.2.2.2.2.2.2.1
theorem k0_dev118_lt : ∀ (v2 : BitVec 32) (k0_hw1 : k0_chk1 v2), (k0_dev118 v2) < nD := fun v2 k0_hw1 => k0_hw1.2.1.2.2.2.2.2.2.2.2.2.2.2.2.2.2.2.2.2.2.2.2.2.2.2.2.2.2.1
theorem k0_dev119_lt : ∀ (v2 : BitVec 32) (k0_hw1 : k0_chk1 v2), (k0_dev119 v2) < nD := fun v2 k0_hw1 => k0_hw1.2.1.2.2.2.2.2.2.2.2.2.2.2.2.2.2.2.2.2.2.2.2.2.2.2.2.2.2.2.1
theorem k0_dev122_lt : ∀ (v2 : BitVec 32) (k0_hw1 : k0_chk1 v2), (k0_dev122 v2) < nD := fun v2 k0_hw1 => k0_hw1.2.1.2.2.2.2.2.2.2.2.2.2.2.2.2.2.2.2.2.2.2.2.2.2.2.2.2.2.2.2.1
theorem k0_dev124_lt : ∀ (v2 : BitVec 32) (k0_hw1 : k0_chk1 v2), (k0_dev124 v2) < nD := fun v2 k0_hw1 => k0_hw1.2.1.2.2.2.2.2.2.2.2.2.2.2.2.2.2.2.2.2.2.2.2.2.2.2.2.2.2.2.2.2.1
theorem k0_dev126_lt : ∀ (v2 : BitVec 32) (k0_hw1 : k0_chk1 v2), (k0_dev126 v2) < nD := fun v2 k0_hw1 => k0_hw1.2.1.2.2.2.2.2.2.2.2.2.2.2.2.2.2.2.2.2.2.2.2.2.2.2.2.2.2.2.2.2.2.1
theorem k0_dev128_lt : ∀ (v2 : BitVec 32) (k0_hw1 : k0_chk1 v2), (k0_dev128 v2) < nD := fun v2 k0_hw1 => k0_hw1.2.1.2.2.2.2.2.2.2.2.2.2.2.2.2.2.2.2.2.2.2.2.2.2.2.2.2.2.2.2.2.2.2
theorem k0_dev129_lt : ∀ (v2 : BitVec 32) (k0_hw1 : k0_chk1 v2), (k0_dev129 v2) < nD := fun v2 k0_hw1 => k0_hw1.2.2.1
theorem k0_dev132_lt : ∀ (v2 : BitVec 32) (k0_hw1 : k0_chk1 v2), (k0_dev132 v2) < nD := fun v2 k0_hw1 => k0_hw1.2.2.2.1
theorem k0_dev134_lt : ∀ (v2 : BitVec 32) (k0_hw1 : k0_chk1 v2), (k0_dev134 v2) < nD := fun v2 k0_hw1 => k0_hw1.2.2.2.2.1
theorem k0_dev136_lt : ∀ (v2 : BitVec 32) (k0_hw1 : k0_chk1 v2), (k0_dev136 v2) < nD := fun v2 k0_hw1 => k0_hw1.2.2.2.2.2.1
theorem k0_dev138_lt : ∀ (v2 : BitVec 32) (k0_hw1 : k0_chk1 v2), (k0_dev138 v2) < nD := fun v2 k0_hw1 => k0_hw1.2.2.2.2.2.2.1
theorem k0_dev139_lt : ∀ (v2 : BitVec 32) (k0_hw1 : k0_chk1 v2), (k0_dev139 v2) < nD := fun v2 k0_hw1 => k0_hw1.2.2.2.2.2.2.2.1
theorem k0_dev142_lt : ∀ (v2 : BitVec 32) (k0_hw1 : k0_chk1 v2), (k0_dev142 v2) < nD := fun v2 k0_hw1 => k0_hw1.2.2.2.2.2.2.2.2.1
theorem k0_dev144_lt : ∀ (v2 : BitVec 32) (k0_hw1 : k0_chk1 v2), (k0_dev144 v2) < nD := fun v2 k0_hw1 => k0_hw1.2.2.2.2.2.2.2.2.2.1
theorem k0_dev146_lt : ∀ (v2 : BitVec 32) (k0_hw1 : k0_chk1 v2), (k0_dev146 v2) < nD := fun v2 k0_hw1 => k0_hw1.2.2.2.2.2.2.2.2.2.2.1
theorem k0_dev148_lt : ∀ (v2 : BitVec 32) (k0_hw1 : k0_chk1 v2), (k0_dev148 v2) < nD := fun v2 k0_hw1 => k0_hw1.2.2.2.2.2.2.2.2.2.2.2

def k0_off61 (v0 : BitVec 32) : Fin 1 → Nat :=
  let v4310 : Index := Scalar.indexCast v0
  ![v4310.toNat]

def k0_chk3 (v0 : BitVec 32) : Prop :=
  (∀ a, (k0_off1 v0) a + S1.size a ≤ S16.size a) ∧
  (∀ a, (k0_off2 v0) a + S1.size a ≤ S16.size a) ∧
  (∀ a, (k0_off5 v0) a + S1.size a ≤ S16.size a) ∧
  (∀ a, (k0_off6 v0) a + S1.size a ≤ S16.size a) ∧
  (∀ a, (k0_off9 v0) a + S1.size a ≤ S16.size a) ∧
  (∀ a, (k0_off10 v0) a + S1.size a ≤ S16.size a) ∧
  (∀ a, (k0_off13 v0) a + S1.size a ≤ S16.size a) ∧
  (∀ a, (k0_off14 v0) a + S1.size a ≤ S16.size a) ∧
  (∀ a, (k0_off17 v0) a + S1.size a ≤ S16.size a) ∧
  (∀ a, (k0_off18 v0) a + S1.size a ≤ S16.size a) ∧
  (∀ a, (k0_off21 v0) a + S1.size a ≤ S16.size a) ∧
  (∀ a, (k0_off22 v0) a + S1.size a ≤ S16.size a) ∧
  (∀ a, (k0_off25 v0) a + S1.size a ≤ S16.size a) ∧
  (∀ a, (k0_off26 v0) a + S1.size a ≤ S16.size a) ∧
  (∀ a, (k0_off29 v0) a + S1.size a ≤ S16.size a) ∧
  (∀ a, (k0_off30 v0) a + S1.size a ≤ S16.size a) ∧
  (∀ a, (k0_off33 v0) a + S1.size a ≤ S16.size a) ∧
  (∀ a, (k0_off34 v0) a + S1.size a ≤ S16.size a) ∧
  (∀ a, (k0_off37 v0) a + S1.size a ≤ S16.size a) ∧
  (∀ a, (k0_off38 v0) a + S1.size a ≤ S16.size a) ∧
  (∀ a, (k0_off41 v0) a + S1.size a ≤ S16.size a) ∧
  (∀ a, (k0_off42 v0) a + S1.size a ≤ S16.size a) ∧
  (∀ a, (k0_off45 v0) a + S1.size a ≤ S16.size a) ∧
  (∀ a, (k0_off46 v0) a + S1.size a ≤ S16.size a) ∧
  (∀ a, (k0_off49 v0) a + S1.size a ≤ S16.size a) ∧
  (∀ a, (k0_off50 v0) a + S1.size a ≤ S16.size a) ∧
  (∀ a, (k0_off53 v0) a + S1.size a ≤ S16.size a) ∧
  (∀ a, (k0_off54 v0) a + S1.size a ≤ S16.size a) ∧
  (∀ a, (k0_off57 v0) a + S1.size a ≤ S16.size a) ∧
  (∀ a, (k0_off58 v0) a + S1.size a ≤ S16.size a) ∧
  (∀ a, (k0_off61 v0) a + S1.size a ≤ S16.size a)
theorem k0_off1_inb : ∀ (v0 : BitVec 32) (k0_hw3 : k0_chk3 v0), ∀ a, (k0_off1 v0) a + S1.size a ≤ S16.size a := fun v0 k0_hw3 => k0_hw3.1
theorem k0_off2_inb : ∀ (v0 : BitVec 32) (k0_hw3 : k0_chk3 v0), ∀ a, (k0_off2 v0) a + S1.size a ≤ S16.size a := fun v0 k0_hw3 => k0_hw3.2.1
theorem k0_off5_inb : ∀ (v0 : BitVec 32) (k0_hw3 : k0_chk3 v0), ∀ a, (k0_off5 v0) a + S1.size a ≤ S16.size a := fun v0 k0_hw3 => k0_hw3.2.2.1
theorem k0_off6_inb : ∀ (v0 : BitVec 32) (k0_hw3 : k0_chk3 v0), ∀ a, (k0_off6 v0) a + S1.size a ≤ S16.size a := fun v0 k0_hw3 => k0_hw3.2.2.2.1
theorem k0_off9_inb : ∀ (v0 : BitVec 32) (k0_hw3 : k0_chk3 v0), ∀ a, (k0_off9 v0) a + S1.size a ≤ S16.size a := fun v0 k0_hw3 => k0_hw3.2.2.2.2.1
theorem k0_off10_inb : ∀ (v0 : BitVec 32) (k0_hw3 : k0_chk3 v0), ∀ a, (k0_off10 v0) a + S1.size a ≤ S16.size a := fun v0 k0_hw3 => k0_hw3.2.2.2.2.2.1
theorem k0_off13_inb : ∀ (v0 : BitVec 32) (k0_hw3 : k0_chk3 v0), ∀ a, (k0_off13 v0) a + S1.size a ≤ S16.size a := fun v0 k0_hw3 => k0_hw3.2.2.2.2.2.2.1
theorem k0_off14_inb : ∀ (v0 : BitVec 32) (k0_hw3 : k0_chk3 v0), ∀ a, (k0_off14 v0) a + S1.size a ≤ S16.size a := fun v0 k0_hw3 => k0_hw3.2.2.2.2.2.2.2.1
theorem k0_off17_inb : ∀ (v0 : BitVec 32) (k0_hw3 : k0_chk3 v0), ∀ a, (k0_off17 v0) a + S1.size a ≤ S16.size a := fun v0 k0_hw3 => k0_hw3.2.2.2.2.2.2.2.2.1
theorem k0_off18_inb : ∀ (v0 : BitVec 32) (k0_hw3 : k0_chk3 v0), ∀ a, (k0_off18 v0) a + S1.size a ≤ S16.size a := fun v0 k0_hw3 => k0_hw3.2.2.2.2.2.2.2.2.2.1
theorem k0_off21_inb : ∀ (v0 : BitVec 32) (k0_hw3 : k0_chk3 v0), ∀ a, (k0_off21 v0) a + S1.size a ≤ S16.size a := fun v0 k0_hw3 => k0_hw3.2.2.2.2.2.2.2.2.2.2.1
theorem k0_off22_inb : ∀ (v0 : BitVec 32) (k0_hw3 : k0_chk3 v0), ∀ a, (k0_off22 v0) a + S1.size a ≤ S16.size a := fun v0 k0_hw3 => k0_hw3.2.2.2.2.2.2.2.2.2.2.2.1
theorem k0_off25_inb : ∀ (v0 : BitVec 32) (k0_hw3 : k0_chk3 v0), ∀ a, (k0_off25 v0) a + S1.size a ≤ S16.size a := fun v0 k0_hw3 => k0_hw3.2.2.2.2.2.2.2.2.2.2.2.2.1
theorem k0_off26_inb : ∀ (v0 : BitVec 32) (k0_hw3 : k0_chk3 v0), ∀ a, (k0_off26 v0) a + S1.size a ≤ S16.size a := fun v0 k0_hw3 => k0_hw3.2.2.2.2.2.2.2.2.2.2.2.2.2.1
theorem k0_off29_inb : ∀ (v0 : BitVec 32) (k0_hw3 : k0_chk3 v0), ∀ a, (k0_off29 v0) a + S1.size a ≤ S16.size a := fun v0 k0_hw3 => k0_hw3.2.2.2.2.2.2.2.2.2.2.2.2.2.2.1
theorem k0_off30_inb : ∀ (v0 : BitVec 32) (k0_hw3 : k0_chk3 v0), ∀ a, (k0_off30 v0) a + S1.size a ≤ S16.size a := fun v0 k0_hw3 => k0_hw3.2.2.2.2.2.2.2.2.2.2.2.2.2.2.2.1
theorem k0_off33_inb : ∀ (v0 : BitVec 32) (k0_hw3 : k0_chk3 v0), ∀ a, (k0_off33 v0) a + S1.size a ≤ S16.size a := fun v0 k0_hw3 => k0_hw3.2.2.2.2.2.2.2.2.2.2.2.2.2.2.2.2.1
theorem k0_off34_inb : ∀ (v0 : BitVec 32) (k0_hw3 : k0_chk3 v0), ∀ a, (k0_off34 v0) a + S1.size a ≤ S16.size a := fun v0 k0_hw3 => k0_hw3.2.2.2.2.2.2.2.2.2.2.2.2.2.2.2.2.2.1
theorem k0_off37_inb : ∀ (v0 : BitVec 32) (k0_hw3 : k0_chk3 v0), ∀ a, (k0_off37 v0) a + S1.size a ≤ S16.size a := fun v0 k0_hw3 => k0_hw3.2.2.2.2.2.2.2.2.2.2.2.2.2.2.2.2.2.2.1
theorem k0_off38_inb : ∀ (v0 : BitVec 32) (k0_hw3 : k0_chk3 v0), ∀ a, (k0_off38 v0) a + S1.size a ≤ S16.size a := fun v0 k0_hw3 => k0_hw3.2.2.2.2.2.2.2.2.2.2.2.2.2.2.2.2.2.2.2.1
theorem k0_off41_inb : ∀ (v0 : BitVec 32) (k0_hw3 : k0_chk3 v0), ∀ a, (k0_off41 v0) a + S1.size a ≤ S16.size a := fun v0 k0_hw3 => k0_hw3.2.2.2.2.2.2.2.2.2.2.2.2.2.2.2.2.2.2.2.2.1
theorem k0_off42_inb : ∀ (v0 : BitVec 32) (k0_hw3 : k0_chk3 v0), ∀ a, (k0_off42 v0) a + S1.size a ≤ S16.size a := fun v0 k0_hw3 => k0_hw3.2.2.2.2.2.2.2.2.2.2.2.2.2.2.2.2.2.2.2.2.2.1
theorem k0_off45_inb : ∀ (v0 : BitVec 32) (k0_hw3 : k0_chk3 v0), ∀ a, (k0_off45 v0) a + S1.size a ≤ S16.size a := fun v0 k0_hw3 => k0_hw3.2.2.2.2.2.2.2.2.2.2.2.2.2.2.2.2.2.2.2.2.2.2.1
theorem k0_off46_inb : ∀ (v0 : BitVec 32) (k0_hw3 : k0_chk3 v0), ∀ a, (k0_off46 v0) a + S1.size a ≤ S16.size a := fun v0 k0_hw3 => k0_hw3.2.2.2.2.2.2.2.2.2.2.2.2.2.2.2.2.2.2.2.2.2.2.2.1
theorem k0_off49_inb : ∀ (v0 : BitVec 32) (k0_hw3 : k0_chk3 v0), ∀ a, (k0_off49 v0) a + S1.size a ≤ S16.size a := fun v0 k0_hw3 => k0_hw3.2.2.2.2.2.2.2.2.2.2.2.2.2.2.2.2.2.2.2.2.2.2.2.2.1
theorem k0_off50_inb : ∀ (v0 : BitVec 32) (k0_hw3 : k0_chk3 v0), ∀ a, (k0_off50 v0) a + S1.size a ≤ S16.size a := fun v0 k0_hw3 => k0_hw3.2.2.2.2.2.2.2.2.2.2.2.2.2.2.2.2.2.2.2.2.2.2.2.2.2.1
theorem k0_off53_inb : ∀ (v0 : BitVec 32) (k0_hw3 : k0_chk3 v0), ∀ a, (k0_off53 v0) a + S1.size a ≤ S16.size a := fun v0 k0_hw3 => k0_hw3.2.2.2.2.2.2.2.2.2.2.2.2.2.2.2.2.2.2.2.2.2.2.2.2.2.2.1
theorem k0_off54_inb : ∀ (v0 : BitVec 32) (k0_hw3 : k0_chk3 v0), ∀ a, (k0_off54 v0) a + S1.size a ≤ S16.size a := fun v0 k0_hw3 => k0_hw3.2.2.2.2.2.2.2.2.2.2.2.2.2.2.2.2.2.2.2.2.2.2.2.2.2.2.2.1
theorem k0_off57_inb : ∀ (v0 : BitVec 32) (k0_hw3 : k0_chk3 v0), ∀ a, (k0_off57 v0) a + S1.size a ≤ S16.size a := fun v0 k0_hw3 => k0_hw3.2.2.2.2.2.2.2.2.2.2.2.2.2.2.2.2.2.2.2.2.2.2.2.2.2.2.2.2.1
theorem k0_off58_inb : ∀ (v0 : BitVec 32) (k0_hw3 : k0_chk3 v0), ∀ a, (k0_off58 v0) a + S1.size a ≤ S16.size a := fun v0 k0_hw3 => k0_hw3.2.2.2.2.2.2.2.2.2.2.2.2.2.2.2.2.2.2.2.2.2.2.2.2.2.2.2.2.2.1
theorem k0_off61_inb : ∀ (v0 : BitVec 32) (k0_hw3 : k0_chk3 v0), ∀ a, (k0_off61 v0) a + S1.size a ≤ S16.size a := fun v0 k0_hw3 => k0_hw3.2.2.2.2.2.2.2.2.2.2.2.2.2.2.2.2.2.2.2.2.2.2.2.2.2.2.2.2.2.2

def k0_off62 (v4311 : BitVec 32) : Fin 2 → Nat :=
  let c256_i32_6677 : BitVec 32 := 256#32
  let v4312 : BitVec 32 := Scalar.muli v4311 c256_i32_6677
  let v4313 : Index := Scalar.indexCast v4312
  let c0_6678 : Index := 0#32
  ![v4313.toNat, 0]

def k0_chk34 (v4311 : BitVec 32) : Prop :=
  (∀ a, (k0_off62 v4311) a + S256x256.size a ≤ S4096x256.size a)
theorem k0_off62_inb : ∀ (v4311 : BitVec 32) (k0_hw34 : k0_chk34 v4311), ∀ a, (k0_off62 v4311) a + S256x256.size a ≤ S4096x256.size a := fun v4311 k0_hw34 => k0_hw34

abbrev stage0_0 : Fin 1 → Memref sig .tc .vmem S4096x256 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S16 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Norm.lean ====
/- The kernel's body, written once per ring step instead of unrolled: `body` is the same program as the printed
   `cc0_body` at the buffers it is called with (`body_eq`), with the step number, the sub-block and the slot as
   parameters. -/
module

public import proofs.«01_k».proof.Proof.Gen.KernelIdeal.Regions

@[expose] public section

noncomputable section

namespace Cert.KernelIdeal.Ring

open Idealize.ShloMosaic Idealize.ShloMosaic.TcCoe Idealize.SL.Sem Cert.KernelIdeal.Gen

variable {F : FTy → Type} [FloatOps F]

/-- A program of the kernel's thread. -/
abbrev PR (F : FTy → Type) [FloatOps F] : Type 1 := Prog (TpuEff nD τ sig (Elt F) Λ₀ .tc) PUnit

/-! ## Buffers, views and semaphores -/

abbrev xM : Memref sig .tc .vmem S4096x256 .fp8e5m2 := Memref.whole cc0_stg0_0
abbrev wM : Memref sig .tc .vmem S256x2048 .fp8e5m2 := Memref.whole cc0_stg1_0
abbrev sxM : Memref sig .tc .smem S1 .f32 := Memref.whole cc0_stg2_0
abbrev swM : Memref sig .tc .smem S1 .f32 := Memref.whole cc0_stg3_0
abbrev posM : Memref sig .tc .smem S1 .i32 := Memref.whole cc0_stg4_0
abbrev nxtM : Memref sig .tc .smem S1 .i32 := Memref.whole cc0_stg5_0
abbrev prvM : Memref sig .tc .smem S1 .i32 := Memref.whole cc0_stg6_0
abbrev ringM : Memref sig .tc .smem S16 .i32 := Memref.whole cc0_stg7_0
abbrev outM : Memref sig .tc .vmem S256x2048 .f32 := Memref.whole cc0_stg8_0

/-- The buffer a device sends from, per direction: 0 to the next device of the ring, 1 to the previous one. -/
abbrev sRef : Fin 2 → Ref sig .tc
  | 0 => cc0_scratch0
  | 1 => cc0_scratch1
/-- The buffer a device receives into, per direction. -/
abbrev rRef : Fin 2 → Ref sig .tc
  | 0 => cc0_scratch2
  | 1 => cc0_scratch3

abbrev sM : Fin 2 → Memref sig .tc .vmem S2x4x256x256 .bf16
  | 0 => Memref.whole cc0_scratch0
  | 1 => Memref.whole cc0_scratch1
abbrev rM : Fin 2 → Memref sig .tc .vmem S2x4x256x256 .bf16
  | 0 => Memref.whole cc0_scratch2
  | 1 => Memref.whole cc0_scratch3

theorem inb_blk : ∀ (b : Fin 2) (s : Fin 4), ∀ a, (![b.val, s.val, 0, 0] : Fin 4 → ℕ) a + S1x1x256x256.size a ≤ S2x4x256x256.size a := by decide
theorem inb_sem3 : ∀ (d b : Fin 2) (s : Fin 4), ∀ a, (![d.val, b.val, s.val] : Fin 3 → ℕ) a + S1x1x1.size a ≤ S2x2x4.size a := by decide
theorem inb_sem2 : ∀ (d b : Fin 2), ∀ a, (![d.val, b.val] : Fin 2 → ℕ) a + S1x1.size a ≤ S2x2.size a := by decide
theorem inb_out : ∀ (d : Fin 2) (s : Fin 4), ∀ a, (![0, 1024 * d.val + 256 * s.val] : Fin 2 → ℕ) a + S256x256.size a ≤ S256x2048.size a := by decide
theorem inb_w : ∀ (d : Fin 2), ∀ a, (![0, 1024 * d.val] : Fin 2 → ℕ) a + S256x1024.size a ≤ S256x2048.size a := by decide
theorem inb_cut : ∀ (s : Fin 4), S256x1024.Slices ![0, 256 * s.val] S256x256 := by decide

/-- Block `[b, s]` of a send or receive buffer: slot `b`, sub-block `s`. -/
abbrev blkR (b : Fin 2) (s : Fin 4) : Rect S2x4x256x256 := Rect.unit (s := S2x4x256x256) ![b.val, s.val, 0, 0] S1x1x256x256.size (inb_blk b s)
/-- The same block as a matrix. -/
abbrev blkM (M : Memref sig .tc .vmem S2x4x256x256 .bf16) (b : Fin 2) (s : Fin 4) : Memref sig .tc .vmem S256x256 .bf16 :=
  (M.slice (blkR b s) (fun _ => rfl)).squeeze S256x256 squeezes_S1x1x256x256_S256x256

/-- The send semaphore of direction `d`, slot `b`, sub-block `s`. -/
abbrev sndS (d b : Fin 2) (s : Fin 4) : DmaSem sig :=
  ((cc0_scratch4.slice (Rect.unit (s := S2x2x4) ![d.val, b.val, s.val] S1x1x1.size (inb_sem3 d b s))).squeeze S_ squeezes_S1x1x1_S_).sem
/-- The receive semaphore of direction `d`, slot `b`, sub-block `s`. -/
abbrev rcvS (d b : Fin 2) (s : Fin 4) : DmaSem sig :=
  ((cc0_scratch5.slice (Rect.unit (s := S2x2x4) ![d.val, b.val, s.val] S1x1x1.size (inb_sem3 d b s))).squeeze S_ squeezes_S1x1x1_S_).sem
/-- The credit semaphore of direction `d`, slot `b`. -/
abbrev crdS (d b : Fin 2) : Sem sig :=
  ((cc0_scratch6.slice (Rect.unit (s := S2x2) ![d.val, b.val] S1x1.size (inb_sem2 d b))).squeeze S_ squeezes_S1x1_S_).sem
/-- The barrier semaphore. -/
abbrev barS : Sem sig := (SemArray.scalar (sig.barrier 0 rfl) : Sems sig S_).sem

theorem packed_blk : ∀ (b : Fin 2) (s : Fin 4), (blkR b s).PackedRows (EltTy.packing .bf16) := by decide
theorem words_blk : ∀ (b : Fin 2) (s : Fin 4), (blkR b s).WholeWords (EltTy.packing .bf16) := by decide
theorem whole_s : ∀ d, (sM d).IsWhole
  | 0 => Memref.isWhole_whole _
  | 1 => Memref.isWhole_whole _
theorem whole_r : ∀ d, (rM d).IsWhole
  | 0 => Memref.isWhole_whole _
  | 1 => Memref.isWhole_whole _

/-- The slot of step `h`. -/
abbrev slot (h : ℕ) : Fin 2 := ⟨h % 2, Nat.mod_lt _ (by decide)⟩

/-! ## Offsets the body computes from the words it loads -/

/-- Where the body finds, in the ring table, the device whose rows it handles in direction `d` at step `h`. -/
abbrev ringOff (d : Fin 2) (v0 : BitVec 32) (h : ℕ) : Fin 1 → ℕ :=
  match d with
  | 0 => ![(Scalar.indexCast (Scalar.remsi (Scalar.subi (Scalar.subi (Scalar.addi v0 32#32) (BitVec.ofNat 32 h)) 1#32) 16#32) : Index).toNat]
  | 1 => ![(Scalar.indexCast (Scalar.remsi (Scalar.addi (Scalar.addi v0 (BitVec.ofNat 32 h)) 1#32) 16#32) : Index).toNat]

set_option maxRecDepth 4000 in
theorem ringOff_inb (v0 : BitVec 32) (hv : k0_chk3 v0) (d : Fin 2) (h : ℕ) (hh : h < 15) :
    ∀ a, ringOff d v0 h a + S1.size a ≤ S16.size a := by
  obtain ⟨h0, h1, h2, h3, h4, h5, h6, h7, h8, h9, h10, h11, h12, h13, h14, h15, h16, h17, h18, h19, h20, h21, h22, h23, h24, h25, h26, h27, h28, h29, -⟩ := hv
  match d with
  | 0 => exact match h, hh with
    | 0, _ => h0 | 1, _ => h2 | 2, _ => h4 | 3, _ => h6 | 4, _ => h8 | 5, _ => h10 | 6, _ => h12 | 7, _ => h14
    | 8, _ => h16 | 9, _ => h18 | 10, _ => h20 | 11, _ => h22 | 12, _ => h24 | 13, _ => h26 | 14, _ => h28
    | h + 15, hh => absurd hh (by omega)
  | 1 => exact match h, hh with
    | 0, _ => h1 | 1, _ => h3 | 2, _ => h5 | 3, _ => h7 | 4, _ => h9 | 5, _ => h11 | 6, _ => h13 | 7, _ => h15
    | 8, _ => h17 | 9, _ => h19 | 10, _ => h21 | 11, _ => h23 | 12, _ => h25 | 13, _ => h27 | 14, _ => h29
    | h + 15, hh => absurd hh (by omega)

/-- The device a word names. -/
abbrev devOf (v : BitVec 32) (h : k0_dev1 v < nD) : Dev nD := ⟨k0_dev1 v, h⟩

/-! ## The operations of a step, each before the rest of the program -/

/-- Load block `[b, s]` of a buffer. -/
abbrev ldBlk (M : Memref sig .tc .vmem S2x4x256x256 .bf16) (b : Fin 2) (s : Fin 4) (k : Vec F S1x1x256x256 .bf16 → PR F) : PR F :=
  .op (.load M (blkR b s).toLoadRect (View.loadsAt_vmem h_S1x1x256x256)) k
/-- Store a matrix into block `[b, s]` of the send buffer of direction `d`. -/
abbrev stBlk (d b : Fin 2) (s : Fin 4) (v : FVec F S256x256 .bf16) (k : PR F) : PR F :=
  .op (.store (sM d) (blkR b s) (shapeCast S1x1x256x256 v shapeCasts_S256x256_S1x1x256x256) Finset.univ
    (View.stores_vmem h_S1x1x256x256 ((whole_s d).storeExact_slice rfl _ (packed_blk b s)) (fun _ => rfl)) (.inl rfl)) fun _ => k
/-- Send block `[b, s]` in direction `d` to device `n`. -/
abbrev send (n : Dev nD) (d b : Fin 2) (s : Fin 4) (k : PR F) : PR F :=
  .op (.enqueueDma (blkM (sM d) b s) (.remote (Dev.tc n) (blkM (rM d) b s) (.dma (sndS d b s))) (.dma (rcvS d b s))
    (((whole_s d).wordExact_slice rfl _ (words_blk b s)).reshape _ _) (((whole_r d).wordExact_slice rfl _ (words_blk b s)).reshape _ _)
    ⟨⟨rfl, Or.inl rfl⟩, trivial⟩) fun _ => k
/-- Wait for the arrival in direction `d` of block `[b, s]`. -/
abbrev waitRecv (d b : Fin 2) (s : Fin 4) (k : PR F) : PR F :=
  .op (.waitDma2 (rcvS d b s) (blkM (sM d) b s) (blkM (rM d) b s)
    (((whole_s d).wordExact_slice rfl _ (words_blk b s)).reshape _ _) (((whole_r d).wordExact_slice rfl _ (words_blk b s)).reshape _ _)) fun _ => k
/-- Wait until block `[b, s]` sent in direction `d` has left. -/
abbrev waitSend (d b : Fin 2) (s : Fin 4) (k : PR F) : PR F :=
  .op (.waitDma2 (sndS d b s) (blkM (rM d) b s) (blkM (sM d) b s)
    (((whole_r d).wordExact_slice rfl _ (words_blk b s)).reshape _ _) (((whole_s d).wordExact_slice rfl _ (words_blk b s)).reshape _ _)) fun _ => k
/-- Signal one unit to semaphore `q` of device `n`. -/
abbrev signal (n : Dev nD) (q : Sem sig) (k : PR F) : PR F := .op (.semSignal (n, .tc) q (1#32 : BitVec 32).toInt) fun _ => k
/-- Wait for `v` units on semaphore `q`. -/
abbrev waitSem (q : Sem sig) (v : BitVec 32) (k : PR F) : PR F := .op (.semWait q v.toInt) fun _ => k

/-- Columns `[256 s, 256 s + 256)` of a product. -/
abbrev cut (s : Fin 4) (l : FVec F S256x1024 .f32) : FVec F S256x256 .f32 :=
  extractStridedSlice S256x256 ![0, 256 * s.val] l (inb_cut s)
/-- A received block plus the matching columns of a product. -/
abbrev accum (s : Fin 4) (f : Vec F S1x1x256x256 .bf16) (l : FVec F S256x1024 .f32) : FVec F S256x256 .f32 :=
  addf (extf .f32 (shapeCast S256x256 f shapeCasts_S1x1x256x256_S256x256) bitsLt_bf16_f32) (cut s l)
/-- The product of a block of 256 rows of `x` with half of `w`. -/
abbrev prod (x : Vec F S256x256 .fp8e5m2) (w : Vec F S256x1024 .fp8e5m2) : FVec F S256x1024 .f32 :=
  matmul dot_S256x256_S256x1024_S256x1024_1_0_0_1_n_n none (shapeCast S256x256 x shapeCasts_S256x256_S256x256)
    (shapeCast S256x1024 w shapeCasts_S256x1024_S256x1024) (constant S256x1024 .f32 0x00000000#32)

/-- Load the rows of `x` that belong to the device `v` names. -/
abbrev ldX (v : BitVec 32) (hv : k0_chk4 v) (k : Vec F S256x256 .fp8e5m2 → PR F) : PR F :=
  .op (.load xM (Rect.unit (s := S4096x256) (k0_off3 v) S256x256.size hv).toLoadRect (View.loadsAt_vmem h_S256x256)) k
/-- Load one half of `w`'s columns. -/
abbrev ldW (d : Fin 2) (k : Vec F S256x1024 .fp8e5m2 → PR F) : PR F :=
  .op (.load wM (Rect.unit (s := S256x2048) ![0, 1024 * d.val] S256x1024.size (inb_w d)).toLoadRect (View.loadsAt_vmem h_S256x1024)) k
/-- Load the one word at offset `o` of a table in scalar memory. -/
abbrev ldS {s : Shape} {e : EltTy} (M : Memref sig .tc .smem s e) (r : Rect s) (h1 : r.shape.numel = 1) (hp : e.packing = 1)
    (k : Elt F e → PR F) : PR F :=
  smemLoadElt M r (View.loads_smem_one hp h1) (Shape.Idx.first (h1.symm ▸ Nat.one_pos)) k

/-! ## A step -/

/-- The end of a sub-block: both partial sums are rounded, put into the send buffers and sent. -/
def emit (n p : Dev nD) (b : Fin 2) (s : Fin 4) (a0 a1 : FVec F S256x256 .f32) (k : PR F) : PR F :=
  ldBlk (sM 0) b s fun _ => stBlk 0 b s (truncf .bf16 a0 bitsLt_bf16_f32) <|
  ldBlk (sM 1) b s fun _ => stBlk 1 b s (truncf .bf16 a1 bitsLt_bf16_f32) <|
  send n 0 b s <| send p 1 b s k

/-- Wait for what the previous step's neighbours sent of sub-block `s` and add it to this step's products. -/
def fetch (b : Fin 2) (s : Fin 4) (l0 l1 : FVec F S256x1024 .f32) (k : FVec F S256x256 .f32 → FVec F S256x256 .f32 → PR F) : PR F :=
  waitRecv 0 b s <| waitRecv 1 b s <|
  ldBlk (rM 0) b s fun f0 => ldBlk (rM 1) b s fun f1 => k (accum s f0 l0) (accum s f1 l1)

/-- Wait until both blocks sent two steps ago have left. -/
def drain (b : Fin 2) (s : Fin 4) (k : PR F) : PR F := waitSend 0 b s <| waitSend 1 b s k

/-- Sub-block `s` of step `h`. -/
def sub (n p : Dev nD) (h : ℕ) (s : Fin 4) (l0 l1 : FVec F S256x1024 .f32) (k : PR F) : PR F :=
  match h with
  | 0 => emit n p (slot 0) s (cut s l0) (cut s l1) k
  | 1 => fetch (slot 0) s l0 l1 fun a0 a1 => emit n p (slot 1) s a0 a1 k
  | h + 2 => fetch (slot (h + 1)) s l0 l1 fun a0 a1 => drain (slot (h + 2)) s <| emit n p (slot (h + 2)) s a0 a1 k

/-- The products of step `h`: the rows of `x` of two devices, each against half of `w`. -/
def prods (v0 : BitVec 32) (h : ℕ) (h0 : ∀ a, ringOff 0 v0 h a + S1.size a ≤ S16.size a) (h1 : ∀ a, ringOff 1 v0 h a + S1.size a ≤ S16.size a)
    (k : FVec F S256x1024 .f32 → FVec F S256x1024 .f32 → PR F) : PR F :=
  ldS ringM (Rect.unit (s := S16) (ringOff 0 v0 h) S1.size h0) numel1_S1 rfl fun c0 =>
  .op (.assume (k0_chk4 c0) (k0_chk4.dec c0)) fun a0 =>
  ldS ringM (Rect.unit (s := S16) (ringOff 1 v0 h) S1.size h1) numel1_S1 rfl fun c1 =>
  .op (.assume (k0_chk4 c1) (k0_chk4.dec c1)) fun a1 =>
  ldX c0 a0.down fun x0 => ldW 0 fun w0 => ldX c1 a1.down fun x1 => ldW 1 fun w1 => k (prod x0 w0) (prod x1 w1)

/-- The four sub-blocks of step `h`. -/
def subs (n p : Dev nD) (h : ℕ) (l0 l1 : FVec F S256x1024 .f32) (k : PR F) : PR F :=
  sub n p h 0 l0 l1 <| sub n p h 1 l0 l1 <| sub n p h 2 l0 l1 <| sub n p h 3 l0 l1 k

/-- Wait for leave to reuse the neighbours' receive buffers at slot `b`. -/
def takeCredit (b : Fin 2) (k : PR F) : PR F := waitSem (crdS 0 b) 1#32 <| waitSem (crdS 1 b) 1#32 k

/-- Tell both neighbours that this device's receive buffers at slot `b` may be reused. -/
def giveCredit (n p : Dev nD) (b : Fin 2) (k : PR F) : PR F := signal p (crdS 0 b) <| signal n (crdS 1 b) k

/-- Ring step `h`, one of fifteen. -/
def step (v0 : BitVec 32) (n p : Dev nD) (h : ℕ) (h0 : ∀ a, ringOff 0 v0 h a + S1.size a ≤ S16.size a)
    (h1 : ∀ a, ringOff 1 v0 h a + S1.size a ≤ S16.size a) (k : PR F) : PR F :=
  prods v0 h h0 h1 fun l0 l1 =>
  match h with
  | 0 => subs n p 0 l0 l1 k
  | 1 => subs n p 1 l0 l1 <| giveCredit n p (slot 0) k
  | 14 => takeCredit (slot 14) <| subs n p 14 l0 l1 k
  | h + 2 => takeCredit (slot (h + 2)) <| subs n p (h + 2) l0 l1 <| giveCredit n p (slot (h + 1)) k

/-- The steps from `h` on, `m` of them. -/
def steps (v0 : BitVec 32) (hv : k0_chk3 v0) (n p : Dev nD) (k : PR F) : (m h : ℕ) → m + h = 15 → PR F
  | 0, _, _ => k
  | m + 1, h, e => step v0 n p h (ringOff_inb v0 hv 0 h (by omega)) (ringOff_inb v0 hv 1 h (by omega)) (steps v0 hv n p k m (h + 1) (by omega))

/-! ## After the steps -/

/-- Load-and-store of one block of the result. -/
def putOut (d : Fin 2) (s : Fin 4) (sc : F .f32) (a : FVec F S256x256 .f32) (k : PR F) : PR F :=
  .op (.load outM (Rect.unit (s := S256x2048) ![0, 1024 * d.val + 256 * s.val] S256x256.size (inb_out d s)).toLoadRect (View.loadsAt_vmem h_S256x256)) fun _ =>
  .op (.store outM (Rect.unit (s := S256x2048) ![0, 1024 * d.val + 256 * s.val] S256x256.size (inb_out d s))
    (maximumf (mulf a (broadcast S256x256 sc)) (broadcast S256x256 (Scalar.ofBits .f32 0x00000000#32))) Finset.univ
    (View.stores_vmem_bits_univ h_S256x256 rfl) (.inl rfl)) fun _ => k

/-- Sub-block `s` of the result. -/
def last (s : Fin 4) (sc : F .f32) (l0 l1 : FVec F S256x1024 .f32) (k : PR F) : PR F :=
  fetch 0 s l0 l1 fun a0 a1 => putOut 0 s sc a0 <| putOut 1 s sc a1 k

/-- The part after the ring steps: the last received partial sums are completed, scaled, clamped at zero and stored; the
    last sends are waited for. -/
def finish (v0 : BitVec 32) (hv : k0_chk3 v0) : PR F :=
  ldS sxM (Rect.unit (s := S1) ![0] S1.size inb_S1_S1_0) numel1_S1 rfl fun sx =>
  ldS swM (Rect.unit (s := S1) ![0] S1.size inb_S1_S1_0) numel1_S1 rfl fun sw =>
  ldS ringM (Rect.unit (s := S16) (k0_off61 v0) S1.size (k0_off61_inb v0 hv)) numel1_S1 rfl fun c =>
  .op (.assume (k0_chk4 c) (k0_chk4.dec c)) fun a =>
  ldX c a.down fun x0 => ldW 0 fun w0 => ldX c a.down fun x1 => ldW 1 fun w1 =>
  last 0 (Scalar.mulf sx sw) (prod x0 w0) (prod x1 w1) <| last 1 (Scalar.mulf sx sw) (prod x0 w0) (prod x1 w1) <|
  last 2 (Scalar.mulf sx sw) (prod x0 w0) (prod x1 w1) <| last 3 (Scalar.mulf sx sw) (prod x0 w0) (prod x1 w1) <|
  drain (slot 13) 0 <| drain (slot 13) 1 <| drain (slot 13) 2 <| drain (slot 13) 3 <|
  drain (slot 14) 0 <| drain (slot 14) 1 <| drain (slot 14) 2 <| drain (slot 14) 3 <| .ret ⟨⟩

/-- The whole body. -/
def body : PR F :=
  ldS posM (Rect.unit (s := S1) ![0] S1.size inb_S1_S1_0) numel1_S1 rfl fun v0 =>
  .op (.assume (k0_chk3 v0) (k0_chk3.dec v0)) fun a0 =>
  ldS nxtM (Rect.unit (s := S1) ![0] S1.size inb_S1_S1_0) numel1_S1 rfl fun v1 =>
  .op (.assume (k0_chk2 v1) (k0_chk2.dec v1)) fun a1 =>
  ldS prvM (Rect.unit (s := S1) ![0] S1.size inb_S1_S1_0) numel1_S1 rfl fun v2 =>
  .op (.assume (k0_chk1 v2) (k0_chk1.dec v2)) fun a2 =>
  signal (devOf v2 (k0_dev1_lt v2 a2.down)) barS <| signal (devOf v1 (k0_dev2_lt v1 a1.down)) barS <| waitSem barS 2#32 <|
  steps v0 a0.down (devOf v1 (k0_dev2_lt v1 a1.down)) (devOf v2 (k0_dev1_lt v2 a2.down)) (finish v0 a0.down) 15 0 rfl

set_option maxRecDepth 100000 in
set_option maxHeartbeats 0 in
/-- The printed body, at the buffers it is called with, is `body`. -/
theorem body_eq (h0 h1 h2 h3 h4 h5 h6 h7 h8 h9 h10 h11 h12) :
    cc0_body (F := F) xM h0 wM h1 sxM h2 swM h3 posM h4 nxtM h5 prvM h6 ringM h7 outM h8 (sM 0) h9 (sM 1) h10 (rM 0) h11 (rM 1) h12
      cc0_scratch4 cc0_scratch5 cc0_scratch6 = body := by
  chain_rfl

end Cert.KernelIdeal.Ring

end
-- ==== Proof.KernelIdeal.Protocol.lean ====
/- The protocol between the devices: the semaphores' rounds, who signals each, how much, and what each signal hands over;
   what a device owes at launch, in which order it pays, and the levels that order the waits. -/
module

public import proofs.«01_k».proof.Proof.KernelIdeal.Norm
public import Idealize.ShloMosaic.Lib.Pipeline.RegionTalk
public import Idealize.ShloMosaic.Lib.Rounds
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

/-! ## The ring -/

/-- The devices in ring order. -/
def RING : Fin 16 → Fin 16 := ![0, 3, 7, 11, 15, 14, 10, 6, 2, 1, 5, 9, 13, 12, 8, 4]
/-- A device's place in the ring. -/
def POS : Dev nD → Fin 16 := ![0, 9, 8, 1, 15, 10, 7, 2, 14, 11, 6, 3, 13, 12, 5, 4]
/-- The next device of the ring. -/
def nxt : Dev nD → Dev nD := ![3, 5, 1, 7, 0, 9, 2, 11, 4, 13, 6, 15, 8, 12, 10, 14]
/-- The previous device of the ring. -/
def prv : Dev nD → Dev nD := ![4, 2, 6, 0, 8, 1, 10, 3, 12, 5, 14, 7, 13, 9, 15, 11]

/-- The device `c` sends to in direction `d`. -/
def dst : Fin 2 → Dev nD → Dev nD
  | 0 => nxt
  | 1 => prv
/-- The device `c` receives from in direction `d`. -/
def src : Fin 2 → Dev nD → Dev nD
  | 0 => prv
  | 1 => nxt

theorem src_dst : ∀ (d : Fin 2) (c : Dev nD), src d (dst d c) = c := by decide
theorem dst_src : ∀ (d : Fin 2) (c : Dev nD), dst d (src d c) = c := by decide

/-- `dst d` as a permutation of the devices. -/
def toEquiv (d : Fin 2) : Dev nD ≃ Dev nD := ⟨dst d, src d, src_dst d, dst_src d⟩

/-- Whose rows device `c` multiplies for direction `d` at step `h`. -/
def chunk (d : Fin 2) (h : ℕ) (c : Dev nD) : Fin 16 :=
  match d with
  | 0 => RING ⟨((POS c).val + 32 - h - 1) % 16, Nat.mod_lt _ (by decide)⟩
  | 1 => RING ⟨((POS c).val + h + 1) % 16, Nat.mod_lt _ (by decide)⟩

/-! ## The values that travel -/

theorem inb_x : ∀ r : Fin 16, ∀ a, (![256 * r.val, 0] : Fin 2 → ℕ) a + S256x256.size a ≤ S4096x256.size a := by decide

/-- The 256 rows of `x` that belong to device `r`. -/
def xrows (x : Vec F S4096x256 .fp8e5m2) (r : Fin 16) : Vec F S256x256 .fp8e5m2 := fun i =>
  x ((Rect.unit (s := S4096x256) ![256 * r.val, 0] S256x256.size (inb_x r)).emb i)
/-- One half of `w`'s columns. -/
def whalf (w : Vec F S256x2048 .fp8e5m2) (d : Fin 2) : Vec F S256x1024 .fp8e5m2 := fun i =>
  w ((Rect.unit (s := S256x2048) ![0, 1024 * d.val] S256x1024.size (inb_w d)).emb i)

variable (X : Dev nD → Vec F S4096x256 .fp8e5m2) (Wt : Dev nD → Vec F S256x2048 .fp8e5m2)

/-- Device `c`'s product for direction `d` at step `h`. -/
def prodAt (d : Fin 2) (h : ℕ) (c : Dev nD) : FVec F S256x1024 .f32 := prod (xrows (X c) (chunk d h c)) (whalf (Wt c) d)

/-- The partial sum of columns `[256 s, 256 s + 256)` of direction `d`'s half that device `c` has at step `h`: its own product
    at step 0, afterwards what it was sent plus its product. -/
def part (d : Fin 2) (s : Fin 4) : ℕ → Dev nD → FVec F S256x256 .f32
  | 0, c => cut s (prodAt X Wt d 0 c)
  | h + 1, c => addf (extf .f32 (truncf .bf16 (part d s h (src d c)) bitsLt_bf16_f32 : FVec F S256x256 .bf16) bitsLt_bf16_f32) (cut s (prodAt X Wt d (h + 1) c))

/-- What device `c` sends in direction `d` at step `h`. -/
def msg (d : Fin 2) (s : Fin 4) (h : ℕ) (c : Dev nD) : FVec F S256x256 .bf16 := truncf .bf16 (part X Wt d s h c) bitsLt_bf16_f32

/-! ## Cells -/

/-- What a semaphore is for. -/
inductive Kind
  | non
  | bar
  | snd (d b : Fin 2) (s : Fin 4)
  | rcv (d b : Fin 2) (s : Fin 4)
  | crd (d b : Fin 2)
  deriving DecidableEq

/-- The use of a semaphore, read off its number. -/
def kind : SemLoc sig → Kind
  | .reg q => if q.val < 4 then .crd ⟨q.val / 2 % 2, Nat.mod_lt _ (by decide)⟩ ⟨q.val % 2, Nat.mod_lt _ (by decide)⟩ else .bar
  | .dma q =>
    if q.val < 9 then .non
    else if q.val < 25 then .snd ⟨(q.val - 9) / 8 % 2, Nat.mod_lt _ (by decide)⟩ ⟨(q.val - 9) / 4 % 2, Nat.mod_lt _ (by decide)⟩ ⟨(q.val - 9) % 4, Nat.mod_lt _ (by decide)⟩
    else .rcv ⟨(q.val - 25) / 8 % 2, Nat.mod_lt _ (by decide)⟩ ⟨(q.val - 25) / 4 % 2, Nat.mod_lt _ (by decide)⟩ ⟨(q.val - 25) % 4, Nat.mod_lt _ (by decide)⟩

theorem kind_bar : kind (.reg barS) = .bar := by decide
theorem kind_snd : ∀ d b s, kind (.dma (sndS d b s)) = .snd d b s := by decide
theorem kind_rcv : ∀ d b s, kind (.dma (rcvS d b s)) = .rcv d b s := by decide
theorem kind_crd : ∀ d b, kind (.reg (crdS d b)) = .crd d b := by decide

abbrev barC (c : Dev nD) : GSem nD τ sig := ((c : Thread nD τ), .reg barS)
abbrev sndC (c : Dev nD) (d b : Fin 2) (s : Fin 4) : GSem nD τ sig := ((c : Thread nD τ), .dma (sndS d b s))
abbrev rcvC (c : Dev nD) (d b : Fin 2) (s : Fin 4) : GSem nD τ sig := ((c : Thread nD τ), .dma (rcvS d b s))
abbrev crdC (c : Dev nD) (d b : Fin 2) : GSem nD τ sig := ((c : Thread nD τ), .reg (crdS d b))

/-! ## The resources -/

abbrev UU : Type := UR sig nD τ × URounds (GSem nD τ sig) (Fin 2)
local notation "𝕄" => MT nD τ sig ℕ (Elt F) ℕ UU ℕ
abbrev EP : Emb (UR sig nD τ) (MT nD τ sig ℕ (Elt F) ℕ UU ℕ) := embL
abbrev ER : Emb (URounds (GSem nD τ sig) (Fin 2)) (MT nD τ sig ℕ (Elt F) ℕ UU ℕ) := embR
abbrev 𝒱₀ : Variants := Variants.none

/-- The units one block's transfer pays. -/
abbrev N : ℕ := (blkM (rM 0) 0 0).view.dmaCredit
theorem N_pos : 0 < N := View.dmaCredit_pos _ (by decide)
theorem credit_r : ∀ d b s, (blkM (rM d) b s).view.dmaCredit = N
  | 0, _, _ => rfl
  | 1, _, _ => rfl
theorem credit_s : ∀ d b s, (blkM (sM d) b s).view.dmaCredit = N
  | 0, _, _ => rfl
  | 1, _, _ => rfl

/-- Block `[b, s]` of buffer `M` of device `c`, whole, at contents `f`. -/
abbrev blk (M : Memref sig .tc .vmem S2x4x256x256 .bf16) (c : Dev nD) (b : Fin 2) (s : Fin 4)
    (f : Buf (Elt F) ((blkM M b s).view.loc (c : Thread nD τ))) : sProp 𝕄 :=
  (blkM M b s).view.loc (c : Thread nD τ) ↦[(blkM M b s).view.set]{fullShare} f
/-- The block at contents not chosen. -/
abbrev blkAny (M : Memref sig .tc .vmem S2x4x256x256 .bf16) (c : Dev nD) (b : Fin 2) (s : Fin 4) : sProp 𝕄 :=
  iprop(∃ f, blk M c b s f)
/-- The block holding the matrix `v`. -/
abbrev blkIs (M : Memref sig .tc .vmem S2x4x256x256 .bf16) (c : Dev nD) (b : Fin 2) (s : Fin 4) (v : FVec F S256x256 .bf16) : sProp 𝕄 :=
  iprop(∃ f, blk M c b s f ∗ ⌜(blkM M b s).view.read (Elt F) f = v⌝)

/-- The conjunction over the two directions or slots. -/
abbrev two (Φ : Fin 2 → sProp 𝕄) : sProp 𝕄 := iprop(Φ 0 ∗ Φ 1)
/-- The conjunction over the four sub-blocks. -/
abbrev four (Φ : Fin 4 → sProp 𝕄) : sProp 𝕄 := iprop(Φ 0 ∗ Φ 1 ∗ Φ 2 ∗ Φ 3)

instance two_persistent (Φ : Fin 2 → sProp 𝕄) [∀ i, BI.Persistent (Φ i)] : BI.Persistent (two Φ) := by unfold two; infer_instance
instance four_persistent (Φ : Fin 4 → sProp 𝕄) [∀ i, BI.Persistent (Φ i)] : BI.Persistent (four Φ) := by unfold four; infer_instance
instance two_storable (Φ : Fin 2 → sProp 𝕄) [∀ i, BI.Storable (upEmb : UEmb _ 𝕄) (Φ i)] : BI.Storable (upEmb : UEmb _ 𝕄) (two Φ) := by
  unfold two; infer_instance
instance four_storable (Φ : Fin 4 → sProp 𝕄) [∀ i, BI.Storable (upEmb : UEmb _ 𝕄) (Φ i)] : BI.Storable (upEmb : UEmb _ 𝕄) (four Φ) := by
  unfold four; infer_instance

/-! ## The schedule -/

/-- Paid on device `c`'s barrier, duty `d`, by the device `c` sends to in direction `d`: that device's receive buffer, and
    that its receive semaphores are ready for their first round. -/
def barPay (c : Dev nD) (d : Fin 2) : sProp 𝕄 :=
  two fun b => four fun s => iprop(blkAny (rM d) (dst d c) b s ∗ reached ER (rcvC (dst d c) d b s) 0)
/-- Paid on a send semaphore when the block has left: the block of the send buffer. -/
def sndPay (c : Dev nD) (d b : Fin 2) (s : Fin 4) : sProp 𝕄 := blkAny (sM d) c b s
/-- Paid on a receive semaphore when transfer `2 r + b` lands: the block, holding what the sender sent at that step, and that
    the sender's credit semaphore is at the round this transfer's credit belongs to. -/
def rcvPay (c : Dev nD) (d b : Fin 2) (s : Fin 4) (r : ℕ) : sProp 𝕄 :=
  iprop(blkIs (rM d) c b s (msg X Wt d s (2 * r + b.val) (src d c)) ∗ reached ER (crdC (src d c) d b) r)
/-- Paid on a credit semaphore by the receiver of transfer `2 r + b`: its receive blocks at that slot, and that its receive
    semaphores there are ready for the next round. -/
def crdPay (c : Dev nD) (d b : Fin 2) (r : ℕ) : sProp 𝕄 :=
  four fun s => iprop(blkAny (rM d) (dst d c) b s ∗ reached ER (rcvC (dst d c) d b s) (r + 1))

/-- The rounds: a barrier has one, of two signals; slot `b`'s round `r` belongs to transfer `2 r + b` of fifteen; the first
    thirteen transfers are credited. -/
def duties (k : Kind) (r : ℕ) : Finset (Fin 2) :=
  match k with
  | .non => ∅
  | .bar => if r = 0 then Finset.univ else ∅
  | .snd d b s => if 2 * r + b.val < 15 then {0} else ∅
  | .rcv d b s => if 2 * r + b.val < 15 then {0} else ∅
  | .crd d b => if 2 * r + b.val < 13 then {0} else ∅

def amount : Kind → ℕ
  | .non => 1
  | .bar => 1
  | .snd _ _ _ => N
  | .rcv _ _ _ => N
  | .crd _ _ => 1

def payload (c : Dev nD) (k : Kind) (r : ℕ) (u : Fin 2) : sProp 𝕄 :=
  match k with
  | .non => iprop(emp)
  | .bar => barPay c u
  | .snd d b s => sndPay c d b s
  | .rcv d b s => rcvPay X Wt c d b s r
  | .crd d b => crdPay c d b r

def Rd : Rounds.Schedule (GSem nD τ sig) (Fin 2) 𝕄 where
  duties g r := if g.1.2 = .tc then duties (kind g.2) r else ∅
  unitless _ := False
  amount g _ _ := amount (kind g.2)
  payload g r u := payload X Wt g.1.1 (kind g.2) r u
  amount_pos g _ _ _ := by
    cases kind g.2 <;> first | exact Nat.one_pos | exact N_pos

instance payload_storable (g : GSem nD τ sig) (r : ℕ) (u : Fin 2) : BI.Storable (upEmb : UEmb _ 𝕄) ((Rd X Wt).payload g r u) := by
  show BI.Storable upEmb (payload X Wt g.1.1 (kind g.2) r u)
  cases kind g.2 <;> dsimp only [payload] <;> first
    | infer_instance
    | (unfold barPay; infer_instance)
    | (unfold sndPay; infer_instance)
    | (unfold rcvPay; infer_instance)
    | (unfold crdPay; infer_instance)

section Sched
variable (c : Dev nD)

theorem duties_bar (r : ℕ) : (Rd X Wt).duties (barC c) r = if r = 0 then Finset.univ else ∅ := by
  show (if ((c : Thread nD τ)).2 = .tc then duties (kind (.reg barS)) r else ∅) = _
  rw [kind_bar, if_pos rfl]; rfl
theorem duties_snd (d b : Fin 2) (s : Fin 4) (r : ℕ) : (Rd X Wt).duties (sndC c d b s) r = if 2 * r + b.val < 15 then {0} else ∅ := by
  show (if ((c : Thread nD τ)).2 = .tc then duties (kind (.dma (sndS d b s))) r else ∅) = _
  rw [kind_snd, if_pos rfl]; rfl
theorem duties_rcv (d b : Fin 2) (s : Fin 4) (r : ℕ) : (Rd X Wt).duties (rcvC c d b s) r = if 2 * r + b.val < 15 then {0} else ∅ := by
  show (if ((c : Thread nD τ)).2 = .tc then duties (kind (.dma (rcvS d b s))) r else ∅) = _
  rw [kind_rcv, if_pos rfl]; rfl
theorem duties_crd (d b : Fin 2) (r : ℕ) : (Rd X Wt).duties (crdC c d b) r = if 2 * r + b.val < 13 then {0} else ∅ := by
  show (if ((c : Thread nD τ)).2 = .tc then duties (kind (.reg (crdS d b))) r else ∅) = _
  rw [kind_crd, if_pos rfl]; rfl

theorem amount_bar (r : ℕ) (u : Fin 2) : (Rd X Wt).amount (barC c) r u = 1 := by
  show amount (kind (.reg barS)) = _; rw [kind_bar]; rfl
theorem amount_snd (d b : Fin 2) (s : Fin 4) (r : ℕ) (u : Fin 2) : (Rd X Wt).amount (sndC c d b s) r u = N := by
  show amount (kind (.dma (sndS d b s))) = _; rw [kind_snd]; rfl
theorem amount_rcv (d b : Fin 2) (s : Fin 4) (r : ℕ) (u : Fin 2) : (Rd X Wt).amount (rcvC c d b s) r u = N := by
  show amount (kind (.dma (rcvS d b s))) = _; rw [kind_rcv]; rfl
theorem amount_crd (d b : Fin 2) (r : ℕ) (u : Fin 2) : (Rd X Wt).amount (crdC c d b) r u = 1 := by
  show amount (kind (.reg (crdS d b))) = _; rw [kind_crd]; rfl

theorem payload_bar (r : ℕ) (u : Fin 2) : (Rd X Wt).payload (barC c) r u = barPay c u := by
  show payload X Wt c (kind (.reg barS)) r u = _; rw [kind_bar]; rfl
theorem payload_snd (d b : Fin 2) (s : Fin 4) (r : ℕ) (u : Fin 2) : (Rd X Wt).payload (sndC c d b s) r u = sndPay c d b s := by
  show payload X Wt c (kind (.dma (sndS d b s))) r u = _; rw [kind_snd]; rfl
theorem payload_rcv (d b : Fin 2) (s : Fin 4) (r : ℕ) (u : Fin 2) : (Rd X Wt).payload (rcvC c d b s) r u = rcvPay X Wt c d b s r := by
  show payload X Wt c (kind (.dma (rcvS d b s))) r u = _; rw [kind_rcv]; rfl
theorem payload_crd (d b : Fin 2) (r : ℕ) (u : Fin 2) : (Rd X Wt).payload (crdC c d b) r u = crdPay c d b r := by
  show payload X Wt c (kind (.reg (crdS d b))) r u = _; rw [kind_crd]; rfl

theorem expect_bar : (Rd X Wt).expect (barC c) 0 = 2 := by
  unfold Schedule.expect Schedule.amountOf
  rw [duties_bar, if_pos rfl, Finset.sum_congr rfl fun u _ => amount_bar X Wt c 0 u]; rfl
theorem expect_snd (d b : Fin 2) (s : Fin 4) (r : ℕ) (h : 2 * r + b.val < 15) : (Rd X Wt).expect (sndC c d b s) r = N := by
  unfold Schedule.expect Schedule.amountOf; rw [duties_snd, if_pos h, Finset.sum_singleton, amount_snd]
theorem expect_rcv (d b : Fin 2) (s : Fin 4) (r : ℕ) (h : 2 * r + b.val < 15) : (Rd X Wt).expect (rcvC c d b s) r = N := by
  unfold Schedule.expect Schedule.amountOf; rw [duties_rcv, if_pos h, Finset.sum_singleton, amount_rcv]
theorem expect_crd (d b : Fin 2) (r : ℕ) (h : 2 * r + b.val < 13) : (Rd X Wt).expect (crdC c d b) r = 1 := by
  unfold Schedule.expect Schedule.amountOf; rw [duties_crd, if_pos h, Finset.sum_singleton, amount_crd]

theorem rest_bar : bigSep ((Rd X Wt).duties (barC c) 0 \ ∅) (fun u => (Rd X Wt).payload (barC c) 0 u) = two (barPay c) := by
  rw [Finset.sdiff_empty, duties_bar, if_pos rfl, bigSep_congr fun u _ => payload_bar X Wt c 0 u]
  exact BI.bigSep_fin_two _
theorem rest_snd (d b : Fin 2) (s : Fin 4) (r : ℕ) (h : 2 * r + b.val < 15) :
    bigSep ((Rd X Wt).duties (sndC c d b s) r \ ∅) (fun u => (Rd X Wt).payload (sndC c d b s) r u) = sndPay c d b s := by
  rw [Finset.sdiff_empty, duties_snd, if_pos h, bigSep_singleton, payload_snd]
theorem rest_rcv (d b : Fin 2) (s : Fin 4) (r : ℕ) (h : 2 * r + b.val < 15) :
    bigSep ((Rd X Wt).duties (rcvC c d b s) r \ ∅) (fun u => (Rd X Wt).payload (rcvC c d b s) r u) = rcvPay X Wt c d b s r := by
  rw [Finset.sdiff_empty, duties_rcv, if_pos h, bigSep_singleton, payload_rcv]
theorem rest_crd (d b : Fin 2) (r : ℕ) (h : 2 * r + b.val < 13) :
    bigSep ((Rd X Wt).duties (crdC c d b) r \ ∅) (fun u => (Rd X Wt).payload (crdC c d b) r u) = crdPay c d b r := by
  rw [Finset.sdiff_empty, duties_crd, if_pos h, bigSep_singleton, payload_crd]

end Sched

/-! ## Levels -/

/-- A semaphore's indices are its rounds. -/
def L (g : GSem nD τ sig) : Finset ℕ := if g.1.2 = .tc then Finset.range 16 else ∅
/-- A wait at step `h` waits for levels at most `2 h + 1`; what is paid from step `h` on has level at least `2 h + 2`. -/
def lv (g : GSem nD τ sig) (r : ℕ) : ℕ :=
  match kind g.2 with
  | .non => 0
  | .bar => 1
  | .snd _ _ _ => 0
  | .rcv _ b _ => 2 * (2 * r + b.val) + 2
  | .crd _ b => 2 * (2 * r + b.val) + 5

theorem L_of_ne (g : GSem nD τ sig) (h : g.1.2 ≠ .tc) : L g = ∅ := if_neg h
theorem L_tc (c : Dev nD) (sm : SemLoc sig) : L ((c : Thread nD τ), sm) = Finset.range 16 := if_pos rfl
theorem lv_bar (c : Dev nD) (r : ℕ) : lv (barC c) r = 1 := by unfold lv; rw [kind_bar]
theorem lv_snd (c : Dev nD) (d b : Fin 2) (s : Fin 4) (r : ℕ) : lv (sndC c d b s) r = 0 := by unfold lv; rw [kind_snd]
theorem lv_rcv (c : Dev nD) (d b : Fin 2) (s : Fin 4) (r : ℕ) : lv (rcvC c d b s) r = 2 * (2 * r + b.val) + 2 := by unfold lv; rw [kind_rcv]
theorem lv_crd (c : Dev nD) (d b : Fin 2) (r : ℕ) : lv (crdC c d b) r = 2 * (2 * r + b.val) + 5 := by unfold lv; rw [kind_crd]

/-- Everything in `O` is owed at a level above `k`. -/
def Above (k : ℕ) (O : CellTallies nD τ sig ℕ) : Prop := ∀ g u, 0 < O g u → u ∈ L g ∧ k < lv g u

theorem Above.zero (k : ℕ) : Above k 0 := fun _ _ h => absurd h (Nat.lt_irrefl 0)
theorem Above.add {k : ℕ} {O O' : CellTallies nD τ sig ℕ} (h : Above k O) (h' : Above k O') : Above k (O + O') := fun g u hg => by
  rw [Pi.add_apply, Finsupp.add_apply] at hg
  rcases Nat.add_pos_iff_pos_or_pos.mp hg with hg | hg
  · exact h g u hg
  · exact h' g u hg
theorem Above.mono {k k' : ℕ} {O : CellTallies nD τ sig ℕ} (h : Above k' O) (hk : k ≤ k') : Above k O := fun g u hg =>
  ⟨(h g u hg).1, lt_of_le_of_lt hk (h g u hg).2⟩
theorem Above.at {k : ℕ} {g : GSem nD τ sig} {u n : ℕ} (hu : u ∈ L g) (hk : k < lv g u) : Above k (tallyAt g u n) := fun g' u' hg => by
  rw [tallyAt_apply] at hg
  by_cases h : g' = g ∧ u' = u
  · rw [h.1, h.2]; exact ⟨hu, hk⟩
  · rw [if_neg h] at hg; exact absurd hg (Nat.lt_irrefl 0)

/-- A device may wait below everything it owes. -/
theorem mayWait (c : Dev nD) (sm : SemLoc sig) (u k : ℕ) (hu : u < 16) (hk : lv ((c : Thread nD τ), sm) u ≤ k) {O : CellTallies nD τ sig ℕ} (hO : Above k O) :
    (levAts L lv : sProp 𝕄) ⊢ MayWait (c : Thread nD τ) sm u O :=
  MayOwe.of_cut (L := L) (lev := lv) k (fun p hp => by rw [Finset.mem_singleton.mp hp, L_tc]; exact Finset.mem_range.mpr hu)
    (fun g i h => (hO g i h).1) (fun p hp => by rw [Finset.mem_singleton.mp hp]; exact hk) (fun g i h => (hO g i h).2)

end Cert.KernelIdeal.Ring

end
-- ==== Proof.KernelIdeal.Ops.lean ====
/- The body's operations under the protocol: what each needs and what it hands back. A transfer is named by its step `t`, of
   fifteen; it uses slot `t % 2` and that slot's round `t / 2`. -/
module

public import proofs.«01_k».proof.Proof.KernelIdeal.Protocol
public import Idealize.ShloMosaic.Lib.Pipeline.Value

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig ℕ (Elt F) ℕ UU ℕ

variable (X : Dev nD → Vec F S4096x256 .fp8e5m2) (Wt : Dev nD → Vec F S256x2048 .fp8e5m2)

/-! ## Resources by transfer -/

section Names
variable (c : Dev nD) (d : Fin 2) (t : ℕ) (s : Fin 4)

/-- `c` is at transfer `t` on its receive semaphore. -/
abbrev vPos : sProp 𝕄 := atPos ER (rcvC c d (slot t) s) (t / 2) ∅ 0
/-- `c` is at transfer `t` on its send semaphore. -/
abbrev sPos : sProp 𝕄 := atPos ER (sndC c d (slot t) s) (t / 2) ∅ 0
/-- `c` is at transfer `t` on its credit semaphore. -/
abbrev cPos : sProp 𝕄 := atPos ER (crdC c d (slot t)) (t / 2) ∅ 0
abbrev vReached : sProp 𝕄 := reached ER (rcvC c d (slot t) s) (t / 2)
abbrev sReached : sProp 𝕄 := reached ER (sndC c d (slot t) s) (t / 2)
abbrev cReached : sProp 𝕄 := reached ER (crdC c d (slot t)) (t / 2)
/-- Credit for the units transfer `t` brings `c`. -/
abbrev vCred : sProp 𝕄 := cred (tallyAt (rcvC c d (slot t) s) (t / 2) N)
abbrev sCred : sProp 𝕄 := cred (tallyAt (sndC c d (slot t) s) (t / 2) N)
abbrev cCred : sProp 𝕄 := cred (tallyAt (crdC c d (slot t)) (t / 2) 1)
/-- `c`'s right to land transfer `t` at the device it sends to. -/
abbrev vTok : sProp 𝕄 := dutyTok ER (rcvC (dst d c) d (slot t) s) (t / 2) 0
abbrev sTok : sProp 𝕄 := dutyTok ER (sndC c d (slot t) s) (t / 2) 0
/-- `c`'s right to credit transfer `t` to the device it received it from. -/
abbrev cTok : sProp 𝕄 := dutyTok ER (crdC (src d c) d (slot t)) (t / 2) 0
/-- `c` owes transfer `t`. -/
abbrev vOwe : CellTallies nD τ sig ℕ := tallyAt (rcvC (dst d c) d (slot t) s) (t / 2) N
/-- `c` owes the credit of transfer `t`. -/
abbrev cOwe : CellTallies nD τ sig ℕ := tallyAt (crdC (src d c) d (slot t)) (t / 2) 1

end Names

/-- What a device owes, whatever it waited for so far. -/
abbrev ow (c : Dev nD) (O : CellTallies nD τ sig ℕ) : sProp 𝕄 := iprop(∃ W, owes (c : Thread nD τ) O W)

/-- The body's run. -/
abbrev wpb (c : Dev nD) (k : PR F) (Q : PUnit → sProp 𝕄) : sProp 𝕄 :=
  wp frame (wpE (defs₀ (F := F)) 𝒱₀ (c : Thread nD τ) none) Set.univ k Q

/-- What every device may consult: that every cell runs the schedule, and that the barriers are in their round. -/
def records (κ : GSem nD τ sig → ℕ) : sProp 𝕄 :=
  iprop(bigSep Finset.univ (fun c : Dev nD => iprop(cellInv ER (Rd X Wt) (κ (barC c)) (barC c) ∗ reached ER (barC c) 0))
    ∗ bigSep Finset.univ (fun i : Dev nD × Fin 2 × Fin 2 × Fin 4 =>
        iprop(cellInv ER (Rd X Wt) (κ (sndC i.1 i.2.1 i.2.2.1 i.2.2.2)) (sndC i.1 i.2.1 i.2.2.1 i.2.2.2)
          ∗ cellInv ER (Rd X Wt) (κ (rcvC i.1 i.2.1 i.2.2.1 i.2.2.2)) (rcvC i.1 i.2.1 i.2.2.1 i.2.2.2)))
    ∗ bigSep Finset.univ (fun i : Dev nD × Fin 2 × Fin 2 => cellInv ER (Rd X Wt) (κ (crdC i.1 i.2.1 i.2.2)) (crdC i.1 i.2.1 i.2.2)))

instance records_persistent (κ : GSem nD τ sig → ℕ) : BI.Persistent (records X Wt κ) := by unfold records; infer_instance

variable (κ : GSem nD τ sig → ℕ)

theorem rec_bar (c : Dev nD) : records X Wt κ ⊢ iprop(cellInv ER (Rd X Wt) (κ (barC c)) (barC c) ∗ reached ER (barC c) 0) :=
  sep_elim_left.trans (bigSep_elim (Φ := fun c : Dev nD => iprop(cellInv ER (Rd X Wt) (κ (barC c)) (barC c) ∗ reached ER (barC c) 0)) (Finset.mem_univ c))
theorem rec_both (c : Dev nD) (d b : Fin 2) (s : Fin 4) : records X Wt κ ⊢ iprop(cellInv ER (Rd X Wt) (κ (sndC c d b s)) (sndC c d b s)
    ∗ cellInv ER (Rd X Wt) (κ (rcvC c d b s)) (rcvC c d b s)) :=
  (sep_elim_right.trans sep_elim_left).trans (bigSep_elim (Φ := fun i : Dev nD × Fin 2 × Fin 2 × Fin 4 =>
        iprop(cellInv ER (Rd X Wt) (κ (sndC i.1 i.2.1 i.2.2.1 i.2.2.2)) (sndC i.1 i.2.1 i.2.2.1 i.2.2.2)
          ∗ cellInv ER (Rd X Wt) (κ (rcvC i.1 i.2.1 i.2.2.1 i.2.2.2)) (rcvC i.1 i.2.1 i.2.2.1 i.2.2.2))) (Finset.mem_univ (c, d, b, s)))
theorem rec_snd (c : Dev nD) (d b : Fin 2) (s : Fin 4) : records X Wt κ ⊢ cellInv ER (Rd X Wt) (κ (sndC c d b s)) (sndC c d b s) :=
  (rec_both X Wt κ c d b s).trans sep_elim_left
theorem rec_rcv (c : Dev nD) (d b : Fin 2) (s : Fin 4) : records X Wt κ ⊢ cellInv ER (Rd X Wt) (κ (rcvC c d b s)) (rcvC c d b s) :=
  (rec_both X Wt κ c d b s).trans sep_elim_right
theorem rec_crd (c : Dev nD) (d b : Fin 2) : records X Wt κ ⊢ cellInv ER (Rd X Wt) (κ (crdC c d b)) (crdC c d b) :=
  (sep_elim_right.trans sep_elim_right).trans
    (bigSep_elim (Φ := fun i : Dev nD × Fin 2 × Fin 2 => cellInv ER (Rd X Wt) (κ (crdC i.1 i.2.1 i.2.2)) (crdC i.1 i.2.1 i.2.2)) (Finset.mem_univ (c, d, b)))

theorem round_slot (t : ℕ) : 2 * (t / 2) + (slot t).val = t := Nat.div_add_mod t 2
/-- Two steps later a transfer uses the same slot, at its next round. -/
theorem at_next {α : Type _} (G : Fin 2 → ℕ → α) (t : ℕ) : G (slot t) (t / 2 + 1) = G (slot (t + 2)) ((t + 2) / 2) := by
  have h₁ : slot (t + 2) = slot t := Fin.ext (Nat.add_mod_right t 2)
  have h₂ : (t + 2) / 2 = t / 2 + 1 := Nat.add_div_right t (by decide)
  rw [h₁, h₂]

variable (c : Dev nD) (d : Fin 2) (s : Fin 4)

/-! ## Loads and stores of blocks -/

theorem set_blkM (M : Memref sig .tc .vmem S2x4x256x256 .bf16) (b : Fin 2) (s : Fin 4) : (M.access (blkR b s)).set = (blkM M b s).view.set :=
  (View.set_reshape _ _).symm

theorem read_blkM (M : Memref sig .tc .vmem S2x4x256x256 .bf16) (b : Fin 2) (s : Fin 4) (f : Buf (Elt F) ((blkM M b s).view.loc (c : Thread nD τ))) :
    (blkM M b s).view.read (Elt F) f = shapeCast S256x256 ((M.access (blkR b s)).read (Elt F) f) shapeCasts_S1x1x256x256_S256x256 := rfl

theorem wp_ldBlk (M : Memref sig .tc .vmem S2x4x256x256 .bf16) (b : Fin 2) (s : Fin 4) (f : Buf (Elt F) ((blkM M b s).view.loc (c : Thread nD τ)))
    (k : Vec F S1x1x256x256 .bf16 → PR F) (Q : PUnit → sProp 𝕄) :
    blk M c b s f ⊢ iprop((blk M c b s f -∗ wpb c (k ((M.access (blkR b s)).read (Elt F) f)) Q) -∗ wpb c (ldBlk M b s k) Q) :=
  wp_load_rect 𝒱₀ (c : Thread nD τ) none Set.univ (m := M) (r := blkR b s) (S := (blkM M b s).view.set) (q := fullShare) (f := f)
    (set_blkM M b s).subset

theorem wp_stBlk (b : Fin 2) (s : Fin 4) (v : FVec F S256x256 .bf16) (k : PR F) (Q : PUnit → sProp 𝕄) :
    blkAny (sM d) c b s ⊢ iprop((blkIs (sM d) c b s v -∗ wpb c k Q) -∗ wpb c (stBlk d b s v k) Q) := by
  iintro ⟨%f, Hb⟩ Hk
  iapply (wp_store 𝒱₀ (c : Thread nD τ) none Set.univ (m := sM d) (r := blkR b s) (S := (blkM (sM d) b s).view.set) (f := f)
    (w := shapeCast S1x1x256x256 v shapeCasts_S256x256_S1x1x256x256) (Mk := Finset.univ) (set_blkM (sM d) b s).subset) $$ Hb
  iintro Hb
  iapply Hk
  iexists _
  isplitl [Hb]; · iexact Hb
  ipureintro
  rw [read_blkM c, View.read_write_univ]
  exact shapeCast_shapeCast _ _ _

/-! ## Signals, transfers and waits -/

theorem wp_sendT (t : ℕ) (ht : t < 15) (n : Dev nD) (hn : n = dst d c) (O : CellTallies nD τ sig ℕ) (k : PR F) (Q : PUnit → sProp 𝕄) :
    iprop(records X Wt κ ∗ blkIs (sM d) c (slot t) s (msg X Wt d s t c) ∗ blkAny (rM d) (dst d c) (slot t) s ∗ ow c (O + vOwe c d t s)
        ∗ sTok c d t s ∗ sReached c d t s ∗ vTok c d t s ∗ vReached (dst d c) d t s ∗ cReached c d t)
      ⊢ iprop(((sCred c d t s ∗ ow c O) -∗ wpb c k Q) -∗ wpb c (send n d (slot t) s k) Q) := by
  subst hn
  iintro ⟨#HR, ⟨%fs, Hs, %hfs⟩, ⟨%fd, Hd⟩, ⟨%W, HO⟩, HtS, HrS, HtV, HrV, HrC⟩ Hk
  ihave #HIs := (rec_snd X Wt κ c d (slot t) s) $$ HR
  ihave #HIv := (rec_rcv X Wt κ (dst d c) d (slot t) s) $$ HR
  iapply (Rounds.wp_send_pointsTo_with 𝒱₀ ER (Rd X Wt) (c : Thread nD τ) none (c' := (dst d c : Thread nD τ)) (src := blkM (sM d) (slot t) s) (dst := blkM (rM d) (slot t) s)
      (sS := .dma (sndS d (slot t) s)) (sem := .dma (rcvS d (slot t) s)) (q := fullShare) (fs := fs) (fd := fd)
      (r₁ := t / 2) (r₂ := t / 2) (d₁ := 0) (d₂ := 0) (F := cReached c d t)
      (by rw [duties_snd, round_slot, if_pos ht]; exact Finset.mem_singleton_self _)
      (by rw [duties_rcv, round_slot, if_pos ht]; exact Finset.mem_singleton_self _)
      (t / 2) (t / 2) N (credit_r d _ _) (amount_snd X Wt c d _ s _ _) (amount_rcv X Wt (dst d c) d _ s _ _) O rfl (W := W)
      (by rw [payload_snd]; unfold sndPay; iintro H; iexists _; iexact H)
      (by
        rw [payload_rcv]; unfold rcvPay; rw [src_dst, round_slot]
        iintro ⟨Hb, Hr⟩
        isplitl [Hb]
        · iexists _; isplitl [Hb]; · iexact Hb
          ipureintro
          rw [View.read_write_univ]; exact hfs
        iexact Hr)) $$ [Hs Hd HO HtS HrS HtV HrV HrC]
  · isplitr; · iexact HIs
    isplitr; · iexact HIv
    isplitl [Hs]; · iexact Hs
    isplitl [HrC Hd]; · isplitl [Hd] <;> iassumption
    isplitl [HO]; · iexact HO
    isplitl [HtS]; · iexact HtS
    isplitl [HrS]; · iexact HrS
    isplitl [HtV]; · iexact HtV
    iexact HrV
  iintro ⟨HcS, HO⟩
  iapply Hk
  isplitl [HcS]; · iexact HcS
  iexists _; iexact HO

theorem wp_waitRecv (t : ℕ) (ht : t < 15) (O : CellTallies nD τ sig ℕ) (hO : Above (2 * t + 2) O) (k : PR F) (Q : PUnit → sProp 𝕄) :
    iprop(records X Wt κ ∗ levAts L lv ∗ vCred c d t s ∗ ow c O ∗ vPos c d t s)
      ⊢ iprop(((ow c O ∗ vPos c d (t + 2) s ∗ vReached c d (t + 2) s
            ∗ blkIs (rM d) c (slot t) s (msg X Wt d s t (src d c)) ∗ cReached (src d c) d t) -∗ wpb c k Q)
          -∗ wpb c (waitRecv d (slot t) s k) Q) := by
  iintro ⟨#HR, #Hlev, Hc, ⟨%W, HO⟩, Hp⟩ Hk
  ihave #HI := (rec_rcv X Wt κ c d (slot t) s) $$ HR
  iapply (Rounds.wp_wait_rest_token 𝒱₀ ER (Rd X Wt) (c : Thread nD τ) none (κ := κ (rcvC c d (slot t) s))
      (wpE_waitDma2_eq (src := blkM (sM d) (slot t) s) (dst := blkM (rM d) (slot t) s) 𝒱₀ (c : Thread nD τ) none Set.univ) (Set.mem_univ _) (t / 2) (O := O) (W := W) (R := t / 2) (m := 0) (T := ∅)
      (by rw [expect_rcv X Wt c d _ s _ (by rw [round_slot]; exact ht), credit_r, Nat.zero_add])) $$ [Hc HO Hp]
  · isplitr; · iexact HI
    isplitl [Hc]; · rw [credit_r]; iexact Hc
    isplitl [HO]; · iexact HO
    isplitr; · iapply (mayWait c _ (t / 2) (2 * t + 2) (by omega) (by rw [lv_rcv, round_slot]) hO); iexact Hlev
    iexact Hp
  iintro ⟨HO, Hp, #Hr, Hpay⟩
  ihave Hpay := (Entails.of_eq (rest_rcv X Wt c d (slot t) s (t / 2) (by rw [round_slot]; exact ht))) $$ Hpay
  unfold rcvPay
  rw [round_slot]
  icases Hpay with ⟨Hb, HrC⟩
  iapply Hk
  isplitl [HO]; · iexists _; iexact HO
  isplitl [Hp]; · iapply (Entails.of_eq (at_next (fun b r => atPos ER (rcvC c d b s) r ∅ 0) t)); iexact Hp
  isplitr; · iapply (Entails.of_eq (at_next (fun b r => reached ER (rcvC c d b s) r) t)); iexact Hr
  isplitl [Hb] <;> iassumption

theorem wp_waitSend (t : ℕ) (ht : t < 15) (O : CellTallies nD τ sig ℕ) (hO : Above 0 O) (k : PR F) (Q : PUnit → sProp 𝕄) :
    iprop(records X Wt κ ∗ levAts L lv ∗ sCred c d t s ∗ ow c O ∗ sPos c d t s)
      ⊢ iprop(((ow c O ∗ sPos c d (t + 2) s ∗ sReached c d (t + 2) s ∗ blkAny (sM d) c (slot t) s) -∗ wpb c k Q)
          -∗ wpb c (waitSend d (slot t) s k) Q) := by
  iintro ⟨#HR, #Hlev, Hc, ⟨%W, HO⟩, Hp⟩ Hk
  ihave #HI := (rec_snd X Wt κ c d (slot t) s) $$ HR
  iapply (Rounds.wp_wait_rest_token 𝒱₀ ER (Rd X Wt) (c : Thread nD τ) none (κ := κ (sndC c d (slot t) s))
      (wpE_waitDma2_eq (src := blkM (rM d) (slot t) s) (dst := blkM (sM d) (slot t) s) 𝒱₀ (c : Thread nD τ) none Set.univ) (Set.mem_univ _) (t / 2) (O := O) (W := W) (R := t / 2) (m := 0) (T := ∅)
      (by rw [expect_snd X Wt c d _ s _ (by rw [round_slot]; exact ht), credit_s, Nat.zero_add])) $$ [Hc HO Hp]
  · isplitr; · iexact HI
    isplitl [Hc]; · rw [credit_s]; iexact Hc
    isplitl [HO]; · iexact HO
    isplitr; · iapply (mayWait c _ (t / 2) 0 (by omega) (by rw [lv_snd]) hO); iexact Hlev
    iexact Hp
  iintro ⟨HO, Hp, #Hr, Hpay⟩
  ihave Hpay := (Entails.of_eq (rest_snd X Wt c d (slot t) s (t / 2) (by rw [round_slot]; exact ht))) $$ Hpay
  unfold sndPay
  iapply Hk
  isplitl [HO]; · iexists _; iexact HO
  isplitl [Hp]; · iapply (Entails.of_eq (at_next (fun b r => atPos ER (sndC c d b s) r ∅ 0) t)); iexact Hp
  isplitr; · iapply (Entails.of_eq (at_next (fun b r => reached ER (sndC c d b s) r) t)); iexact Hr
  iexact Hpay

/-- Blocks beside "ready for the slot's next round", said by the transfer two steps on. -/
theorem four_next (B : Fin 4 → sProp 𝕄) (c : Dev nD) (d : Fin 2) (t : ℕ) :
    four (fun s => iprop(B s ∗ reached ER (rcvC c d (slot t) s) (t / 2 + 1))) = four fun s => iprop(B s ∗ vReached c d (t + 2) s) :=
  congrArg four (funext fun s => congrArg (fun R => iprop(B s ∗ R)) (at_next (fun b r => reached ER (rcvC c d b s) r) t))

theorem wp_waitCredit (t : ℕ) (ht : t < 13) (O : CellTallies nD τ sig ℕ) (hO : Above (2 * t + 5) O) (k : PR F) (Q : PUnit → sProp 𝕄) :
    iprop(records X Wt κ ∗ levAts L lv ∗ cCred c d t ∗ ow c O ∗ cPos c d t)
      ⊢ iprop(((ow c O ∗ cPos c d (t + 2) ∗ cReached c d (t + 2)
            ∗ four fun s => iprop(blkAny (rM d) (dst d c) (slot t) s ∗ vReached (dst d c) d (t + 2) s)) -∗ wpb c k Q)
          -∗ wpb c (waitSem (crdS d (slot t)) 1#32 k) Q) := by
  iintro ⟨#HR, #Hlev, Hc, ⟨%W, HO⟩, Hp⟩ Hk
  ihave #HI := (rec_crd X Wt κ c d (slot t)) $$ HR
  iapply (Rounds.wp_wait_rest_token 𝒱₀ ER (Rd X Wt) (c : Thread nD τ) none (κ := κ (crdC c d (slot t)))
      (wpE_semWait_eq (k := 1) 𝒱₀ (c : Thread nD τ) none Set.univ) (Set.mem_univ _) (t / 2) (O := O) (W := W) (R := t / 2) (m := 0) (T := ∅)
      (by rw [expect_crd X Wt c d _ _ (by rw [round_slot]; exact ht)])) $$ [Hc HO Hp]
  · isplitr; · iexact HI
    isplitl [Hc]; · iexact Hc
    isplitl [HO]; · iexact HO
    isplitr; · iapply (mayWait c _ (t / 2) (2 * t + 5) (by omega) (by rw [lv_crd, round_slot]) hO); iexact Hlev
    iexact Hp
  iintro ⟨HO, Hp, #Hr, Hpay⟩
  ihave Hpay := (Entails.of_eq (rest_crd X Wt c d (slot t) (t / 2) (by rw [round_slot]; exact ht))) $$ Hpay
  unfold crdPay
  iapply Hk
  isplitl [HO]; · iexists _; iexact HO
  isplitl [Hp]; · iapply (Entails.of_eq (at_next (fun b r => atPos ER (crdC c d b) r ∅ 0) t)); iexact Hp
  isplitr; · iapply (Entails.of_eq (at_next (fun b r => reached ER (crdC c d b) r) t)); iexact Hr
  iapply (Entails.of_eq (four_next (fun s => blkAny (rM d) (dst d c) (slot t) s) (dst d c) d t)); iexact Hpay

theorem wp_credit (t : ℕ) (ht : t < 13) (n : Dev nD) (hn : n = src d c) (O : CellTallies nD τ sig ℕ) (k : PR F) (Q : PUnit → sProp 𝕄) :
    iprop(records X Wt κ ∗ (four fun s => iprop(blkAny (rM d) c (slot t) s ∗ vReached c d (t + 2) s)) ∗ ow c (O + cOwe c d t)
        ∗ cTok c d t ∗ cReached (src d c) d t)
      ⊢ iprop((ow c O -∗ wpb c k Q) -∗ wpb c (signal n (crdS d (slot t)) k) Q) := by
  subst hn
  iintro ⟨#HR, Hb, ⟨%W, HO⟩, Ht, HrC⟩ Hk
  ihave #HI := (rec_crd X Wt κ (src d c) d (slot t)) $$ HR
  iapply (Rounds.wp_signal 𝒱₀ ER (Rd X Wt) (c : Thread nD τ) none (dst := (src d c : Thread nD τ)) (sem := crdS d (slot t)) (r := t / 2) (d := 0) (k' := 1)
      (by rw [duties_crd, round_slot, if_pos ht]; exact Finset.mem_singleton_self _) (amount_crd X Wt (src d c) d _ _ _) (t / 2) O rfl) $$ [Hb HO Ht HrC]
  · isplitr; · iexact HI
    isplitl [HO]; · iexact HO
    isplitl [Ht]; · iexact Ht
    isplitl [Hb]
    · rw [payload_crd]; unfold crdPay; rw [dst_src]
      iapply (Entails.of_eq (four_next (fun s => blkAny (rM d) c (slot t) s) c d t).symm); iexact Hb
    iexact HrC
  iintro HO
  iapply Hk
  iexists _; iexact HO

theorem wp_barrier (n : Dev nD) (hn : n = src d c) (O : CellTallies nD τ sig ℕ) (k : PR F) (Q : PUnit → sProp 𝕄) :
    iprop(records X Wt κ ∗ (two fun b => four fun s => iprop(blkAny (rM d) c b s ∗ reached ER (rcvC c d b s) 0))
        ∗ ow c (O + tallyAt (barC (src d c)) 0 1) ∗ dutyTok ER (barC (src d c)) 0 d)
      ⊢ iprop((ow c O -∗ wpb c k Q) -∗ wpb c (signal n barS k) Q) := by
  subst hn
  iintro ⟨#HR, Hb, ⟨%W, HO⟩, Ht⟩ Hk
  ihave #HI := (rec_bar X Wt κ (src d c)) $$ HR
  icases HI with ⟨#HI, #Hr⟩
  iapply (Rounds.wp_signal 𝒱₀ ER (Rd X Wt) (c : Thread nD τ) none (dst := (src d c : Thread nD τ)) (sem := barS) (r := 0) (d := d) (k' := 1)
      (by rw [duties_bar, if_pos rfl]; exact Finset.mem_univ _) (amount_bar X Wt (src d c) _ _) 0 O rfl) $$ [Hb HO Ht]
  · isplitr; · iexact HI
    isplitl [HO]; · iexact HO
    isplitl [Ht]; · iexact Ht
    isplitl [Hb]
    · rw [payload_bar]; unfold barPay; rw [dst_src]; iexact Hb
    iexact Hr
  iintro HO
  iapply Hk
  iexists _; iexact HO

theorem wp_waitBarrier (O : CellTallies nD τ sig ℕ) (hO : Above 1 O) (k : PR F) (Q : PUnit → sProp 𝕄) :
    iprop(records X Wt κ ∗ levAts L lv ∗ cred (tallyAt (barC c) 0 2) ∗ ow c O ∗ atPos ER (barC c) 0 ∅ 0)
      ⊢ iprop(((ow c O ∗ atPos ER (barC c) 1 ∅ 0 ∗ two fun d => two fun b => four fun s =>
            iprop(blkAny (rM d) (dst d c) b s ∗ reached ER (rcvC (dst d c) d b s) 0)) -∗ wpb c k Q)
          -∗ wpb c (waitSem barS 2#32 k) Q) := by
  iintro ⟨#HR, #Hlev, Hc, ⟨%W, HO⟩, Hp⟩ Hk
  ihave #HI := (rec_bar X Wt κ c) $$ HR
  icases HI with ⟨#HI, #-⟩
  iapply (Rounds.wp_wait_rest_token 𝒱₀ ER (Rd X Wt) (c : Thread nD τ) none (κ := κ (barC c))
      (wpE_semWait_eq (k := 2) 𝒱₀ (c : Thread nD τ) none Set.univ) (Set.mem_univ _) 0 (O := O) (W := W) (R := 0) (m := 0) (T := ∅)
      ((Nat.zero_add 2).trans (expect_bar X Wt c).symm)) $$ [Hc HO Hp]
  · isplitr; · iexact HI
    isplitl [Hc]; · iexact Hc
    isplitl [HO]; · iexact HO
    isplitr; · iapply (mayWait c _ 0 1 (by decide) (by rw [lv_bar]) hO); iexact Hlev
    iexact Hp
  iintro ⟨HO, Hp, -, Hpay⟩
  ihave Hpay := (Entails.of_eq (rest_bar X Wt c)) $$ Hpay
  unfold barPay
  iapply Hk
  isplitl [HO]; · iexists _; iexact HO
  isplitl [Hp]; · iexact Hp
  iexact Hpay

end Cert.KernelIdeal.Ring

end
-- ==== Proof.KernelIdeal.Steps.lean ====
/- The ring steps under the protocol: a sub-block, a step, and the loop. -/
module

public import proofs.«01_k».proof.Proof.KernelIdeal.Ops

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig ℕ (Elt F) ℕ UU ℕ

variable (X : Dev nD → Vec F S4096x256 .fp8e5m2) (Wt : Dev nD → Vec F S256x2048 .fp8e5m2) (κ : GSem nD τ sig → ℕ)

/-! ## Debts in the order they are paid -/

/-- `O` and the two transfers of sub-block `s` of step `t`. -/
def owSub (c : Dev nD) (t : ℕ) (s : Fin 4) (O : CellTallies nD τ sig ℕ) : CellTallies nD τ sig ℕ := O + vOwe c 1 t s + vOwe c 0 t s
/-- `O` and the eight transfers of step `t`. -/
def owSubs (c : Dev nD) (t : ℕ) (O : CellTallies nD τ sig ℕ) : CellTallies nD τ sig ℕ :=
  owSub c t 0 (owSub c t 1 (owSub c t 2 (owSub c t 3 O)))
/-- `O` and the two credits of transfer `t`. -/
def owCrd (c : Dev nD) (t : ℕ) (O : CellTallies nD τ sig ℕ) : CellTallies nD τ sig ℕ := O + cOwe c 1 t + cOwe c 0 t
/-- What step `g + 2` pays, before `O`. -/
def owStep (c : Dev nD) (g : ℕ) (O : CellTallies nD τ sig ℕ) : CellTallies nD τ sig ℕ :=
  owSubs c (g + 2) (if g < 12 then owCrd c (g + 1) O else O)
/-- What `m` steps from `g + 2` on pay. -/
def owSteps (c : Dev nD) : (m g : ℕ) → CellTallies nD τ sig ℕ
  | 0, _ => 0
  | m + 1, g => owStep c g (owSteps c m (g + 1))
/-- What the steps pay together. -/
def owAll (c : Dev nD) : CellTallies nD τ sig ℕ := owSubs c 0 (owSubs c 1 (owCrd c 0 (owSteps c 13 0)))
/-- What a device owes at launch: the steps' debts and one barrier signal to each neighbour. -/
def owed₀ (c : Dev nD) : CellTallies nD τ sig ℕ := owAll c + tallyAt (barC (src 1 c)) 0 1 + tallyAt (barC (src 0 c)) 0 1

section AboveLemmas
variable {c : Dev nD} {k t : ℕ} {O : CellTallies nD τ sig ℕ}

theorem above_vOwe (d : Fin 2) (s : Fin 4) (ht : t < 15) (hk : k < 2 * t + 2) : Above k (vOwe c d t s) :=
  Above.at (by rw [L_tc]; exact Finset.mem_range.mpr (by omega)) (by rw [lv_rcv, round_slot]; exact hk)
theorem above_cOwe (d : Fin 2) (ht : t < 15) (hk : k < 2 * t + 5) : Above k (cOwe c d t) :=
  Above.at (by rw [L_tc]; exact Finset.mem_range.mpr (by omega)) (by rw [lv_crd, round_slot]; exact hk)
theorem above_owSub (s : Fin 4) (ht : t < 15) (hk : k < 2 * t + 2) (hO : Above k O) : Above k (owSub c t s O) :=
  (hO.add (above_vOwe 1 s ht hk)).add (above_vOwe 0 s ht hk)
theorem above_owSubs (ht : t < 15) (hk : k < 2 * t + 2) (hO : Above k O) : Above k (owSubs c t O) :=
  above_owSub 0 ht hk (above_owSub 1 ht hk (above_owSub 2 ht hk (above_owSub 3 ht hk hO)))
theorem above_owCrd (ht : t < 15) (hk : k < 2 * t + 5) (hO : Above k O) : Above k (owCrd c t O) :=
  (hO.add (above_cOwe 1 ht hk)).add (above_cOwe 0 ht hk)
theorem above_owStep (g : ℕ) (hg : g < 13) (hk : k < 2 * g + 6) (hO : Above k O) : Above k (owStep c g O) := by
  unfold owStep
  refine above_owSubs (by omega) (by omega) ?_
  split
  · exact above_owCrd (by omega) (by omega) hO
  · exact hO
theorem above_owSteps : ∀ (m g : ℕ), m + g = 13 → k < 2 * g + 6 → Above k (owSteps c m g)
  | 0, _, _, _ => Above.zero k
  | m + 1, g, hg, hk => above_owStep g (by omega) hk (above_owSteps m (g + 1) (by omega) (by omega))
theorem above_owAll (hk : k < 2) : Above k (owAll c) :=
  above_owSubs (by omega) (by omega) (above_owSubs (by omega) (by omega) (above_owCrd (by omega) (by omega) (above_owSteps 13 0 rfl (by omega))))
theorem above_owed₀ : Above 0 (owed₀ c) :=
  ((above_owAll (by omega)).add (Above.at (by rw [L_tc]; decide) (by rw [lv_bar]; decide))).add (Above.at (by rw [L_tc]; decide) (by rw [lv_bar]; decide))

end AboveLemmas

/-! ## A sub-block -/

section Sub
variable (c : Dev nD)

/-- What sending block `s` at step `t` takes, beside the block to send from: the block to land in and the rights to do so. -/
def sendRes (t : ℕ) (s : Fin 4) (d : Fin 2) : sProp 𝕄 :=
  iprop(blkAny (rM d) (dst d c) (slot t) s ∗ sTok c d t s ∗ vTok c d t s ∗ vReached (dst d c) d t s ∗ cReached c d t)

theorem part_zero (d : Fin 2) (s : Fin 4) : part X Wt d s 0 c = cut s (prodAt X Wt d 0 c) := rfl
theorem part_succ (d : Fin 2) (s : Fin 4) (h : ℕ) :
    part X Wt d s (h + 1) c = addf (extf .f32 (msg X Wt d s h (src d c)) bitsLt_bf16_f32) (cut s (prodAt X Wt d (h + 1) c)) := rfl

theorem wp_emit (t : ℕ) (ht : t < 15) (b : Fin 2) (hb : b = slot t) (s : Fin 4) (O : CellTallies nD τ sig ℕ) (k : PR F) (Q : PUnit → sProp 𝕄) :
    iprop(records X Wt κ ∗ two (fun d => iprop(blkAny (sM d) c b s ∗ sReached c d t s)) ∗ two (sendRes c t s) ∗ ow c (owSub c t s O))
      ⊢ iprop(((two (fun d => sCred c d t s) ∗ ow c O) -∗ wpb c k Q)
          -∗ wpb c (emit (nxt c) (prv c) b s (part X Wt 0 s t c) (part X Wt 1 s t c) k) Q) := by
  subst hb
  unfold emit two sendRes owSub
  iintro ⟨#HR, ⟨⟨⟨%f0, Hs0⟩, #Hr0⟩, ⟨⟨%f1, Hs1⟩, #Hr1⟩⟩, ⟨⟨Hd0, Hts0, Htv0, Hv0, Hc0⟩, ⟨Hd1, Hts1, Htv1, Hv1, Hc1⟩⟩, HO⟩ Hk
  iapply (wp_ldBlk c (sM 0) (slot t) s f0) $$ Hs0
  iintro Hs0
  iapply (wp_stBlk c 0 (slot t) s) $$ [Hs0]
  · iexists _; iexact Hs0
  iintro Hs0
  iapply (wp_ldBlk c (sM 1) (slot t) s f1) $$ Hs1
  iintro Hs1
  iapply (wp_stBlk c 1 (slot t) s) $$ [Hs1]
  · iexists _; iexact Hs1
  iintro Hs1
  iapply (wp_sendT X Wt κ c 0 s t ht (nxt c) rfl (O + vOwe c 1 t s)) $$ [Hs0 Hd0 HO Hts0 Htv0 Hv0 Hc0]
  · isplitr; · iexact HR
    isplitl [Hs0]; · iexact Hs0
    isplitl [Hd0]; · iexact Hd0
    isplitl [HO]; · iexact HO
    isplitl [Hts0]; · iexact Hts0
    isplitr; · iexact Hr0
    isplitl [Htv0]; · iexact Htv0
    isplitl [Hv0] <;> iassumption
  iintro ⟨Hcr0, HO⟩
  iapply (wp_sendT X Wt κ c 1 s t ht (prv c) rfl O) $$ [Hs1 Hd1 HO Hts1 Htv1 Hv1 Hc1]
  · isplitr; · iexact HR
    isplitl [Hs1]; · iexact Hs1
    isplitl [Hd1]; · iexact Hd1
    isplitl [HO]; · iexact HO
    isplitl [Hts1]; · iexact Hts1
    isplitr; · iexact Hr1
    isplitl [Htv1]; · iexact Htv1
    isplitl [Hv1] <;> iassumption
  iintro ⟨Hcr1, HO⟩
  iapply Hk
  isplitl [Hcr0 Hcr1]; · isplitl [Hcr0] <;> iassumption
  iexact HO

/-- What receiving block `s` of transfer `t` gives: the receive semaphore at its next round, the block, and that the sender's
    credit semaphore is ready. -/
def rcvd (t : ℕ) (s : Fin 4) (d : Fin 2) : sProp 𝕄 :=
  iprop(vReached c d (t + 2) s ∗ blkAny (rM d) c (slot t) s ∗ cReached (src d c) d t)

theorem wp_fetch (t : ℕ) (ht : t < 15) (b : Fin 2) (hb : b = slot t) (s : Fin 4) (O : CellTallies nD τ sig ℕ) (hO : Above (2 * t + 2) O)
    (k : FVec F S256x256 .f32 → FVec F S256x256 .f32 → PR F) (Q : PUnit → sProp 𝕄) :
    iprop(records X Wt κ ∗ levAts L lv ∗ two (fun d => iprop(vCred c d t s ∗ vPos c d t s)) ∗ ow c O)
      ⊢ iprop(((two (fun d => vPos c d (t + 2) s) ∗ two (rcvd c t s) ∗ ow c O)
            -∗ wpb c (k (part X Wt 0 s (t + 1) c) (part X Wt 1 s (t + 1) c)) Q)
          -∗ wpb c (fetch b s (prodAt X Wt 0 (t + 1) c) (prodAt X Wt 1 (t + 1) c) k) Q) := by
  subst hb
  unfold fetch two rcvd
  iintro ⟨#HR, #Hlev, ⟨⟨Hc0, Hp0⟩, ⟨Hc1, Hp1⟩⟩, HO⟩ Hk
  iapply (wp_waitRecv X Wt κ c 0 s t ht O hO) $$ [Hc0 Hp0 HO]
  · isplitr; · iexact HR
    isplitr; · iexact Hlev
    isplitl [Hc0]; · iexact Hc0
    isplitl [HO] <;> iassumption
  iintro ⟨HO, Hp0, Hr0, ⟨%f0, Hb0, %h0⟩, Hq0⟩
  iapply (wp_waitRecv X Wt κ c 1 s t ht O hO) $$ [Hc1 Hp1 HO]
  · isplitr; · iexact HR
    isplitr; · iexact Hlev
    isplitl [Hc1]; · iexact Hc1
    isplitl [HO] <;> iassumption
  iintro ⟨HO, Hp1, Hr1, ⟨%f1, Hb1, %h1⟩, Hq1⟩
  iapply (wp_ldBlk c (rM 0) (slot t) s f0) $$ Hb0
  iintro Hb0
  iapply (wp_ldBlk c (rM 1) (slot t) s f1) $$ Hb1
  iintro Hb1
  rw [read_blkM c] at h0 h1
  rw [part_succ, part_succ, ← h0, ← h1]
  iapply Hk
  isplitl [Hp0 Hp1]; · isplitl [Hp0] <;> iassumption
  isplitr [HO]
  · isplitl [Hr0 Hb0 Hq0]
    · isplitl [Hr0]; · iexact Hr0
      isplitl [Hb0]; · iexists _; iexact Hb0
      iexact Hq0
    isplitl [Hr1]; · iexact Hr1
    isplitl [Hb1]; · iexists _; iexact Hb1
    iexact Hq1
  iexact HO

theorem wp_drain (t : ℕ) (ht : t < 15) (b : Fin 2) (hb : b = slot t) (s : Fin 4) (O : CellTallies nD τ sig ℕ) (hO : Above 0 O)
    (k : PR F) (Q : PUnit → sProp 𝕄) :
    iprop(records X Wt κ ∗ levAts L lv ∗ two (fun d => iprop(sPos c d t s ∗ sCred c d t s)) ∗ ow c O)
      ⊢ iprop(((two (fun d => sPos c d (t + 2) s) ∗ two (fun d => iprop(blkAny (sM d) c b s ∗ sReached c d (t + 2) s)) ∗ ow c O) -∗ wpb c k Q)
          -∗ wpb c (drain b s k) Q) := by
  subst hb
  unfold drain two
  iintro ⟨#HR, #Hlev, ⟨⟨Hp0, Hc0⟩, ⟨Hp1, Hc1⟩⟩, HO⟩ Hk
  iapply (wp_waitSend X Wt κ c 0 s t ht O hO) $$ [Hc0 Hp0 HO]
  · isplitr; · iexact HR
    isplitr; · iexact Hlev
    isplitl [Hc0]; · iexact Hc0
    isplitl [HO] <;> iassumption
  iintro ⟨HO, Hp0, Hr0, Hb0⟩
  iapply (wp_waitSend X Wt κ c 1 s t ht O hO) $$ [Hc1 Hp1 HO]
  · isplitr; · iexact HR
    isplitr; · iexact Hlev
    isplitl [Hc1]; · iexact Hc1
    isplitl [HO] <;> iassumption
  iintro ⟨HO, Hp1, Hr1, Hb1⟩
  iapply Hk
  isplitl [Hp0 Hp1]; · isplitl [Hp0] <;> iassumption
  isplitr [HO]
  · isplitl [Hr0 Hb0]; · isplitl [Hb0] <;> iassumption
    isplitl [Hb1] <;> iassumption
  iexact HO

/-- Before step `g + 2`, for one direction and sub-block: the next two transfers to receive, and the last two sent. -/
def J (g : ℕ) (s : Fin 4) (d : Fin 2) : sProp 𝕄 :=
  iprop(vPos c d (g + 1) s ∗ vPos c d (g + 2) s ∗ sPos c d g s ∗ sCred c d g s ∗ sPos c d (g + 1) s ∗ sCred c d (g + 1) s)

theorem wp_sub (g : ℕ) (hg : g < 13) (s : Fin 4) (O : CellTallies nD τ sig ℕ) (hO : Above (2 * (g + 1) + 2) O)
    (k : PR F) (Q : PUnit → sProp 𝕄) :
    iprop(records X Wt κ ∗ levAts L lv ∗ two (J c g s) ∗ two (fun d => vCred c d (g + 1) s) ∗ two (sendRes c (g + 2) s) ∗ ow c (owSub c (g + 2) s O))
      ⊢ iprop(((two (J c (g + 1) s) ∗ two (rcvd c (g + 1) s) ∗ ow c O) -∗ wpb c k Q)
          -∗ wpb c (sub (nxt c) (prv c) (g + 2) s (prodAt X Wt 0 (g + 2) c) (prodAt X Wt 1 (g + 2) c) k) Q) := by
  have hA : Above (2 * (g + 1) + 2) (owSub c (g + 2) s O) := above_owSub s (by omega) (by omega) hO
  have e : slot (g + 2) = slot g := Fin.ext (Nat.add_mod_right g 2)
  show _ ⊢ iprop(_ -∗ wpb c (fetch (slot (g + 1)) s (prodAt X Wt 0 (g + 1 + 1) c) (prodAt X Wt 1 (g + 1 + 1) c) fun a0 a1 =>
    drain (slot (g + 2)) s <| emit (nxt c) (prv c) (slot (g + 2)) s a0 a1 k) Q)
  iintro ⟨#HR, #Hlev, HJ, Hcr, Hsr, HO⟩ Hk
  unfold J
  icases HJ with ⟨⟨Ha0, Hb0, Hc0, Hd0, He0, Hf0⟩, ⟨Ha1, Hb1, Hc1, Hd1, He1, Hf1⟩⟩
  icases Hcr with ⟨Hcr0, Hcr1⟩
  iapply (wp_fetch X Wt κ c (g + 1) (by omega) _ rfl s _ hA) $$ [Hcr0 Hcr1 Ha0 Ha1 HO]
  · isplitr; · iexact HR
    isplitr; · iexact Hlev
    isplitr [HO]
    · isplitl [Hcr0 Ha0]; · isplitl [Hcr0] <;> iassumption
      isplitl [Hcr1] <;> iassumption
    iexact HO
  iintro ⟨⟨Ha0, Ha1⟩, Hrc, HO⟩
  iapply (wp_drain X Wt κ c g (by omega) _ e s _ (hA.mono (Nat.zero_le _))) $$ [Hc0 Hd0 Hc1 Hd1 HO]
  · isplitr; · iexact HR
    isplitr; · iexact Hlev
    isplitr [HO]
    · isplitl [Hc0 Hd0]; · isplitl [Hc0] <;> iassumption
      isplitl [Hc1] <;> iassumption
    iexact HO
  iintro ⟨⟨Hc0, Hc1⟩, Hbl, HO⟩
  iapply (wp_emit X Wt κ c (g + 2) (by omega) _ rfl s O) $$ [Hbl Hsr HO]
  · isplitr; · iexact HR
    isplitl [Hbl]; · iexact Hbl
    isplitl [Hsr] <;> iassumption
  iintro ⟨⟨Hd0, Hd1⟩, HO⟩
  iapply Hk
  isplitr [Hrc HO]
  · isplitl [Ha0 Hb0 Hc0 Hd0 He0 Hf0]
    · isplitl [Hb0]; · iexact Hb0
      isplitl [Ha0]; · iexact Ha0
      isplitl [He0]; · iexact He0
      isplitl [Hf0]; · iexact Hf0
      isplitl [Hc0] <;> iassumption
    isplitl [Hb1]; · iexact Hb1
    isplitl [Ha1]; · iexact Ha1
    isplitl [He1]; · iexact He1
    isplitl [Hf1]; · iexact Hf1
    isplitl [Hc1] <;> iassumption
  isplitl [Hrc] <;> iassumption

/-- Before step 0, for one direction and sub-block: both slots of the semaphores at their first round, and both blocks of the
    send buffer. -/
def J₀ (s : Fin 4) (d : Fin 2) : sProp 𝕄 :=
  iprop((vPos c d 0 s ∗ vPos c d 1 s ∗ sPos c d 0 s ∗ sPos c d 1 s) ∗ (blkAny (sM d) c (slot 0) s ∗ sReached c d 0 s) ∗ blkAny (sM d) c (slot 1) s ∗ sReached c d 1 s)
/-- Before step 1. -/
def J₁ (s : Fin 4) (d : Fin 2) : sProp 𝕄 :=
  iprop((vPos c d 0 s ∗ vPos c d 1 s ∗ sPos c d 0 s ∗ sPos c d 1 s) ∗ sCred c d 0 s ∗ blkAny (sM d) c (slot 1) s ∗ sReached c d 1 s)

theorem wp_sub0 (s : Fin 4) (O : CellTallies nD τ sig ℕ) (k : PR F) (Q : PUnit → sProp 𝕄) :
    iprop(records X Wt κ ∗ two (J₀ c s) ∗ two (sendRes c 0 s) ∗ ow c (owSub c 0 s O))
      ⊢ iprop(((two (J₁ c s) ∗ ow c O) -∗ wpb c k Q)
          -∗ wpb c (sub (nxt c) (prv c) 0 s (prodAt X Wt 0 0 c) (prodAt X Wt 1 0 c) k) Q) := by
  show _ ⊢ iprop(_ -∗ wpb c (emit (nxt c) (prv c) (slot 0) s (part X Wt 0 s 0 c) (part X Wt 1 s 0 c) k) Q)
  unfold J₀ J₁
  iintro ⟨#HR, ⟨⟨Ha0, Hb0, Hc0⟩, ⟨Ha1, Hb1, Hc1⟩⟩, Hsr, HO⟩ Hk
  iapply (wp_emit X Wt κ c 0 (by omega) _ rfl s O) $$ [Hb0 Hb1 Hsr HO]
  · isplitr; · iexact HR
    isplitl [Hb0 Hb1]; · isplitl [Hb0] <;> iassumption
    isplitl [Hsr] <;> iassumption
  iintro ⟨⟨Hd0, Hd1⟩, HO⟩
  iapply Hk
  isplitr [HO]
  · isplitl [Ha0 Hd0 Hc0]
    · isplitl [Ha0]; · iexact Ha0
      isplitl [Hd0] <;> iassumption
    isplitl [Ha1]; · iexact Ha1
    isplitl [Hd1] <;> iassumption
  iexact HO

theorem wp_sub1 (s : Fin 4) (O : CellTallies nD τ sig ℕ) (hO : Above 2 O) (k : PR F) (Q : PUnit → sProp 𝕄) :
    iprop(records X Wt κ ∗ levAts L lv ∗ two (J₁ c s) ∗ two (fun d => vCred c d 0 s) ∗ two (sendRes c 1 s) ∗ ow c (owSub c 1 s O))
      ⊢ iprop(((two (J c 0 s) ∗ two (rcvd c 0 s) ∗ ow c O) -∗ wpb c k Q)
          -∗ wpb c (sub (nxt c) (prv c) 1 s (prodAt X Wt 0 1 c) (prodAt X Wt 1 1 c) k) Q) := by
  have hA : Above (2 * 0 + 2) (owSub c 1 s O) := above_owSub s (by omega) (by omega) hO
  show _ ⊢ iprop(_ -∗ wpb c (fetch (slot 0) s (prodAt X Wt 0 (0 + 1) c) (prodAt X Wt 1 (0 + 1) c) fun a0 a1 =>
    emit (nxt c) (prv c) (slot 1) s a0 a1 k) Q)
  unfold J₁ J
  iintro ⟨#HR, #Hlev, ⟨⟨⟨Ha0, Hb0, Hc0, Hd0⟩, He0, Hf0⟩, ⟨⟨Ha1, Hb1, Hc1, Hd1⟩, He1, Hf1⟩⟩, ⟨Hcr0, Hcr1⟩, Hsr, HO⟩ Hk
  iapply (wp_fetch X Wt κ c 0 (by omega) _ rfl s _ hA) $$ [Hcr0 Hcr1 Ha0 Ha1 HO]
  · isplitr; · iexact HR
    isplitr; · iexact Hlev
    isplitr [HO]
    · isplitl [Hcr0 Ha0]; · isplitl [Hcr0] <;> iassumption
      isplitl [Hcr1] <;> iassumption
    iexact HO
  iintro ⟨⟨Ha0, Ha1⟩, Hrc, HO⟩
  iapply (wp_emit X Wt κ c 1 (by omega) _ rfl s O) $$ [Hf0 Hf1 Hsr HO]
  · isplitr; · iexact HR
    isplitl [Hf0 Hf1]; · isplitl [Hf0] <;> iassumption
    isplitl [Hsr] <;> iassumption
  iintro ⟨⟨Hg0, Hg1⟩, HO⟩
  iapply Hk
  isplitr [Hrc HO]
  · isplitl [Ha0 Hb0 Hc0 Hd0 He0 Hg0]
    · isplitl [Hb0]; · iexact Hb0
      isplitl [Ha0]; · iexact Ha0
      isplitl [Hc0]; · iexact Hc0
      isplitl [He0]; · iexact He0
      isplitl [Hd0] <;> iassumption
    isplitl [Hb1]; · iexact Hb1
    isplitl [Ha1]; · iexact Ha1
    isplitl [Hc1]; · iexact Hc1
    isplitl [He1]; · iexact He1
    isplitl [Hd1] <;> iassumption
  isplitl [Hrc] <;> iassumption

end Sub

end Cert.KernelIdeal.Ring

end
-- ==== Proof.KernelIdeal.Prods.lean ====
/- The products: what the body loads of its tables and operands, and that it is the step's product. -/
module

public import proofs.«01_k».proof.Proof.KernelIdeal.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig ℕ (Elt F) ℕ UU ℕ

variable (X : Dev nD → Vec F S4096x256 .fp8e5m2) (Wt : Dev nD → Vec F S256x2048 .fp8e5m2)

/-- A device's place in the ring, as the word the body is given. -/
abbrev posW (c : Dev nD) : BitVec 32 := BitVec.ofNat 32 (POS c).val
/-- The ring as the table of words the body is given. -/
abbrev ringT : Vec F S16 .i32 := fun i => BitVec.ofNat 32 (RING (i 0)).val

/-- Whole buffer `b` of device `c` at contents `f`. -/
abbrev pts (c : Dev nD) (b : Ref sig .tc) (f : Buf (Elt F) ((c : Thread nD τ).loc b)) : sProp 𝕄 := ((c : Thread nD τ).loc b) ↦{fullShare} f

/-- The operands and the ring table, staged. -/
abbrev ins (c : Dev nD) : sProp 𝕄 := iprop(pts c cc0_stg0_0 (X c) ∗ pts c cc0_stg1_0 (Wt c) ∗ pts c cc0_stg7_0 (ringT (F := F)))

set_option maxRecDepth 10000 in
theorem ringOff_eq : ∀ (d : Fin 2) (h : Fin 16) (c : Dev nD), RING ⟨ringOff d (posW c) h.val 0 % 16, Nat.mod_lt _ (by decide)⟩ = chunk d h.val c := by
  decide +kernel
theorem chk4_ofNat : ∀ r : Fin 16, k0_chk4 (BitVec.ofNat 32 r.val) := by decide +kernel
theorem off3_ofNat : ∀ r : Fin 16, k0_off3 (BitVec.ofNat 32 r.val) = ![256 * r.val, 0] := by decide +kernel

theorem xrows_of (x : Vec F S4096x256 .fp8e5m2) (r : Fin 16) (off : Fin 2 → ℕ) (h : off = ![256 * r.val, 0]) (hi : ∀ a, off a + S256x256.size a ≤ S4096x256.size a) :
    (xM.access (Rect.unit (s := S4096x256) off S256x256.size hi)).read (Elt F) x = xrows x r := by
  subst h; rfl
theorem whalf_of (w : Vec F S256x2048 .fp8e5m2) (d : Fin 2) :
    (wM.access (Rect.unit (s := S256x2048) ![0, 1024 * d.val] S256x1024.size (inb_w d))).read (Elt F) w = whalf w d := rfl

variable (c : Dev nD) (Q : PUnit.{1} → sProp (MT nD τ sig ℕ (Elt F) ℕ UU ℕ))

/-- A word of the ring table. -/
theorem wp_ldRing (off : Fin 1 → ℕ) (hi : ∀ a, off a + S1.size a ≤ S16.size a) (k : BitVec 32 → PR F) :
    pts c cc0_stg7_0 (ringT (F := F)) ⊢ iprop((pts c cc0_stg7_0 (ringT (F := F)) -∗ wpb c (k (BitVec.ofNat 32 (RING ⟨off 0 % 16, Nat.mod_lt _ (by decide)⟩).val)) Q)
      -∗ wpb c (ldS (F := F) ringM (Rect.unit (s := S16) off S1.size hi) numel1_S1 rfl k) Q) := by
  have hv : (ringM.access (Rect.unit (s := S16) off S1.size hi)).read (Elt F) (ringT (F := F)) (Shape.Idx.first (numel1_S1.symm ▸ Nat.one_pos))
      = BitVec.ofNat 32 (RING ⟨off 0 % 16, Nat.mod_lt _ (by decide)⟩).val := by
    have hx : ((Rect.unit (s := S16) off S1.size hi).emb (Shape.Idx.first (numel1_S1.symm ▸ Nat.one_pos)) 0).val = off 0 + 0 := by
      show off 0 + 1 * ((Shape.Idx.first (s := S1) (numel1_S1.symm ▸ Nat.one_pos)) 0).val = off 0 + 0
      have := ((Shape.Idx.first (s := S1) (numel1_S1.symm ▸ Nat.one_pos)) 0).isLt
      have h1 : S1.size 0 = 1 := rfl
      omega
    have h16 := hi 0
    show BitVec.ofNat 32 (RING ((Rect.unit (s := S16) off S1.size hi).emb (Shape.Idx.first (numel1_S1.symm ▸ Nat.one_pos)) 0)).val = _
    rw [show (Rect.unit (s := S16) off S1.size hi).emb (Shape.Idx.first (numel1_S1.symm ▸ Nat.one_pos)) 0 = ⟨off 0 % 16, Nat.mod_lt _ (by decide)⟩ from
      Fin.ext (hx.trans ((Nat.add_zero _).trans (Nat.mod_eq_of_lt (Nat.lt_of_succ_le h16)).symm))]
    rfl
  have key := wp_smemLoadElt (defs := defs₀ (F := F)) (Ix := ℕ) (Name := ℕ) (U := UU) (Lvl := ℕ) 𝒱₀ (c : Thread nD τ) none (Γ := .empty) Set.univ (m := ringM) (r := Rect.unit (s := S16) off S1.size hi)
    (hw := View.loads_smem_one rfl numel1_S1) (x := Shape.Idx.first (numel1_S1.symm ▸ Nat.one_pos)) (k := k) (Q := Q) (S := Finset.univ) (q := fullShare) (f := ringT (F := F)) (Finset.subset_univ _)
  rw [hv] at key
  exact key

/-- The rows of `x` that belong to device `r`. -/
theorem wp_ldX (r : Fin 16) (hv : k0_chk4 (BitVec.ofNat 32 r.val)) (k : Vec F S256x256 .fp8e5m2 → PR F) :
    pts c cc0_stg0_0 (X c) ⊢ iprop((pts c cc0_stg0_0 (X c) -∗ wpb c (k (xrows (X c) r)) Q) -∗ wpb c (ldX (BitVec.ofNat 32 r.val) hv k) Q) := by
  have key := wp_load_rect (defs := defs₀ (F := F)) (Ix := ℕ) (Name := ℕ) (U := UU) (Lvl := ℕ) 𝒱₀ (c : Thread nD τ) none (Γ := .empty) Set.univ (m := xM)
    (r := Rect.unit (s := S4096x256) (k0_off3 (BitVec.ofNat 32 r.val)) S256x256.size hv) (hl := View.loadsAt_vmem h_S256x256) (k := k) (Q := Q)
    (S := Finset.univ) (q := fullShare) (f := X c) (Finset.subset_univ _)
  rw [xrows_of (X c) r _ (off3_ofNat r) hv] at key
  exact key

/-- One half of `w`. -/
theorem wp_ldW (d : Fin 2) (k : Vec F S256x1024 .fp8e5m2 → PR F) :
    pts c cc0_stg1_0 (Wt c) ⊢ iprop((pts c cc0_stg1_0 (Wt c) -∗ wpb c (k (whalf (Wt c) d)) Q) -∗ wpb c (ldW d k) Q) := by
  have key := wp_load_rect (defs := defs₀ (F := F)) (Ix := ℕ) (Name := ℕ) (U := UU) (Lvl := ℕ) 𝒱₀ (c : Thread nD τ) none (Γ := .empty) Set.univ (m := wM)
    (r := Rect.unit (s := S256x2048) ![0, 1024 * d.val] S256x1024.size (inb_w d)) (hl := View.loadsAt_vmem h_S256x1024) (k := k) (Q := Q)
    (S := Finset.univ) (q := fullShare) (f := Wt c) (Finset.subset_univ _)
  rw [whalf_of (Wt c) d] at key
  exact key

theorem wp_prods (h : ℕ) (hh : h < 16) (h0 : ∀ a, ringOff 0 (posW c) h a + S1.size a ≤ S16.size a) (h1 : ∀ a, ringOff 1 (posW c) h a + S1.size a ≤ S16.size a)
    (k : FVec F S256x1024 .f32 → FVec F S256x1024 .f32 → PR F) :
    ins X Wt c ⊢ iprop((ins X Wt c -∗ wpb c (k (prodAt X Wt 0 h c) (prodAt X Wt 1 h c)) Q) -∗ wpb c (prods (posW c) h h0 h1 k) Q) := by
  unfold prods
  iintro ⟨Hx, Hw, Hr⟩ Hk
  iapply (wp_ldRing c Q (ringOff 0 (posW c) h) h0) $$ Hr
  iintro Hr
  rw [ringOff_eq 0 ⟨h, hh⟩ c]
  iapply (wp_assume 𝒱₀ (c : Thread nD τ) none Set.univ (chk4_ofNat (chunk 0 h c)))
  iapply (wp_ldRing c Q (ringOff 1 (posW c) h) h1) $$ Hr
  iintro Hr
  rw [ringOff_eq 1 ⟨h, hh⟩ c]
  iapply (wp_assume 𝒱₀ (c : Thread nD τ) none Set.univ (chk4_ofNat (chunk 1 h c)))
  iapply (wp_ldX X c Q (chunk 0 h c)) $$ Hx
  iintro Hx
  iapply (wp_ldW Wt c Q 0) $$ Hw
  iintro Hw
  iapply (wp_ldX X c Q (chunk 1 h c)) $$ Hx
  iintro Hx
  iapply (wp_ldW Wt c Q 1) $$ Hw
  iintro Hw
  iapply Hk
  isplitl [Hx]; · iexact Hx
  isplitl [Hw] <;> iassumption

end Cert.KernelIdeal.Ring

end
-- ==== Proof.KernelIdeal.Loop.lean ====
/- The fifteen ring steps under the protocol. -/
module

public import proofs.«01_k».proof.Proof.KernelIdeal.Prods

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig ℕ (Elt F) ℕ UU ℕ

variable (X : Dev nD → Vec F S4096x256 .fp8e5m2) (Wt : Dev nD → Vec F S256x2048 .fp8e5m2) (κ : GSem nD τ sig → ℕ) (c : Dev nD)

/-! ## Four sub-blocks -/

theorem wp_subs (g : ℕ) (hg : g < 13) (O : CellTallies nD τ sig ℕ) (hO : Above (2 * g + 4) O) (k : PR F) (Q : PUnit → sProp 𝕄) :
    iprop(records X Wt κ ∗ levAts L lv ∗ four (fun s => two (J c g s)) ∗ four (fun s => two fun d => vCred c d (g + 1) s)
        ∗ four (fun s => two (sendRes c (g + 2) s)) ∗ ow c (owSubs c (g + 2) O))
      ⊢ iprop(((four (fun s => two (J c (g + 1) s)) ∗ four (fun s => two (rcvd c (g + 1) s)) ∗ ow c O) -∗ wpb c k Q)
          -∗ wpb c (subs (nxt c) (prv c) (g + 2) (prodAt X Wt 0 (g + 2) c) (prodAt X Wt 1 (g + 2) c) k) Q) := by
  have h3 := hO
  have h2 := above_owSub (c := c) (t := g + 2) 3 (by omega) (by omega) h3
  have h1 := above_owSub (c := c) (t := g + 2) 2 (by omega) (by omega) h2
  have h0 := above_owSub (c := c) (t := g + 2) 1 (by omega) (by omega) h1
  unfold subs owSubs
  iintro ⟨#HR, #Hlev, ⟨Hj0, Hj1, Hj2, Hj3⟩, ⟨Hc0, Hc1, Hc2, Hc3⟩, ⟨Hs0, Hs1, Hs2, Hs3⟩, HO⟩ Hk
  iapply (wp_sub X Wt κ c g hg 0 _ h0) $$ [Hj0 Hc0 Hs0 HO]
  · isplitr; · iexact HR
    isplitr; · iexact Hlev
    isplitl [Hj0]; · iexact Hj0
    isplitl [Hc0]; · iexact Hc0
    isplitl [Hs0] <;> iassumption
  iintro ⟨Hj0, Hr0, HO⟩
  iapply (wp_sub X Wt κ c g hg 1 _ h1) $$ [Hj1 Hc1 Hs1 HO]
  · isplitr; · iexact HR
    isplitr; · iexact Hlev
    isplitl [Hj1]; · iexact Hj1
    isplitl [Hc1]; · iexact Hc1
    isplitl [Hs1] <;> iassumption
  iintro ⟨Hj1, Hr1, HO⟩
  iapply (wp_sub X Wt κ c g hg 2 _ h2) $$ [Hj2 Hc2 Hs2 HO]
  · isplitr; · iexact HR
    isplitr; · iexact Hlev
    isplitl [Hj2]; · iexact Hj2
    isplitl [Hc2]; · iexact Hc2
    isplitl [Hs2] <;> iassumption
  iintro ⟨Hj2, Hr2, HO⟩
  iapply (wp_sub X Wt κ c g hg 3 _ h3) $$ [Hj3 Hc3 Hs3 HO]
  · isplitr; · iexact HR
    isplitr; · iexact Hlev
    isplitl [Hj3]; · iexact Hj3
    isplitl [Hc3]; · iexact Hc3
    isplitl [Hs3] <;> iassumption
  iintro ⟨Hj3, Hr3, HO⟩
  iapply Hk
  isplitl [Hj0 Hj1 Hj2 Hj3]
  · isplitl [Hj0]; · iexact Hj0
    isplitl [Hj1]; · iexact Hj1
    isplitl [Hj2] <;> iassumption
  isplitr [HO]
  · isplitl [Hr0]; · iexact Hr0
    isplitl [Hr1]; · iexact Hr1
    isplitl [Hr2] <;> iassumption
  iexact HO

theorem wp_subs1 (O : CellTallies nD τ sig ℕ) (hO : Above 2 O) (k : PR F) (Q : PUnit → sProp 𝕄) :
    iprop(records X Wt κ ∗ levAts L lv ∗ four (fun s => two (J₁ c s)) ∗ four (fun s => two fun d => vCred c d 0 s)
        ∗ four (fun s => two (sendRes c 1 s)) ∗ ow c (owSubs c 1 O))
      ⊢ iprop(((four (fun s => two (J c 0 s)) ∗ four (fun s => two (rcvd c 0 s)) ∗ ow c O) -∗ wpb c k Q)
          -∗ wpb c (subs (nxt c) (prv c) 1 (prodAt X Wt 0 1 c) (prodAt X Wt 1 1 c) k) Q) := by
  have h3 := hO
  have h2 := above_owSub (c := c) (t := 1) 3 (by omega) (by omega) h3
  have h1 := above_owSub (c := c) (t := 1) 2 (by omega) (by omega) h2
  have h0 := above_owSub (c := c) (t := 1) 1 (by omega) (by omega) h1
  unfold subs owSubs
  iintro ⟨#HR, #Hlev, ⟨Hj0, Hj1, Hj2, Hj3⟩, ⟨Hc0, Hc1, Hc2, Hc3⟩, ⟨Hs0, Hs1, Hs2, Hs3⟩, HO⟩ Hk
  iapply (wp_sub1 X Wt κ c 0 _ h0) $$ [Hj0 Hc0 Hs0 HO]
  · isplitr; · iexact HR
    isplitr; · iexact Hlev
    isplitl [Hj0]; · iexact Hj0
    isplitl [Hc0]; · iexact Hc0
    isplitl [Hs0] <;> iassumption
  iintro ⟨Hj0, Hr0, HO⟩
  iapply (wp_sub1 X Wt κ c 1 _ h1) $$ [Hj1 Hc1 Hs1 HO]
  · isplitr; · iexact HR
    isplitr; · iexact Hlev
    isplitl [Hj1]; · iexact Hj1
    isplitl [Hc1]; · iexact Hc1
    isplitl [Hs1] <;> iassumption
  iintro ⟨Hj1, Hr1, HO⟩
  iapply (wp_sub1 X Wt κ c 2 _ h2) $$ [Hj2 Hc2 Hs2 HO]
  · isplitr; · iexact HR
    isplitr; · iexact Hlev
    isplitl [Hj2]; · iexact Hj2
    isplitl [Hc2]; · iexact Hc2
    isplitl [Hs2] <;> iassumption
  iintro ⟨Hj2, Hr2, HO⟩
  iapply (wp_sub1 X Wt κ c 3 _ h3) $$ [Hj3 Hc3 Hs3 HO]
  · isplitr; · iexact HR
    isplitr; · iexact Hlev
    isplitl [Hj3]; · iexact Hj3
    isplitl [Hc3]; · iexact Hc3
    isplitl [Hs3] <;> iassumption
  iintro ⟨Hj3, Hr3, HO⟩
  iapply Hk
  isplitl [Hj0 Hj1 Hj2 Hj3]
  · isplitl [Hj0]; · iexact Hj0
    isplitl [Hj1]; · iexact Hj1
    isplitl [Hj2] <;> iassumption
  isplitr [HO]
  · isplitl [Hr0]; · iexact Hr0
    isplitl [Hr1]; · iexact Hr1
    isplitl [Hr2] <;> iassumption
  iexact HO

theorem wp_subs0 (O : CellTallies nD τ sig ℕ) (k : PR F) (Q : PUnit → sProp 𝕄) :
    iprop(records X Wt κ ∗ four (fun s => two (J₀ c s)) ∗ four (fun s => two (sendRes c 0 s)) ∗ ow c (owSubs c 0 O))
      ⊢ iprop(((four (fun s => two (J₁ c s)) ∗ ow c O) -∗ wpb c k Q)
          -∗ wpb c (subs (nxt c) (prv c) 0 (prodAt X Wt 0 0 c) (prodAt X Wt 1 0 c) k) Q) := by
  unfold subs owSubs
  iintro ⟨#HR, ⟨Hj0, Hj1, Hj2, Hj3⟩, ⟨Hs0, Hs1, Hs2, Hs3⟩, HO⟩ Hk
  iapply (wp_sub0 X Wt κ c 0) $$ [Hj0 Hs0 HO]
  · isplitr; · iexact HR
    isplitl [Hj0]; · iexact Hj0
    isplitl [Hs0] <;> iassumption
  iintro ⟨Hj0, HO⟩
  iapply (wp_sub0 X Wt κ c 1) $$ [Hj1 Hs1 HO]
  · isplitr; · iexact HR
    isplitl [Hj1]; · iexact Hj1
    isplitl [Hs1] <;> iassumption
  iintro ⟨Hj1, HO⟩
  iapply (wp_sub0 X Wt κ c 2) $$ [Hj2 Hs2 HO]
  · isplitr; · iexact HR
    isplitl [Hj2]; · iexact Hj2
    isplitl [Hs2] <;> iassumption
  iintro ⟨Hj2, HO⟩
  iapply (wp_sub0 X Wt κ c 3) $$ [Hj3 Hs3 HO]
  · isplitr; · iexact HR
    isplitl [Hj3]; · iexact Hj3
    isplitl [Hs3] <;> iassumption
  iintro ⟨Hj3, HO⟩
  iapply Hk
  isplitr [HO]
  · isplitl [Hj0]; · iexact Hj0
    isplitl [Hj1]; · iexact Hj1
    isplitl [Hj2] <;> iassumption
  iexact HO

/-! ## Credits -/

/-- A neighbour's blocks at slot `b`, ready for transfer `t`. -/
def room (t : ℕ) (b d : Fin 2) : sProp 𝕄 := four fun s => iprop(blkAny (rM d) (dst d c) b s ∗ vReached (dst d c) d t s)

theorem wp_takeCredit (t : ℕ) (ht : t < 13) (b : Fin 2) (hb : b = slot t) (O : CellTallies nD τ sig ℕ) (hO : Above (2 * t + 5) O) (k : PR F) (Q : PUnit → sProp 𝕄) :
    iprop(records X Wt κ ∗ levAts L lv ∗ two (fun d => cCred c d t) ∗ two (fun d => cPos c d t) ∗ ow c O)
      ⊢ iprop(((two (fun d => cPos c d (t + 2)) ∗ two (fun d => cReached c d (t + 2)) ∗ two (room c (t + 2) b) ∗ ow c O) -∗ wpb c k Q)
          -∗ wpb c (takeCredit b k) Q) := by
  subst hb
  unfold takeCredit room
  iintro ⟨#HR, #Hlev, ⟨Hc0, Hc1⟩, ⟨Hp0, Hp1⟩, HO⟩ Hk
  iapply (wp_waitCredit X Wt κ c 0 t ht O hO) $$ [Hc0 Hp0 HO]
  · isplitr; · iexact HR
    isplitr; · iexact Hlev
    isplitl [Hc0]; · iexact Hc0
    isplitl [HO] <;> iassumption
  iintro ⟨HO, Hp0, Hr0, Hb0⟩
  iapply (wp_waitCredit X Wt κ c 1 t ht O hO) $$ [Hc1 Hp1 HO]
  · isplitr; · iexact HR
    isplitr; · iexact Hlev
    isplitl [Hc1]; · iexact Hc1
    isplitl [HO] <;> iassumption
  iintro ⟨HO, Hp1, Hr1, Hb1⟩
  iapply Hk
  isplitl [Hp0 Hp1]; · isplitl [Hp0] <;> iassumption
  isplitl [Hr0 Hr1]; · isplitl [Hr0] <;> iassumption
  isplitr [HO]; · isplitl [Hb0] <;> iassumption
  iexact HO

theorem wp_giveCredit (t : ℕ) (ht : t < 13) (O : CellTallies nD τ sig ℕ) (k : PR F) (Q : PUnit → sProp 𝕄) :
    iprop(records X Wt κ ∗ four (fun s => two (rcvd c t s)) ∗ two (fun d => cTok c d t) ∗ ow c (owCrd c t O))
      ⊢ iprop((ow c O -∗ wpb c k Q) -∗ wpb c (giveCredit (nxt c) (prv c) (slot t) k) Q) := by
  unfold giveCredit rcvd owCrd
  iintro ⟨#HR, ⟨⟨⟨Ha0, Hb0, #Hq0⟩, ⟨Ha1, Hb1, #Hq1⟩⟩, ⟨⟨Ha2, Hb2, -⟩, ⟨Ha3, Hb3, -⟩⟩, ⟨⟨Ha4, Hb4, -⟩, ⟨Ha5, Hb5, -⟩⟩, ⟨⟨Ha6, Hb6, -⟩, ⟨Ha7, Hb7, -⟩⟩⟩, ⟨Ht0, Ht1⟩, HO⟩ Hk
  iapply (wp_credit X Wt κ c 0 t ht (prv c) rfl (O + cOwe c 1 t)) $$ [Ha0 Hb0 Ha2 Hb2 Ha4 Hb4 Ha6 Hb6 Ht0 HO]
  · isplitr; · iexact HR
    isplitr [Ht0 HO]
    · isplitl [Ha0 Hb0]; · isplitl [Hb0] <;> iassumption
      isplitl [Ha2 Hb2]; · isplitl [Hb2] <;> iassumption
      isplitl [Ha4 Hb4]; · isplitl [Hb4] <;> iassumption
      isplitl [Hb6] <;> iassumption
    isplitl [HO]; · iexact HO
    isplitl [Ht0]; · iexact Ht0
    iexact Hq0
  iintro HO
  iapply (wp_credit X Wt κ c 1 t ht (nxt c) rfl O) $$ [Ha1 Hb1 Ha3 Hb3 Ha5 Hb5 Ha7 Hb7 Ht1 HO]
  · isplitr; · iexact HR
    isplitr [Ht1 HO]
    · isplitl [Ha1 Hb1]; · isplitl [Hb1] <;> iassumption
      isplitl [Ha3 Hb3]; · isplitl [Hb3] <;> iassumption
      isplitl [Ha5 Hb5]; · isplitl [Hb5] <;> iassumption
      isplitl [Hb7] <;> iassumption
    isplitl [HO]; · iexact HO
    isplitl [Ht1]; · iexact Ht1
    iexact Hq1
  iintro HO
  iapply Hk; iexact HO

/-- The rights to make transfer `t` of sub-block `s`. -/
def toks (t : ℕ) (s : Fin 4) (d : Fin 2) : sProp 𝕄 := iprop(sTok c d t s ∗ vTok c d t s)

theorem sendRes_intro (t : ℕ) :
    iprop(two (fun d => cReached c d t) ∗ two (room c t (slot t)) ∗ four (fun s => two (toks c t s))) ⊢ (four (fun s => two (sendRes c t s)) : sProp 𝕄) := by
  have one : ∀ (s : Fin 4) (d : Fin 2), iprop(cReached c d t ∗ (blkAny (rM d) (dst d c) (slot t) s ∗ vReached (dst d c) d t s) ∗ toks c t s d) ⊢ (sendRes c t s d : sProp 𝕄) := by
    intro s d
    unfold toks sendRes
    iintro ⟨Hc, ⟨Hb, Hv⟩, ⟨Hs, Ht⟩⟩
    isplitl [Hb]; · iexact Hb
    isplitl [Hs]; · iexact Hs
    isplitl [Ht]; · iexact Ht
    isplitl [Hv] <;> iassumption
  have pair : ∀ s : Fin 4, iprop(two (fun d => cReached c d t) ∗ (blkAny (rM 0) (dst 0 c) (slot t) s ∗ vReached (dst 0 c) 0 t s)
      ∗ (blkAny (rM 1) (dst 1 c) (slot t) s ∗ vReached (dst 1 c) 1 t s) ∗ two (toks c t s)) ⊢ (two (sendRes c t s) : sProp 𝕄) := by
    intro s
    iintro ⟨⟨Hc0, Hc1⟩, Ha, Hb, ⟨Ht0, Ht1⟩⟩
    isplitl [Hc0 Ha Ht0]
    · iapply (one s 0); isplitl [Hc0]; · iexact Hc0
      isplitl [Ha] <;> iassumption
    iapply (one s 1); isplitl [Hc1]; · iexact Hc1
    isplitl [Hb] <;> iassumption
  unfold room
  iintro ⟨#Hc, ⟨⟨Ha0, Ha1, Ha2, Ha3⟩, ⟨Hb0, Hb1, Hb2, Hb3⟩⟩, ⟨Ht0, Ht1, Ht2, Ht3⟩⟩
  isplitl [Ha0 Hb0 Ht0]
  · iapply (pair 0); isplitr; · iexact Hc
    isplitl [Ha0]; · iexact Ha0
    isplitl [Hb0] <;> iassumption
  isplitl [Ha1 Hb1 Ht1]
  · iapply (pair 1); isplitr; · iexact Hc
    isplitl [Ha1]; · iexact Ha1
    isplitl [Hb1] <;> iassumption
  isplitl [Ha2 Hb2 Ht2]
  · iapply (pair 2); isplitr; · iexact Hc
    isplitl [Ha2]; · iexact Ha2
    isplitl [Hb2] <;> iassumption
  iapply (pair 3); isplitr; · iexact Hc
  isplitl [Ha3]; · iexact Ha3
  isplitl [Hb3] <;> iassumption

/-! ## Steps -/

/-- Before step `g + 2`. -/
def St (g : ℕ) : sProp 𝕄 := iprop(four (fun s => two (J c g s)) ∗ two (fun d => cPos c d g) ∗ two (fun d => cPos c d (g + 1)))
/-- The credit and rights that step `g + 2` uses up. -/
def stepRes (g : ℕ) : sProp 𝕄 :=
  iprop(four (fun s => two fun d => vCred c d (g + 1) s) ∗ four (fun s => two (toks c (g + 2) s)) ∗ two (fun d => cCred c d g))
/-- The rights to credit transfer `t`. -/
def crdRes (t : ℕ) : sProp 𝕄 := two fun d => cTok c d t

/-- What every step of the run uses. -/
abbrev ctx : sProp 𝕄 := iprop(records X Wt κ ∗ levAts L lv)

/-- The part of step `g + 2` before its credits. -/
theorem wp_stepCore (g : ℕ) (hg : g < 13) (O : CellTallies nD τ sig ℕ) (hO : Above (2 * g + 5) O) (k : PR F) (Q : PUnit → sProp 𝕄)
    (h0 : ∀ a, ringOff 0 (posW c) (g + 2) a + S1.size a ≤ S16.size a) (h1 : ∀ a, ringOff 1 (posW c) (g + 2) a + S1.size a ≤ S16.size a) :
    iprop(ctx X Wt κ ∗ ins X Wt c ∗ St c g ∗ stepRes c g ∗ ow c (owSubs c (g + 2) O))
      ⊢ iprop(((ins X Wt c ∗ St c (g + 1) ∗ four (fun s => two (rcvd c (g + 1) s)) ∗ ow c O) -∗ wpb c k Q)
          -∗ wpb c (prods (posW c) (g + 2) h0 h1 fun l0 l1 => takeCredit (slot (g + 2)) <| subs (nxt c) (prv c) (g + 2) l0 l1 k) Q) := by
  have hA : Above (2 * g + 5) (owSubs c (g + 2) O) := above_owSubs (by omega) (by omega) hO
  unfold St stepRes
  iintro ⟨⟨#HR, #Hlev⟩, Hi, ⟨Hj, Hp, Hp'⟩, ⟨Hv, Ht, Hc⟩, HO⟩ Hk
  iapply (wp_prods X Wt c Q (g + 2) (by omega) h0 h1) $$ Hi
  iintro Hi
  iapply (wp_takeCredit X Wt κ c g (by omega) _ (Fin.ext (Nat.add_mod_right g 2)) _ hA) $$ [Hc Hp HO]
  · isplitr; · iexact HR
    isplitr; · iexact Hlev
    isplitl [Hc]; · iexact Hc
    isplitl [Hp] <;> iassumption
  iintro ⟨Hp, Hq, Hroom, HO⟩
  ihave Hs := (sendRes_intro c (g + 2)) $$ [Hq Hroom Ht]
  · isplitl [Hq]; · iexact Hq
    isplitl [Hroom] <;> iassumption
  iapply (wp_subs X Wt κ c g hg O (hO.mono (by omega))) $$ [Hj Hv Hs HO]
  · isplitr; · iexact HR
    isplitr; · iexact Hlev
    isplitl [Hj]; · iexact Hj
    isplitl [Hv]; · iexact Hv
    isplitl [Hs] <;> iassumption
  iintro ⟨Hj, Hr, HO⟩
  iapply Hk
  isplitl [Hi]; · iexact Hi
  isplitl [Hj Hp Hp']
  · isplitl [Hj]; · iexact Hj
    isplitl [Hp'] <;> iassumption
  isplitl [Hr] <;> iassumption

/-- A step from the second to the last but one. -/
theorem step_mid (v0 : BitVec 32) (n p : Dev nD) (k : PR F) (g : ℕ) (hg : g < 12) (h0 h1) :
    step v0 n p (g + 2) h0 h1 k = prods v0 (g + 2) h0 h1 fun l0 l1 => takeCredit (slot (g + 2)) <| subs n p (g + 2) l0 l1 <| giveCredit n p (slot (g + 1)) k := by
  have key : ∀ g : Fin 12, ∀ h0 h1, step v0 n p (g.val + 2) h0 h1 k
      = prods v0 (g.val + 2) h0 h1 fun l0 l1 => takeCredit (slot (g.val + 2)) <| subs n p (g.val + 2) l0 l1 <| giveCredit n p (slot (g.val + 1)) k := by
    intro g
    fin_cases g <;> (intro h0 h1; rfl)
  exact key ⟨g, hg⟩ h0 h1

/-- The steps are the first one, then the rest. -/
theorem steps_succ (v0 : BitVec 32) (hv : k0_chk3 v0) (n p : Dev nD) (k : PR F) (m h : ℕ) (e : m + 1 + h = 15) :
    steps v0 hv n p k (m + 1) h e
      = step v0 n p h (ringOff_inb v0 hv 0 h (by omega)) (ringOff_inb v0 hv 1 h (by omega)) (steps v0 hv n p k m (h + 1) (by omega)) := rfl

theorem step_zero (v0 : BitVec 32) (n p : Dev nD) (k : PR F) (h0 h1) :
    step v0 n p 0 h0 h1 k = prods v0 0 h0 h1 fun l0 l1 => subs n p 0 l0 l1 k := rfl

theorem step_one (v0 : BitVec 32) (n p : Dev nD) (k : PR F) (h0 h1) :
    step v0 n p 1 h0 h1 k = prods v0 1 h0 h1 fun l0 l1 => subs n p 1 l0 l1 <| giveCredit n p (slot 0) k := rfl

/-- The credit and rights that `m` steps from `g + 2` on use up. -/
def stepsRes : (m g : ℕ) → sProp 𝕄
  | 0, _ => iprop(emp)
  | m + 1, g => iprop(stepRes c g ∗ (if g < 12 then crdRes c (g + 1) else iprop(emp)) ∗ stepsRes m (g + 1))

theorem wp_steps (hv : k0_chk3 (posW c)) (k : PR F) (Q : PUnit → sProp 𝕄) : ∀ (m g : ℕ) (hm : m + 1 + g = 13) (e : m + 1 + (g + 2) = 15),
    iprop(ctx X Wt κ ∗ ins X Wt c ∗ St c g ∗ stepsRes c (m + 1) g ∗ ow c (owSteps c (m + 1) g))
      ⊢ iprop(((ins X Wt c ∗ St c 13 ∗ four (fun s => two (rcvd c 13 s)) ∗ ow c 0) -∗ wpb c k Q)
          -∗ wpb c (steps (posW c) hv (nxt c) (prv c) k (m + 1) (g + 2) e) Q)
  | 0, g, hm, e => by
    obtain rfl : g = 12 := by omega
    have h0 := ringOff_inb (posW c) hv 0 14 (by omega)
    have h1 := ringOff_inb (posW c) hv 1 14 (by omega)
    show iprop(_ ∗ _ ∗ _ ∗ (stepRes c 12 ∗ (if 12 < 12 then crdRes c (12 + 1) else iprop(emp)) ∗ stepsRes c 0 (12 + 1))
      ∗ ow c (owSubs c (12 + 2) (if 12 < 12 then owCrd c (12 + 1) (owSteps c 0 (12 + 1)) else 0)))
      ⊢ iprop(_ -∗ wpb c (prods (posW c) (12 + 2) h0 h1 fun l0 l1 => takeCredit (slot (12 + 2)) <| subs (nxt c) (prv c) (12 + 2) l0 l1 k) Q)
    rw [if_neg (by omega), if_neg (by omega)]
    iintro ⟨Hctx, Hi, HS, ⟨Hr, -, -⟩, HO⟩ Hk
    iapply (wp_stepCore X Wt κ c 12 (by omega) 0 (Above.zero _) k Q h0 h1) $$ [Hctx Hi HS Hr HO]
    · isplitl [Hctx]; · iexact Hctx
      isplitl [Hi]; · iexact Hi
      isplitl [HS]; · iexact HS
      isplitl [Hr] <;> iassumption
    iexact Hk
  | m + 1, g, hm, e => by
    have hg : g < 12 := by omega
    have h0 := ringOff_inb (posW c) hv 0 (g + 2) (by omega)
    have h1 := ringOff_inb (posW c) hv 1 (g + 2) (by omega)
    have ih := wp_steps hv k Q m (g + 1) (by omega) (by omega)
    have hA : Above (2 * g + 5) (owSteps c (m + 1) (g + 1)) := above_owSteps (m + 1) (g + 1) (by omega) (by omega)
    show _ ⊢ iprop(_ -∗ wpb c (step (posW c) (nxt c) (prv c) (g + 2) h0 h1 (steps (posW c) hv (nxt c) (prv c) k (m + 1) (g + 1 + 2) (by omega))) Q)
    rw [step_mid _ _ _ _ g hg]
    show iprop(_ ∗ _ ∗ _ ∗ (stepRes c g ∗ (if g < 12 then crdRes c (g + 1) else iprop(emp)) ∗ stepsRes c (m + 1) (g + 1))
      ∗ ow c (owSubs c (g + 2) (if g < 12 then owCrd c (g + 1) (owSteps c (m + 1) (g + 1)) else (owSteps c (m + 1) (g + 1))))) ⊢ _
    rw [if_pos hg, if_pos hg]
    iintro ⟨⟨#HR, #Hlev⟩, Hi, HS, ⟨Hr, Ht, Hrest⟩, HO⟩ Hk
    iapply (wp_stepCore X Wt κ c g (by omega) (owCrd c (g + 1) (owSteps c (m + 1) (g + 1))) (above_owCrd (by omega) (by omega) hA) _ Q h0 h1) $$ [Hi HS Hr HO]
    · isplitr; · isplitr <;> iassumption
      isplitl [Hi]; · iexact Hi
      isplitl [HS]; · iexact HS
      isplitl [Hr] <;> iassumption
    iintro ⟨Hi, HS, Hrc, HO⟩
    iapply (wp_giveCredit X Wt κ c (g + 1) (by omega) (owSteps c (m + 1) (g + 1))) $$ [Hrc Ht HO]
    · isplitr; · iexact HR
      isplitl [Hrc]; · iexact Hrc
      isplitl [Ht]; · unfold crdRes; iexact Ht
      iexact HO
    iintro HO
    iapply ih $$ [Hi HS Hrest HO]
    · isplitr; · isplitr <;> iassumption
      isplitl [Hi]; · iexact Hi
      isplitl [HS]; · iexact HS
      isplitl [Hrest] <;> iassumption
    iexact Hk

/-- Before step 0. -/
def St₀ : sProp 𝕄 := iprop(four (fun s => two (J₀ c s)) ∗ two (fun d => cPos c d 0) ∗ two (fun d => cPos c d 1))

/-- The credit and rights that all fifteen steps use up. -/
def allRes : sProp 𝕄 :=
  iprop(four (fun s => two (toks c 0 s)) ∗ four (fun s => two (toks c 1 s)) ∗ four (fun s => two fun d => vCred c d 0 s) ∗ crdRes c 0 ∗ stepsRes c 13 0)

theorem wp_allSteps (hv : k0_chk3 (posW c)) (k : PR F) (Q : PUnit → sProp 𝕄) :
    iprop(ctx X Wt κ ∗ ins X Wt c ∗ St₀ c ∗ (two (fun d => cReached c d 0) ∗ two (room c 0 (slot 0))) ∗ (two (fun d => cReached c d 1) ∗ two (room c 1 (slot 1)))
        ∗ allRes c ∗ ow c (owAll c))
      ⊢ iprop(((ins X Wt c ∗ St c 13 ∗ four (fun s => two (rcvd c 13 s)) ∗ ow c 0) -∗ wpb c k Q)
          -∗ wpb c (steps (posW c) hv (nxt c) (prv c) k 15 0 rfl) Q) := by
  have h0 := fun h (hh : h < 15) => ringOff_inb (posW c) hv 0 h hh
  have h1 := fun h (hh : h < 15) => ringOff_inb (posW c) hv 1 h hh
  rw [steps_succ _ _ _ _ _ 14 0, step_zero, steps_succ _ _ _ _ _ 13 1, step_one]
  unfold St₀ allRes owAll
  iintro ⟨⟨#HR, #Hlev⟩, Hi, ⟨Hj, Hp, Hp'⟩, ⟨Hq0, Hroom0⟩, ⟨Hq1, Hroom1⟩, ⟨Ht0, Ht1, Hv, Hc, Hrest⟩, HO⟩ Hk
  iapply (wp_prods X Wt c Q 0 (by omega) (h0 0 (by omega)) (h1 0 (by omega))) $$ Hi
  iintro Hi
  ihave Hs := (sendRes_intro c 0) $$ [Hq0 Hroom0 Ht0]
  · isplitl [Hq0]; · iexact Hq0
    isplitl [Hroom0] <;> iassumption
  iapply (wp_subs0 X Wt κ c (owSubs c 1 (owCrd c 0 (owSteps c 13 0)))) $$ [Hj Hs HO]
  · isplitr; · iexact HR
    isplitl [Hj]; · iexact Hj
    isplitl [Hs] <;> iassumption
  iintro ⟨Hj, HO⟩
  iapply (wp_prods X Wt c Q 1 (by omega) (h0 1 (by omega)) (h1 1 (by omega))) $$ Hi
  iintro Hi
  ihave Hs := (sendRes_intro c 1) $$ [Hq1 Hroom1 Ht1]
  · isplitl [Hq1]; · iexact Hq1
    isplitl [Hroom1] <;> iassumption
  iapply (wp_subs1 X Wt κ c (owCrd c 0 (owSteps c 13 0)) (above_owCrd (by omega) (by omega) (above_owSteps 13 0 rfl (by omega)))) $$ [Hj Hv Hs HO]
  · isplitr; · iexact HR
    isplitr; · iexact Hlev
    isplitl [Hj]; · iexact Hj
    isplitl [Hv]; · iexact Hv
    isplitl [Hs] <;> iassumption
  iintro ⟨Hj, Hrc, HO⟩
  iapply (wp_giveCredit X Wt κ c 0 (by omega) (owSteps c 13 0)) $$ [Hrc Hc HO]
  · isplitr; · iexact HR
    isplitl [Hrc]; · iexact Hrc
    isplitl [Hc]; · unfold crdRes; iexact Hc
    iexact HO
  iintro HO
  iapply (wp_steps X Wt κ c hv k Q 12 0 rfl rfl) $$ [Hi Hj Hp Hp' Hrest HO]
  · isplitr; · isplitr <;> iassumption
    isplitl [Hi]; · iexact Hi
    isplitl [Hj Hp Hp']
    · unfold St
      isplitl [Hj]; · iexact Hj
      isplitl [Hp] <;> iassumption
    isplitl [Hrest] <;> iassumption
  iexact Hk

end Cert.KernelIdeal.Ring

end
-- ==== Proof.KernelIdeal.Grid.lean ====
/- Conjunctions over the directions, slots and sub-blocks: how to regroup them, and to go through them member by member. -/
module

public import proofs.«01_k».proof.Proof.KernelIdeal.Loop
public import Idealize.ShloMosaic.Lib.Ring

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig ℕ (Elt F) ℕ UU ℕ

theorem two_eq (Φ : Fin 2 → sProp 𝕄) : two Φ = bigSep Finset.univ Φ := (BI.bigSep_fin_two Φ).symm
theorem four_eq (Φ : Fin 4 → sProp 𝕄) : four Φ = bigSep Finset.univ Φ := by
  rw [show (Finset.univ : Finset (Fin 4)) = {0, 1, 2, 3} from by decide, bigSep_insert (by decide), bigSep_insert (by decide), bigSep_insert (by decide), bigSep_singleton]
  rfl

/-- Over sub-blocks, then directions, as one family. -/
theorem ft_eq (Φ : Fin 4 → Fin 2 → sProp 𝕄) : four (fun s => two (Φ s)) = bigSep Finset.univ fun i : Fin 4 × Fin 2 => Φ i.1 i.2 := by
  rw [bigSep_univ_prod, four_eq]; exact bigSep_congr fun s _ => two_eq _
/-- Over directions, then slots, as one family. -/
theorem tt_eq (Φ : Fin 2 → Fin 2 → sProp 𝕄) : two (fun d => two (Φ d)) = bigSep Finset.univ fun i : Fin 2 × Fin 2 => Φ i.1 i.2 := by
  rw [bigSep_univ_prod, two_eq]; exact bigSep_congr fun s _ => two_eq _
/-- Over directions, slots and sub-blocks, as one family. -/
theorem ttf_eq (Φ : Fin 2 → Fin 2 → Fin 4 → sProp 𝕄) :
    two (fun d => two fun b => four (Φ d b)) = bigSep Finset.univ fun i : Fin 2 × Fin 2 × Fin 4 => Φ i.1 i.2.1 i.2.2 := by
  rw [bigSep_univ_prod, two_eq]
  refine bigSep_congr fun d _ => ?_
  rw [bigSep_univ_prod, two_eq]
  exact bigSep_congr fun b _ => four_eq _

/-- The same family, by sub-block first or by direction first. -/
theorem regroup (Φ : Fin 2 → Fin 2 → Fin 4 → sProp 𝕄) :
    four (fun s => two fun d => two fun b => Φ d b s) = two fun d => two fun b => four fun s => Φ d b s := by
  let e : (Fin 4 × Fin 2) × Fin 2 ≃ Fin 2 × Fin 2 × Fin 4 :=
    ⟨fun i => (i.1.2, i.2, i.1.1), fun i => ((i.2.2, i.1), i.2.1), fun _ => rfl, fun _ => rfl⟩
  have l : (bigSep Finset.univ fun i : Fin 4 × Fin 2 => two (fun b => Φ i.2 b i.1)) = bigSep Finset.univ fun i : (Fin 4 × Fin 2) × Fin 2 => Φ i.1.2 i.2 i.1.1 := by
    rw [bigSep_univ_prod (α := Fin 4 × Fin 2)]
    exact bigSep_congr fun i _ => two_eq _
  rw [ttf_eq, ft_eq, l]
  exact (bigSep_univ_equiv e (fun i : Fin 2 × Fin 2 × Fin 4 => Φ i.1 i.2.1 i.2.2)).symm

theorem four_mono {Φ Ψ : Fin 4 → sProp 𝕄} (h : ∀ s, Φ s ⊢ Ψ s) : four Φ ⊢ four Ψ := by
  rw [four_eq, four_eq]; exact bigSep_mono fun i _ => h i
theorem two_mono {Φ Ψ : Fin 2 → sProp 𝕄} (h : ∀ s, Φ s ⊢ Ψ s) : two Φ ⊢ two Ψ := by
  rw [two_eq, two_eq]; exact bigSep_mono fun i _ => h i
theorem four_sep (Φ Ψ : Fin 4 → sProp 𝕄) : four (fun s => iprop(Φ s ∗ Ψ s)) = iprop(four Φ ∗ four Ψ) := by
  rw [four_eq, four_eq, four_eq, bigSep_sep']
theorem two_sep (Φ Ψ : Fin 2 → sProp 𝕄) : two (fun s => iprop(Φ s ∗ Ψ s)) = iprop(two Φ ∗ two Ψ) := by
  rw [two_eq, two_eq, two_eq, bigSep_sep']
theorem ttf_mono {Φ Ψ : Fin 2 → Fin 2 → Fin 4 → sProp 𝕄} (h : ∀ d b s, Φ d b s ⊢ Ψ d b s) :
    two (fun d => two fun b => four (Φ d b)) ⊢ two (fun d => two fun b => four (Ψ d b)) :=
  two_mono fun d => two_mono fun b => four_mono fun s => h d b s
theorem ttf_sep (Φ Ψ : Fin 2 → Fin 2 → Fin 4 → sProp 𝕄) :
    two (fun d => two fun b => four fun s => iprop(Φ d b s ∗ Ψ d b s)) = iprop(two (fun d => two fun b => four (Φ d b)) ∗ two fun d => two fun b => four (Ψ d b)) := by
  rw [ttf_eq, ttf_eq, ttf_eq, bigSep_sep']
theorem ft_sep (Φ Ψ : Fin 4 → Fin 2 → sProp 𝕄) :
    four (fun s => two fun d => iprop(Φ s d ∗ Ψ s d)) = iprop(four (fun s => two (Φ s)) ∗ four fun s => two (Ψ s)) := by
  rw [ft_eq, ft_eq, ft_eq, bigSep_sep']
/-- Updates member by member, with the help of something persistent, are one update. -/
theorem ttf_upd {R : sProp 𝕄} [BI.Persistent R] {Φ Ψ : Fin 2 → Fin 2 → Fin 4 → sProp 𝕄} (h : ∀ d b s, iprop(R ∗ Φ d b s) ⊢ |={Set.univ}=> Ψ d b s) :
    iprop(R ∗ two (fun d => two fun b => four (Φ d b))) ⊢ |={Set.univ}=> two (fun d => two fun b => four (Ψ d b)) := by
  rw [ttf_eq, ttf_eq]
  exact (bigSep_with_persistent fun i _ => h i.1 i.2.1 i.2.2).trans (bigSep_fupd _ _)
theorem tt_upd {R : sProp 𝕄} [BI.Persistent R] {Φ Ψ : Fin 2 → Fin 2 → sProp 𝕄} (h : ∀ d b, iprop(R ∗ Φ d b) ⊢ |={Set.univ}=> Ψ d b) :
    iprop(R ∗ two (fun d => two (Φ d))) ⊢ |={Set.univ}=> two (fun d => two (Ψ d)) := by
  rw [tt_eq, tt_eq]
  exact (bigSep_with_persistent fun i _ => h i.1 i.2).trans (bigSep_fupd _ _)

/-! ## A buffer of blocks, whole or block by block -/

section Blocks
variable (c : Dev nD)

theorem mem_blkR (b : Fin 2) (s : Fin 4) (i : S2x4x256x256.Idx) : i ∈ (blkR b s).set ↔ i 0 = b ∧ i 1 = s := by
  rw [Rect.mem_set_unit]
  constructor
  · intro h
    have h0 := h 0
    have h1 := h 1
    have e0 : S1x1x256x256.size 0 = 1 := rfl
    have e1 : S1x1x256x256.size 1 = 1 := rfl
    have f0 : (![b.val, s.val, 0, 0] : Fin 4 → ℕ) 0 = b.val := rfl
    have f1 : (![b.val, s.val, 0, 0] : Fin 4 → ℕ) 1 = s.val := rfl
    exact ⟨Fin.ext (by omega), Fin.ext (by omega)⟩
  · rintro ⟨h0, h1⟩ a
    match a with
    | 0 => rw [h0]; exact ⟨le_refl _, Nat.lt_succ_self _⟩
    | 1 => rw [h1]; exact ⟨le_refl _, Nat.lt_succ_self _⟩
    | 2 => exact ⟨Nat.zero_le _, lt_of_lt_of_eq (i 2).isLt (Nat.zero_add _).symm⟩
    | 3 => exact ⟨Nat.zero_le _, lt_of_lt_of_eq (i 3).isLt (Nat.zero_add _).symm⟩

/-- A whole buffer is its eight blocks. -/
theorem blocks_disj (b : Fin 2 × Fin 4) (b' : Fin 2 × Fin 4) (h : b ≠ b') : Disjoint (blkR b.1 b.2).set (blkR b'.1 b'.2).set := by
  rw [Finset.disjoint_left]
  intro i hi hi'
  rw [mem_blkR] at hi hi'
  exact h (Prod.ext (hi.1.symm.trans hi'.1) (hi.2.symm.trans hi'.2))
theorem blocks_cover : Finset.univ.biUnion (fun b : Fin 2 × Fin 4 => (blkR b.1 b.2).set) = Finset.univ := by
  ext i
  simp only [Finset.mem_biUnion, Finset.mem_univ, true_and, iff_true]
  exact ⟨(i 0, i 1), (mem_blkR _ _ i).mpr ⟨rfl, rfl⟩⟩

theorem bf_eq (Φ : Fin 2 → Fin 4 → sProp 𝕄) : two (fun b => four (Φ b)) = bigSep Finset.univ fun i : Fin 2 × Fin 4 => Φ i.1 i.2 := by
  rw [bigSep_univ_prod, two_eq]; exact bigSep_congr fun s _ => four_eq _

theorem split_at (ref : Ref sig .tc) (hsh : ref.ty = ⟨S2x4x256x256, .bf16⟩) (I : Fin 2 × Fin 4 → Finset (Idx ((c : Thread nD τ).loc ref)))
    (hd : ∀ b b', b ≠ b' → Disjoint (I b) (I b')) (hc : Finset.univ.biUnion I = Finset.univ) :
    iprop(∃ f : Buf (Elt F) ((c : Thread nD τ).loc ref), ((c : Thread nD τ).loc ref) ↦{fullShare} f)
      ⊢ (two fun b => four fun s => iprop(∃ f : Buf (Elt F) ((c : Thread nD τ).loc ref), ((c : Thread nD τ).loc ref) ↦[I (b, s)]{fullShare} f) : sProp 𝕄) := by
  rw [bf_eq]
  iintro ⟨%f, H⟩
  iapply ((Entails.of_eq (Idealize.ShloMosaic.Ring.pointsTo_blocks I hd hc f)).trans (bigSep_mono fun b _ => exists_intro (Φ := fun f : Buf (Elt F) ((c : Thread nD τ).loc ref) => (((c : Thread nD τ).loc ref) ↦[I b]{fullShare} f : sProp 𝕄)) f))
  iexact H
theorem join_at (ref : Ref sig .tc) (f₀ : Buf (Elt F) ((c : Thread nD τ).loc ref)) (I : Fin 2 × Fin 4 → Finset (Idx ((c : Thread nD τ).loc ref)))
    (hd : ∀ b b', b ≠ b' → Disjoint (I b) (I b')) (hc : Finset.univ.biUnion I = Finset.univ) :
    (two fun b => four fun s => iprop(∃ f : Buf (Elt F) ((c : Thread nD τ).loc ref), ((c : Thread nD τ).loc ref) ↦[I (b, s)]{fullShare} f) : sProp 𝕄)
      ⊢ iprop(∃ f : Buf (Elt F) ((c : Thread nD τ).loc ref), ((c : Thread nD τ).loc ref) ↦{fullShare} f) := by
  rw [bf_eq]
  exact Idealize.ShloMosaic.Ring.pointsTo_blocks_join_exists I hd hc f₀

end Blocks

end Cert.KernelIdeal.Ring

end
-- ==== Proof.KernelIdeal.Finish.lean ====
/- After the ring steps: the last received partial sums are completed, scaled, clamped at zero and stored. -/
module

public import proofs.«01_k».proof.Proof.KernelIdeal.Grid

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig ℕ (Elt F) ℕ UU ℕ

variable (X : Dev nD → Vec F S4096x256 .fp8e5m2) (Wt : Dev nD → Vec F S256x2048 .fp8e5m2)

/-! ## The result, block by block -/

/-- The direction, the sub-block and the place inside it that an entry of the result comes from. -/
def outD (i : S256x2048.Idx) : Fin 2 := ⟨(i 1).val / 1024 % 2, Nat.mod_lt _ (by decide)⟩
def outS (i : S256x2048.Idx) : Fin 4 := ⟨(i 1).val / 256 % 4, Nat.mod_lt _ (by decide)⟩
def outL (i : S256x2048.Idx) : S256x256.Idx
  | 0 => i 0
  | 1 => ⟨(i 1).val % 256, Nat.mod_lt _ (by decide)⟩

/-- Where block `(d, s)` of the result lies. -/
abbrev outR (d : Fin 2) (s : Fin 4) : Rect S256x2048 := Rect.unit (s := S256x2048) ![0, 1024 * d.val + 256 * s.val] S256x256.size (inb_out d s)
/-- A finished partial sum, scaled and clamped at zero. -/
abbrev outBlk (sc : F .f32) (a : FVec F S256x256 .f32) : FVec F S256x256 .f32 :=
  maximumf (mulf a (broadcast S256x256 sc)) (broadcast S256x256 (Scalar.ofBits .f32 0x00000000#32))

variable (sc : F .f32) (c : Dev nD)

/-- The result of device `c`. -/
def outW : Vec F S256x2048 .f32 := fun i => outBlk sc (part X Wt (outD i) (outS i) 15 c) (outL i)

/-- `f` is the result on the blocks of `D`. -/
def Agree (D : Finset (Fin 2 × Fin 4)) (f : Vec F S256x2048 .f32) : Prop := ∀ i, (outD i, outS i) ∈ D → f i = outW X Wt sc c i

theorem emb_outR (d : Fin 2) (s : Fin 4) (x : S256x256.Idx) : outD ((outR d s).emb x) = d ∧ outS ((outR d s).emb x) = s := by
  have h : ((outR d s).emb x 1).val = 1024 * d.val + 256 * s.val + 1 * (x 1).val := rfl
  have hx : (x 1).val < 256 := (x 1).isLt
  exact ⟨Fin.ext (by show ((outR d s).emb x 1).val / 1024 % 2 = d.val; omega), Fin.ext (by show ((outR d s).emb x 1).val / 256 % 4 = s.val; omega)⟩
theorem emb_outL (i : S256x2048.Idx) : (outR (outD i) (outS i)).emb (outL i) = i := by
  funext a
  have hi : (i 1).val < 2048 := (i 1).isLt
  match a with
  | 0 => exact Fin.ext (show 0 + 1 * (i 0).val = (i 0).val by omega)
  | 1 => exact Fin.ext (show 1024 * ((i 1).val / 1024 % 2) + 256 * ((i 1).val / 256 % 4) + 1 * ((i 1).val % 256) = (i 1).val by omega)

/-- Storing block `(d, s)` adds it to the blocks that are right. -/
theorem Agree.store {D : Finset (Fin 2 × Fin 4)} {f : Vec F S256x2048 .f32} (h : Agree X Wt sc c D f) (d : Fin 2) (s : Fin 4) :
    Agree X Wt sc c (insert (d, s) D) ((outM.access (outR d s)).write (Elt F) f (outBlk sc (part X Wt d s 15 c)) Finset.univ) := by
  intro i hi
  by_cases e : (outD i, outS i) = (d, s)
  · obtain ⟨rfl, rfl⟩ := Prod.mk.inj e
    have := View.write_emb_of_mem (Val := Elt F) (v := outM.access (outR (outD i) (outS i))) f (outBlk sc (part X Wt (outD i) (outS i) 15 c)) (Finset.mem_univ (outL i))
    rw [show (outM.access (outR (outD i) (outS i))).emb (outL i) = i from emb_outL i] at this
    exact this
  · rw [View.write_of_not_mem]
    · exact h i ((Finset.mem_insert.mp hi).resolve_left e)
    · intro hm
      obtain ⟨x, -, rfl⟩ := Finset.mem_map.mp hm
      exact e (Prod.ext (emb_outR d s x).1 (emb_outR d s x).2)
theorem Agree.eq {f : Vec F S256x2048 .f32} (h : Agree X Wt sc c Finset.univ f) : f = outW X Wt sc c := funext fun i => h i (Finset.mem_univ _)

/-- The result's buffer, right on the blocks of `D`. -/
def outAt (D : Finset (Fin 2 × Fin 4)) : sProp 𝕄 := iprop(∃ f : Vec F S256x2048 .f32, pts c cc0_stg8_0 f ∗ ⌜Agree X Wt sc c D f⌝)

variable (κ : GSem nD τ sig → ℕ)

theorem wp_putOut (D : Finset (Fin 2 × Fin 4)) (d : Fin 2) (s : Fin 4) (k : PR F) (Q : PUnit → sProp 𝕄) :
    outAt X Wt sc c D ⊢ iprop((outAt X Wt sc c (insert (d, s) D) -∗ wpb c k Q) -∗ wpb c (putOut d s sc (part X Wt d s 15 c) k) Q) := by
  unfold outAt putOut
  iintro ⟨%f, H, %hf⟩ Hk
  iapply (wp_load_rect (defs := defs₀ (F := F)) (Ix := ℕ) (Name := ℕ) (U := UU) (Lvl := ℕ) 𝒱₀ (c : Thread nD τ) none (Γ := .empty) Set.univ (m := outM)
    (r := outR d s) (S := Finset.univ) (q := fullShare) (f := f) (Finset.subset_univ _)) $$ H
  iintro H
  iapply (wp_store (defs := defs₀ (F := F)) (Ix := ℕ) (Name := ℕ) (U := UU) (Lvl := ℕ) 𝒱₀ (c : Thread nD τ) none (Γ := .empty) Set.univ (m := outM)
    (r := outR d s) (S := Finset.univ) (f := f) (Finset.subset_univ _)) $$ H
  iintro H
  iapply Hk
  iexists (outM.access (outR d s)).write (Elt F) f (outBlk sc (part X Wt d s 15 c)) Finset.univ
  isplitl [H]; · iexact H
  ipureintro
  exact hf.store X Wt sc c d s

theorem wp_last (D : Finset (Fin 2 × Fin 4)) (s : Fin 4) (k : PR F) (Q : PUnit → sProp 𝕄) :
    iprop(ctx X Wt κ ∗ two (fun d => iprop(vCred c d 14 s ∗ vPos c d 14 s)) ∗ outAt X Wt sc c D ∗ ow c 0)
      ⊢ iprop(((two (fun d => vPos c d 16 s) ∗ two (rcvd c 14 s) ∗ outAt X Wt sc c (insert (1, s) (insert (0, s) D)) ∗ ow c 0) -∗ wpb c k Q)
          -∗ wpb c (last s sc (prodAt X Wt 0 15 c) (prodAt X Wt 1 15 c) k) Q) := by
  unfold last
  iintro ⟨⟨#HR, #Hlev⟩, Hv, Ho, HO⟩ Hk
  iapply (wp_fetch X Wt κ c 14 (by omega) 0 rfl s 0 (Above.zero _)) $$ [Hv HO]
  · isplitr; · iexact HR
    isplitr; · iexact Hlev
    isplitl [Hv] <;> iassumption
  iintro ⟨Hp, Hr, HO⟩
  iapply (wp_putOut X Wt sc c D 0 s) $$ Ho
  iintro Ho
  iapply (wp_putOut X Wt sc c (insert (0, s) D) 1 s) $$ Ho
  iintro Ho
  iapply Hk
  isplitl [Hp]; · iexact Hp
  isplitl [Hr]; · iexact Hr
  isplitl [Ho] <;> iassumption

/-- The single word of a one-word buffer in scalar memory. -/
theorem wp_ldS1 (Q : PUnit.{1} → sProp (MT nD τ sig ℕ (Elt F) ℕ UU ℕ)) {e : EltTy} (M : Memref sig .tc .smem S1 e) (hp : e.packing = 1) (f : Buf (Elt F) ((M.access (Rect.unit (s := S1) ![0] S1.size inb_S1_S1_0)).loc (c : Thread nD τ)))
    (v : Elt F e) (hf : (M.access (Rect.unit (s := S1) ![0] S1.size inb_S1_S1_0)).read (Elt F) f (Shape.Idx.first (numel1_S1.symm ▸ Nat.one_pos)) = v) (k : Elt F e → PR F) :
    ((M.access (Rect.unit (s := S1) ![0] S1.size inb_S1_S1_0)).loc (c : Thread nD τ) ↦{fullShare} f)
      ⊢ iprop((((M.access (Rect.unit (s := S1) ![0] S1.size inb_S1_S1_0)).loc (c : Thread nD τ) ↦{fullShare} f) -∗ wpb c (k v) Q)
        -∗ wpb c (ldS M (Rect.unit (s := S1) ![0] S1.size inb_S1_S1_0) numel1_S1 hp k) Q) := by
  have key := wp_smemLoadElt (defs := defs₀ (F := F)) (Ix := ℕ) (Name := ℕ) (U := UU) (Lvl := ℕ) 𝒱₀ (c : Thread nD τ) none (Γ := .empty) Set.univ (m := M) (r := Rect.unit (s := S1) ![0] S1.size inb_S1_S1_0)
    (hw := View.loads_smem_one hp numel1_S1) (x := Shape.Idx.first (numel1_S1.symm ▸ Nat.one_pos)) (k := k) (Q := Q) (S := Finset.univ) (q := fullShare) (f := f) (Finset.subset_univ _)
  rw [hf] at key
  exact key

/-! ## All of it -/

set_option maxRecDepth 10000 in
theorem off61_eq : ∀ (c : Dev nD) (d : Fin 2), RING ⟨k0_off61 (posW c) 0 % 16, Nat.mod_lt _ (by decide)⟩ = chunk d 15 c := by
  decide +kernel

/-- Of sub-block `s`, after the last load: positions past every round, and the blocks of both buffers. -/
def E (s : Fin 4) (d : Fin 2) : sProp 𝕄 :=
  iprop((vPos c d 15 s ∗ vPos c d 16 s) ∗ (sPos c d 15 s ∗ sPos c d 16 s) ∗ (blkAny (rM d) c (slot 14) s ∗ blkAny (rM d) c (slot 13) s)
    ∗ blkAny (sM d) c (slot 14) s ∗ blkAny (sM d) c (slot 13) s)

/-- The words the body is given, and the scales: the tables of places, and the two scales. -/
abbrev words (sx sw : F .f32) : sProp 𝕄 :=
  iprop(pts c cc0_stg2_0 (fun _ => sx) ∗ pts c cc0_stg3_0 (fun _ => sw))

theorem wp_drain2 (s : Fin 4) (t : ℕ) (ht : t < 15) (k : PR F) (Q : PUnit → sProp 𝕄) :
    iprop(ctx X Wt κ ∗ two (fun d => iprop(sPos c d t s ∗ sCred c d t s)) ∗ ow c 0)
      ⊢ iprop(((two (fun d => iprop(sPos c d (t + 2) s ∗ blkAny (sM d) c (slot t) s)) ∗ ow c 0) -∗ wpb c k Q) -∗ wpb c (drain (slot t) s k) Q) := by
  iintro ⟨⟨#HR, #Hlev⟩, Hp, HO⟩ Hk
  iapply (wp_drain X Wt κ c t ht _ rfl s 0 (Above.zero _)) $$ [Hp HO]
  · isplitr; · iexact HR
    isplitr; · iexact Hlev
    isplitl [Hp] <;> iassumption
  iintro ⟨⟨Hp0, Hp1⟩, ⟨⟨Hb0, -⟩, ⟨Hb1, -⟩⟩, HO⟩
  iapply Hk
  isplitr [HO]
  · isplitl [Hp0 Hb0]
    · isplitl [Hp0] <;> iassumption
    isplitl [Hp1] <;> iassumption
  iexact HO

theorem wp_drains (t : ℕ) (ht : t < 15) (k : PR F) (Q : PUnit → sProp 𝕄) :
    iprop(ctx X Wt κ ∗ four (fun s => two (fun d => iprop(sPos c d t s ∗ sCred c d t s))) ∗ ow c 0)
      ⊢ iprop(((four (fun s => two (fun d => iprop(sPos c d (t + 2) s ∗ blkAny (sM d) c (slot t) s))) ∗ ow c 0) -∗ wpb c k Q)
        -∗ wpb c (drain (slot t) 0 <| drain (slot t) 1 <| drain (slot t) 2 <| drain (slot t) 3 k) Q) := by
  iintro ⟨#HC, ⟨H0, H1, H2, H3⟩, HO⟩ Hk
  iapply (wp_drain2 X Wt c κ 0 t ht) $$ [H0 HO]
  · isplitr; · iexact HC
    isplitl [H0] <;> iassumption
  iintro ⟨H0, HO⟩
  iapply (wp_drain2 X Wt c κ 1 t ht) $$ [H1 HO]
  · isplitr; · iexact HC
    isplitl [H1] <;> iassumption
  iintro ⟨H1, HO⟩
  iapply (wp_drain2 X Wt c κ 2 t ht) $$ [H2 HO]
  · isplitr; · iexact HC
    isplitl [H2] <;> iassumption
  iintro ⟨H2, HO⟩
  iapply (wp_drain2 X Wt c κ 3 t ht) $$ [H3 HO]
  · isplitr; · iexact HC
    isplitl [H3] <;> iassumption
  iintro ⟨H3, HO⟩
  iapply Hk
  isplitr [HO]
  · isplitl [H0]; · iexact H0
    isplitl [H1]; · iexact H1
    isplitl [H2] <;> iassumption
  iexact HO

/-- The four last sub-blocks: the result's buffer is the result. -/
theorem wp_lasts (k : PR F) (Q : PUnit → sProp 𝕄) :
    iprop(ctx X Wt κ ∗ four (fun s => two fun d => iprop(vCred c d 14 s ∗ vPos c d 14 s)) ∗ (∃ f, pts c cc0_stg8_0 f) ∗ ow c 0)
      ⊢ iprop(((four (fun s => two fun d => vPos c d 16 s) ∗ four (fun s => two (rcvd c 14 s)) ∗ pts c cc0_stg8_0 (outW X Wt sc c) ∗ ow c 0) -∗ wpb c k Q)
          -∗ wpb c (last 0 sc (prodAt X Wt 0 15 c) (prodAt X Wt 1 15 c) <| last 1 sc (prodAt X Wt 0 15 c) (prodAt X Wt 1 15 c) <|
            last 2 sc (prodAt X Wt 0 15 c) (prodAt X Wt 1 15 c) <| last 3 sc (prodAt X Wt 0 15 c) (prodAt X Wt 1 15 c) k) Q) := by
  iintro ⟨#HC, ⟨H0, H1, H2, H3⟩, ⟨%f, Ho⟩, HO⟩ Hk
  ihave Ho := (show pts c cc0_stg8_0 f ⊢ (outAt X Wt sc c ∅ : sProp 𝕄) from by
    unfold outAt
    iintro H; iexists f
    isplitl [H]; · iexact H
    ipureintro
    intro i hi
    exact absurd hi (Finset.notMem_empty _)) $$ Ho
  iapply (wp_last X Wt sc c κ _ 0) $$ [H0 Ho HO]
  · isplitr; · iexact HC
    isplitl [H0]; · iexact H0
    isplitl [Ho] <;> iassumption
  iintro ⟨H0, R0, Ho, HO⟩
  iapply (wp_last X Wt sc c κ _ 1) $$ [H1 Ho HO]
  · isplitr; · iexact HC
    isplitl [H1]; · iexact H1
    isplitl [Ho] <;> iassumption
  iintro ⟨H1, R1, Ho, HO⟩
  iapply (wp_last X Wt sc c κ _ 2) $$ [H2 Ho HO]
  · isplitr; · iexact HC
    isplitl [H2]; · iexact H2
    isplitl [Ho] <;> iassumption
  iintro ⟨H2, R2, Ho, HO⟩
  iapply (wp_last X Wt sc c κ _ 3) $$ [H3 Ho HO]
  · isplitr; · iexact HC
    isplitl [H3]; · iexact H3
    isplitl [Ho] <;> iassumption
  iintro ⟨H3, R3, Ho, HO⟩
  ihave Ho := (show (outAt X Wt sc c (insert (1, 3) (insert (0, 3) (insert (1, 2) (insert (0, 2) (insert (1, 1) (insert (0, 1) (insert (1, 0) (insert (0, 0) ∅)))))))) : sProp 𝕄)
      ⊢ pts c cc0_stg8_0 (outW X Wt sc c) from by
    rw [show (insert (1, 3) (insert (0, 3) (insert (1, 2) (insert (0, 2) (insert (1, 1) (insert (0, 1) (insert (1, 0) (insert (0, 0) ∅))))))) : Finset (Fin 2 × Fin 4))
      = Finset.univ from by decide]
    unfold outAt
    iintro ⟨%f, H, %hf⟩
    rw [hf.eq]
    iexact H) $$ Ho
  iapply Hk
  isplitl [H0 H1 H2 H3]
  · isplitl [H0]; · iexact H0
    isplitl [H1]; · iexact H1
    isplitl [H2] <;> iassumption
  isplitl [R0 R1 R2 R3]
  · isplitl [R0]; · iexact R0
    isplitl [R1]; · iexact R1
    isplitl [R2] <;> iassumption
  isplitl [Ho] <;> iassumption

/-- What the steps leave, by what the last part uses it for. -/
theorem St_split : iprop(St c 13 ∗ four (fun s => two fun d => vCred c d 14 s)) ⊢
    (iprop(four (fun s => two fun d => iprop(vCred c d 14 s ∗ vPos c d 14 s)) ∗ four (fun s => two fun d => iprop(sPos c d 13 s ∗ sCred c d 13 s))
      ∗ four (fun s => two fun d => iprop(sPos c d 14 s ∗ sCred c d 14 s)) ∗ four (fun s => two fun d => vPos c d 15 s)
      ∗ two (fun d => cPos c d 13) ∗ two (fun d => cPos c d 14)) : sProp 𝕄) := by
  unfold St
  rw [show (four fun s => two (J (F := F) c 13 s)) = (four fun s => two fun d => J (F := F) c 13 s d) from rfl]
  unfold J
  simp only [ft_sep]
  iintro ⟨⟨⟨A, B, C, D, E, G⟩, H, I⟩, V⟩
  isplitl [V A]; · isplitl [V] <;> iassumption
  isplitl [C D]; · isplitl [C] <;> iassumption
  isplitl [E G]; · isplitl [E] <;> iassumption
  isplitl [B]; · iexact B
  isplitl [H] <;> iassumption

theorem E_join : iprop(four (fun s => two fun d => vPos c d 15 s) ∗ four (fun s => two fun d => vPos c d 16 s)
      ∗ four (fun s => two (rcvd c 13 s)) ∗ four (fun s => two (rcvd c 14 s))
      ∗ four (fun s => two fun d => iprop(sPos c d 15 s ∗ blkAny (sM d) c (slot 13) s)) ∗ four (fun s => two fun d => iprop(sPos c d 16 s ∗ blkAny (sM d) c (slot 14) s)))
    ⊢ (four (fun s => two (E c s)) : sProp 𝕄) := by
  rw [show (four fun s => two (rcvd (F := F) c 13 s)) = (four fun s => two fun d => rcvd (F := F) c 13 s d) from rfl,
    show (four fun s => two (rcvd (F := F) c 14 s)) = (four fun s => two fun d => rcvd (F := F) c 14 s d) from rfl,
    show (four fun s => two (E (F := F) c s)) = (four fun s => two fun d => E (F := F) c s d) from rfl]
  unfold rcvd E
  simp only [ft_sep]
  iintro ⟨A, B, ⟨-, R, -⟩, ⟨-, R', -⟩, ⟨C, D⟩, ⟨C', D'⟩⟩
  isplitl [A B]; · isplitl [A] <;> iassumption
  isplitl [C C']; · isplitl [C] <;> iassumption
  isplitl [R R']; · isplitl [R'] <;> iassumption
  isplitl [D'] <;> iassumption

theorem wp_finish (sx sw : F .f32) (hv : k0_chk3 (posW c)) (Q : PUnit.{1} → sProp (MT nD τ sig ℕ (Elt F) ℕ UU ℕ)) :
    iprop(ctx X Wt κ ∗ ins X Wt c ∗ words c sx sw ∗ St c 13 ∗ four (fun s => two (rcvd c 13 s)) ∗ four (fun s => two fun d => vCred c d 14 s) ∗ (∃ f, pts c cc0_stg8_0 f) ∗ ow c 0)
      ⊢ iprop(((ins X Wt c ∗ words c sx sw ∗ pts c cc0_stg8_0 (outW X Wt (Scalar.mulf sx sw) c) ∗ four (fun s => two (E c s)) ∗ two (fun d => cPos c d 13) ∗ two (fun d => cPos c d 14) ∗ ow c 0)
            -∗ |={Set.univ}=> Q ⟨⟩) -∗ wpb c (finish (posW c) hv) Q) := by
  unfold finish
  iintro ⟨#HC, ⟨Hx, Hw, Hr⟩, ⟨Hsx, Hsw⟩, HS, R13, V14, Ho, HO⟩ Hk
  iapply (wp_ldS1 c Q sxM rfl (fun _ => sx) sx rfl) $$ Hsx
  iintro Hsx
  iapply (wp_ldS1 c Q swM rfl (fun _ => sw) sw rfl) $$ Hsw
  iintro Hsw
  iapply (wp_ldRing c Q (k0_off61 (posW c)) (k0_off61_inb (posW c) hv)) $$ Hr
  iintro Hr
  rw [off61_eq c 0]
  iapply (wp_assume 𝒱₀ (c : Thread nD τ) none Set.univ (chk4_ofNat (chunk 0 15 c)))
  iapply (wp_ldX X c Q (chunk 0 15 c)) $$ Hx
  iintro Hx
  iapply (wp_ldW Wt c Q 0) $$ Hw
  iintro Hw
  iapply (wp_ldX X c Q (chunk 0 15 c)) $$ Hx
  iintro Hx
  iapply (wp_ldW Wt c Q 1) $$ Hw
  iintro Hw
  ihave H := (St_split c) $$ [HS V14]
  · isplitl [HS] <;> iassumption
  icases H with ⟨V, S13, S14, V15, C13, C14⟩
  iapply (wp_lasts X Wt (Scalar.mulf sx sw) c κ) $$ [V Ho HO]
  · isplitr; · iexact HC
    isplitl [V]; · iexact V
    isplitl [Ho] <;> iassumption
  iintro ⟨V16, R14, Ho, HO⟩
  iapply (wp_drains X Wt c κ 13 (by omega)) $$ [S13 HO]
  · isplitr; · iexact HC
    isplitl [S13] <;> iassumption
  iintro ⟨S15, HO⟩
  iapply (wp_drains X Wt c κ 14 (by omega)) $$ [S14 HO]
  · isplitr; · iexact HC
    isplitl [S14] <;> iassumption
  iintro ⟨S16, HO⟩
  iapply (show iprop(|={Set.univ}=> Q ⟨⟩) ⊢ wpb c (.ret ⟨⟩) Q from Entails.of_eq rfl)
  iapply Hk
  isplitl [Hx Hw Hr]
  · isplitl [Hx]; · iexact Hx
    isplitl [Hw] <;> iassumption
  isplitl [Hsx Hsw]; · isplitl [Hsx] <;> iassumption
  isplitl [Ho]; · iexact Ho
  isplitl [V15 V16 R13 R14 S15 S16]
  · iapply (E_join c)
    isplitl [V15]; · iexact V15
    isplitl [V16]; · iexact V16
    isplitl [R13]; · iexact R13
    isplitl [R14]; · iexact R14
    isplitl [S15] <;> iassumption
  isplitl [C13]; · iexact C13
  isplitl [C14] <;> iassumption

end Cert.KernelIdeal.Ring

end
-- ==== Proof.KernelIdeal.Body.lean ====
/- The body's run from the launch of a device to its return: the meeting at the barrier, the ring steps, the last part, and the
   closing of the device's own semaphores. -/
module

public import proofs.«01_k».proof.Proof.KernelIdeal.Finish

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig ℕ (Elt F) ℕ UU ℕ

variable (X : Dev nD → Vec F S4096x256 .fp8e5m2) (Wt : Dev nD → Vec F S256x2048 .fp8e5m2) (κ : GSem nD τ sig → ℕ) (c : Dev nD)

/-- A family over directions, slots and sub-blocks, by slot. -/
theorem ttf_slots (Φ : Fin 2 → Fin 2 → Fin 4 → sProp 𝕄) :
    (two fun d => two fun b => four fun s => Φ d b s) = iprop(four (fun s => two fun d => Φ d 0 s) ∗ four fun s => two fun d => Φ d 1 s) := by
  rw [← regroup]
  exact ft_sep (fun s d => Φ d 0 s) (fun s d => Φ d 1 s)
theorem tt_slots (Φ : Fin 2 → Fin 2 → sProp 𝕄) : (two fun d => two fun b => Φ d b) = iprop(two (fun d => Φ d 0) ∗ two fun d => Φ d 1) :=
  two_sep (fun d => Φ d 0) (fun d => Φ d 1)

/-! ## The own semaphores -/

/-- A device's own semaphores, at zero. -/
def sems0 : sProp 𝕄 :=
  iprop(two (fun d => two fun b => four fun s => semVal (sndC c d b s) 0) ∗ two (fun d => two fun b => four fun s => semVal (rcvC c d b s) 0)
    ∗ two fun d => two fun b => semVal (crdC c d b) 0)
/-- Leave to start the schedule on them. -/
def opens : sProp 𝕄 :=
  iprop(two (fun d => two fun b => four fun s => openTok ER (sndC c d b s)) ∗ two (fun d => two fun b => four fun s => openTok ER (rcvC c d b s))
    ∗ two fun d => two fun b => openTok ER (crdC c d b))
/-- The schedule started on them: each is at its first round. -/
def started : sProp 𝕄 :=
  iprop(two (fun d => two fun b => four fun s => iprop(atPos ER (sndC c d b s) 0 ∅ 0 ∗ reached ER (sndC c d b s) 0))
    ∗ two (fun d => two fun b => four fun s => iprop(atPos ER (rcvC c d b s) 0 ∅ 0 ∗ reached ER (rcvC c d b s) 0))
    ∗ two fun d => two fun b => iprop(atPos ER (crdC c d b) 0 ∅ 0 ∗ reached ER (crdC c d b) 0))

/-- A device starts the schedule on its own semaphores. -/
theorem start_own : iprop(records X Wt κ ∗ opens c ∗ sems0 c) ⊢ (|={Set.univ}=> started c : sProp 𝕄) := by
  have hs : ∀ d b s, iprop(records X Wt κ ∗ (openTok ER (sndC c d b s) ∗ semVal (sndC c d b s) 0))
      ⊢ (|={Set.univ}=> iprop(atPos ER (sndC c d b s) 0 ∅ 0 ∗ reached ER (sndC c d b s) 0) : sProp 𝕄) := fun d b s =>
    (sep_mono_left (rec_snd X Wt κ c d b s)).trans (Rounds.cell_open ER (Rd X Wt) (Set.mem_univ _))
  have hv : ∀ d b s, iprop(records X Wt κ ∗ (openTok ER (rcvC c d b s) ∗ semVal (rcvC c d b s) 0))
      ⊢ (|={Set.univ}=> iprop(atPos ER (rcvC c d b s) 0 ∅ 0 ∗ reached ER (rcvC c d b s) 0) : sProp 𝕄) := fun d b s =>
    (sep_mono_left (rec_rcv X Wt κ c d b s)).trans (Rounds.cell_open ER (Rd X Wt) (Set.mem_univ _))
  have hc : ∀ d b, iprop(records X Wt κ ∗ (openTok ER (crdC c d b) ∗ semVal (crdC c d b) 0))
      ⊢ (|={Set.univ}=> iprop(atPos ER (crdC c d b) 0 ∅ 0 ∗ reached ER (crdC c d b) 0) : sProp 𝕄) := fun d b =>
    (sep_mono_left (rec_crd X Wt κ c d b)).trans (Rounds.cell_open ER (Rd X Wt) (Set.mem_univ _))
  have js := ttf_sep (fun d b s => (openTok ER (sndC c d b s) : sProp 𝕄)) (fun d b s => semVal (sndC c d b s) 0)
  have jv := ttf_sep (fun d b s => (openTok ER (rcvC c d b s) : sProp 𝕄)) (fun d b s => semVal (rcvC c d b s) 0)
  have jc : (two fun d => two fun b => iprop(openTok ER (crdC c d b) ∗ semVal (crdC c d b) 0) : sProp 𝕄)
      = iprop(two (fun d => two fun b => openTok ER (crdC c d b)) ∗ two fun d => two fun b => semVal (crdC c d b) 0) := by
    rw [tt_eq, tt_eq, tt_eq, bigSep_sep']
  unfold opens sems0 started
  iintro ⟨#HR, ⟨As, Av, Ac⟩, ⟨Bs, Bv, Bc⟩⟩
  imod ((sep_mono_right (Entails.of_eq js.symm)).trans (ttf_upd hs)) $$ [As Bs] with Hs
  · isplitr; · iexact HR
    isplitl [As] <;> iassumption
  imod ((sep_mono_right (Entails.of_eq jv.symm)).trans (ttf_upd hv)) $$ [Av Bv] with Hv
  · isplitr; · iexact HR
    isplitl [Av] <;> iassumption
  imod ((sep_mono_right (Entails.of_eq jc.symm)).trans (tt_upd hc)) $$ [Ac Bc] with Hc
  · isplitr; · iexact HR
    isplitl [Ac] <;> iassumption
  imodintro
  isplitl [Hs]; · iexact Hs
  isplitl [Hv] <;> iassumption

/-- The positions past every round. -/
def ended : sProp 𝕄 :=
  iprop(two (fun d => two fun b => four fun s => atPos ER (sndC c d b s) (8 - b.val) ∅ 0) ∗ two (fun d => two fun b => four fun s => atPos ER (rcvC c d b s) (8 - b.val) ∅ 0)
    ∗ two fun d => two fun b => atPos ER (crdC c d b) (7 - b.val) ∅ 0)

/-- Past every round, a device takes its own semaphores back, each at zero. -/
theorem stop_own : iprop(records X Wt κ ∗ ended c) ⊢ (|={Set.univ}=> sems0 c : sProp 𝕄) := by
  have hs : ∀ d b s, iprop(records X Wt κ ∗ atPos ER (sndC c d b s) (8 - b.val) ∅ 0) ⊢ (|={Set.univ}=> semVal (sndC c d b s) 0 : sProp 𝕄) := fun d b s =>
    (sep_mono_left (rec_snd X Wt κ c d b s)).trans (Rounds.cell_close ER (Rd X Wt) (Set.mem_univ _) id fun r hr => by rw [duties_snd, if_neg (by omega)])
  have hv : ∀ d b s, iprop(records X Wt κ ∗ atPos ER (rcvC c d b s) (8 - b.val) ∅ 0) ⊢ (|={Set.univ}=> semVal (rcvC c d b s) 0 : sProp 𝕄) := fun d b s =>
    (sep_mono_left (rec_rcv X Wt κ c d b s)).trans (Rounds.cell_close ER (Rd X Wt) (Set.mem_univ _) id fun r hr => by rw [duties_rcv, if_neg (by omega)])
  have hc : ∀ d b, iprop(records X Wt κ ∗ atPos ER (crdC c d b) (7 - b.val) ∅ 0) ⊢ (|={Set.univ}=> semVal (crdC c d b) 0 : sProp 𝕄) := fun d b =>
    (sep_mono_left (rec_crd X Wt κ c d b)).trans (Rounds.cell_close ER (Rd X Wt) (Set.mem_univ _) id fun r hr => by rw [duties_crd, if_neg (by omega)])
  unfold ended sems0
  iintro ⟨#HR, As, Av, Ac⟩
  imod (ttf_upd hs) $$ [As] with Hs
  · isplitr; · iexact HR
    iexact As
  imod (ttf_upd hv) $$ [Av] with Hv
  · isplitr; · iexact HR
    iexact Av
  imod (tt_upd hc) $$ [Ac] with Hc
  · isplitr; · iexact HR
    iexact Ac
  imodintro
  isplitl [Hs]; · iexact Hs
  isplitl [Hv] <;> iassumption

theorem stop_bar : iprop(records X Wt κ ∗ atPos ER (barC c) 1 ∅ 0) ⊢ (|={Set.univ}=> semVal (barC c) 0 : sProp 𝕄) :=
  (sep_mono_left ((rec_bar X Wt κ c).trans sep_elim_left)).trans (Rounds.cell_close ER (Rd X Wt) (Set.mem_univ _) id fun r hr => by
    rw [duties_bar, if_neg (by omega)])

/-! ## The blocks of the send and receive buffers -/

def sBlks : sProp 𝕄 := two fun d => two fun b => four fun s => blkAny (sM d) c b s
def rBlks : sProp 𝕄 := two fun d => two fun b => four fun s => blkAny (rM d) c b s

theorem St₀_intro : iprop(started c ∗ sBlks c) ⊢ (iprop(St₀ c ∗ (two fun d => two fun b => four fun s => reached ER (rcvC c d b s) 0)
    ∗ two (fun d => cReached c d 0) ∗ two (fun d => cReached c d 1)) : sProp 𝕄) := by
  have e1 : (two fun d => two fun b => four fun s => iprop(atPos ER (sndC c d b s) 0 ∅ 0 ∗ reached ER (sndC c d b s) 0) : sProp 𝕄)
      = iprop(four (fun s => two fun d => iprop(sPos c d 0 s ∗ sReached c d 0 s)) ∗ four fun s => two fun d => iprop(sPos c d 1 s ∗ sReached c d 1 s)) := ttf_slots _
  have e2 : (two fun d => two fun b => four fun s => atPos ER (rcvC c d b s) 0 ∅ 0 : sProp 𝕄)
      = iprop(four (fun s => two fun d => vPos c d 0 s) ∗ four fun s => two fun d => vPos c d 1 s) := ttf_slots _
  have e3 : (two fun d => two fun b => iprop(atPos ER (crdC c d b) 0 ∅ 0 ∗ reached ER (crdC c d b) 0) : sProp 𝕄)
      = iprop(two (fun d => iprop(cPos c d 0 ∗ cReached c d 0)) ∗ two fun d => iprop(cPos c d 1 ∗ cReached c d 1)) := tt_slots _
  have e4 : (two fun d => two fun b => four fun s => blkAny (sM d) c b s : sProp 𝕄)
      = iprop(four (fun s => two fun d => blkAny (sM d) c (slot 0) s) ∗ four fun s => two fun d => blkAny (sM d) c (slot 1) s) := ttf_slots _
  have e5 : (four fun s => two (J₀ (F := F) c s)) = four fun s => two fun d => J₀ (F := F) c s d := rfl
  unfold started sBlks St₀
  rw [e1, e3, e4, ttf_sep, e2, e5]
  unfold J₀
  simp only [ft_sep]
  iintro ⟨⟨⟨⟨S0, R0⟩, ⟨S1, R1⟩⟩, ⟨⟨V0, V1⟩, VR⟩, ⟨⟨C0, D0⟩, ⟨C0', D0'⟩⟩, ⟨⟨C1, D1⟩, ⟨C1', D1'⟩⟩⟩, ⟨B0, B1⟩⟩
  isplitr [VR D0 D1 D0' D1']
  · isplitr [C0 C1 C0' C1']
    · isplitl [V0 V1 S0 S1]
      · isplitl [V0]; · iexact V0
        isplitl [V1]; · iexact V1
        isplitl [S0] <;> iassumption
      isplitl [B0 R0]
      · isplitl [B0] <;> iassumption
      isplitl [B1] <;> iassumption
    isplitl [C0 C0']; · isplitl [C0] <;> iassumption
    isplitl [C1] <;> iassumption
  isplitl [VR]; · iexact VR
  isplitl [D0 D0']; · isplitl [D0] <;> iassumption
  isplitl [D1] <;> iassumption

/-- The neighbours' blocks, by transfer. -/
theorem rooms_intro : (two fun d => two fun b => four fun s => iprop(blkAny (rM d) (dst d c) b s ∗ reached ER (rcvC (dst d c) d b s) 0) : sProp 𝕄)
    ⊢ iprop(two (room c 0 (slot 0)) ∗ two (room c 1 (slot 1))) := by
  have e : (two fun d => two fun b => four fun s => iprop(blkAny (rM d) (dst d c) b s ∗ reached ER (rcvC (dst d c) d b s) 0) : sProp 𝕄)
    = iprop(two (fun d => room c 0 (slot 0) d) ∗ two (fun d => room c 1 (slot 1) d)) := by
    rw [tt_slots fun d b => four fun s => iprop(blkAny (rM d) (dst d c) b s ∗ reached ER (rcvC (dst d c) d b s) 0)]
    rfl
  rw [e]

theorem E_split : iprop(four (fun s => two (E c s)) ∗ two (fun d => cPos c d 13) ∗ two (fun d => cPos c d 14)) ⊢ (iprop(ended c ∗ sBlks c ∗ rBlks c) : sProp 𝕄) := by
  have e1 : (two fun d => two fun b => four fun s => atPos ER (sndC c d b s) (8 - b.val) ∅ 0 : sProp 𝕄)
      = iprop(four (fun s => two fun d => sPos c d 16 s) ∗ four fun s => two fun d => sPos c d 15 s) := ttf_slots _
  have e2 : (two fun d => two fun b => four fun s => atPos ER (rcvC c d b s) (8 - b.val) ∅ 0 : sProp 𝕄)
      = iprop(four (fun s => two fun d => vPos c d 16 s) ∗ four fun s => two fun d => vPos c d 15 s) := ttf_slots _
  have e3 : (two fun d => two fun b => atPos ER (crdC c d b) (7 - b.val) ∅ 0 : sProp 𝕄)
      = iprop(two (fun d => cPos c d 14) ∗ two fun d => cPos c d 13) := tt_slots _
  have e4 : (two fun d => two fun b => four fun s => blkAny (sM d) c b s : sProp 𝕄)
      = iprop(four (fun s => two fun d => blkAny (sM d) c (slot 14) s) ∗ four fun s => two fun d => blkAny (sM d) c (slot 13) s) := ttf_slots _
  have e5 : (two fun d => two fun b => four fun s => blkAny (rM d) c b s : sProp 𝕄)
      = iprop(four (fun s => two fun d => blkAny (rM d) c (slot 14) s) ∗ four fun s => two fun d => blkAny (rM d) c (slot 13) s) := ttf_slots _
  have e6 : (four fun s => two (E (F := F) c s)) = four fun s => two fun d => E (F := F) c s d := rfl
  unfold ended sBlks rBlks
  rw [e1, e2, e3, e4, e5, e6]
  unfold E
  simp only [ft_sep]
  iintro ⟨⟨⟨V15, V16⟩, ⟨S15, S16⟩, ⟨R14, R13⟩, ⟨B14, B13⟩⟩, C13, C14⟩
  isplitl [V15 V16 S15 S16 C13 C14]
  · isplitl [S15 S16]; · isplitl [S16] <;> iassumption
    isplitl [V15 V16]; · isplitl [V16] <;> iassumption
    isplitl [C14] <;> iassumption
  isplitl [B14 B13]; · isplitl [B14] <;> iassumption
  isplitl [R14] <;> iassumption

/-! ## The body -/

set_option maxRecDepth 10000 in
theorem chk3_pos : ∀ c : Dev nD, k0_chk3 (posW c) := by decide +kernel
theorem chk2_nxt : ∀ c : Dev nD, k0_chk2 (BitVec.ofNat 32 (nxt c).val) := by decide +kernel
theorem chk1_prv : ∀ c : Dev nD, k0_chk1 (BitVec.ofNat 32 (prv c).val) := by decide +kernel
theorem dev_val : ∀ c : Dev nD, k0_dev1 (BitVec.ofNat 32 c.val) = c.val := by decide +kernel
theorem devOf_ofNat (c : Dev nD) (h : k0_dev1 (BitVec.ofNat 32 c.val) < nD) : devOf (BitVec.ofNat 32 c.val) h = c := Fin.ext (dev_val c)

/-- The words the body is given: the device's place in the ring and its two neighbours. -/
abbrev places : sProp 𝕄 :=
  iprop(pts c cc0_stg4_0 (fun _ => posW c) ∗ pts c cc0_stg5_0 (fun _ => BitVec.ofNat 32 (nxt c).val) ∗ pts c cc0_stg6_0 (fun _ => BitVec.ofNat 32 (prv c).val))

/-- What a device needs of the others: its barrier's round, the rights to signal and send, and the credit for what it will receive. -/
def talk : sProp 𝕄 :=
  iprop(atPos ER (barC c) 0 ∅ 0 ∗ cred (tallyAt (barC c) 0 2) ∗ two (fun d => dutyTok ER (barC (src d c)) 0 d) ∗ allRes c ∗ four (fun s => two fun d => vCred c d 14 s))

/-- The body once its words are read: the barrier, the steps and the last part. -/
theorem wp_rest (sx sw : F .f32) (n p : Dev nD) (hn : n = nxt c) (hp : p = prv c) (hv : k0_chk3 (posW c)) (Q : PUnit.{1} → sProp (MT nD τ sig ℕ (Elt F) ℕ UU ℕ)) :
    iprop(ctx X Wt κ ∗ ins X Wt c ∗ words c sx sw ∗ (∃ f, pts c cc0_stg8_0 f) ∗ sBlks c ∗ rBlks c ∗ started c ∗ talk c ∗ ow c (owed₀ c))
      ⊢ iprop(((ins X Wt c ∗ words c sx sw ∗ pts c cc0_stg8_0 (outW X Wt (Scalar.mulf sx sw) c) ∗ sBlks c ∗ rBlks c ∗ sems0 c ∗ semVal (barC c) 0 ∗ ow c 0)
            -∗ Q ⟨⟩) -∗ wpb c (signal p barS <| signal n barS <| waitSem barS 2#32 <| steps (posW c) hv n p (finish (F := F) (posW c) hv) 15 0 rfl) Q) := by
  subst hn hp
  unfold talk
  iintro ⟨⟨#HR, #Hlev⟩, Hi, Hw, Ho, HS, HB, Hst, ⟨Hat, Hcr, ⟨T0, T1⟩, Hall, V14⟩, HO⟩ Hk
  ihave H := (St₀_intro c) $$ [Hst HS]
  · isplitl [Hst] <;> iassumption
  icases H with ⟨HSt, Hvr, C0, C1⟩
  unfold rBlks
  ihave H := (Entails.of_eq (ttf_sep (fun d b s => (blkAny (rM d) c b s : sProp 𝕄)) (fun d b s => reached ER (rcvC c d b s) 0)).symm) $$ [HB Hvr]
  · isplitl [HB] <;> iassumption
  icases H with ⟨H0, H1⟩
  iapply (wp_barrier X Wt κ c 0 (prv c) rfl (owAll c + tallyAt (barC (src 1 c)) 0 1)) $$ [H0 HO T0]
  · isplitr; · iexact HR
    isplitl [H0]; · iexact H0
    isplitl [HO]; · unfold owed₀; iexact HO
    iexact T0
  iintro HO
  iapply (wp_barrier X Wt κ c 1 (nxt c) rfl (owAll c)) $$ [H1 HO T1]
  · isplitr; · iexact HR
    isplitl [H1]; · iexact H1
    isplitl [HO]; · iexact HO
    iexact T1
  iintro HO
  iapply (wp_waitBarrier X Wt κ c (owAll c) (above_owAll (by omega))) $$ [Hcr HO Hat]
  · isplitr; · iexact HR
    isplitr; · iexact Hlev
    isplitl [Hcr]; · iexact Hcr
    isplitl [HO] <;> iassumption
  iintro ⟨HO, Hat, Hrooms⟩
  ihave H := (rooms_intro c) $$ Hrooms
  icases H with ⟨R0, R1⟩
  iapply (wp_allSteps X Wt κ c hv) $$ [Hi HSt C0 R0 C1 R1 Hall HO]
  · isplitr; · isplitr <;> iassumption
    isplitl [Hi]; · iexact Hi
    isplitl [HSt]; · iexact HSt
    isplitl [C0 R0]; · isplitl [C0] <;> iassumption
    isplitl [C1 R1]; · isplitl [C1] <;> iassumption
    isplitl [Hall] <;> iassumption
  iintro ⟨Hi, HSt, Hrc, HO⟩
  iapply (wp_finish X Wt c κ sx sw hv Q) $$ [Hi Hw HSt Hrc V14 Ho HO]
  · isplitr; · isplitr <;> iassumption
    isplitl [Hi]; · iexact Hi
    isplitl [Hw]; · iexact Hw
    isplitl [HSt]; · iexact HSt
    isplitl [Hrc]; · iexact Hrc
    isplitl [V14]; · iexact V14
    isplitl [Ho] <;> iassumption
  iintro ⟨Hi, Hw, Ho, HE, C13, C14, HO⟩
  ihave H := (E_split c) $$ [HE C13 C14]
  · isplitl [HE]; · iexact HE
    isplitl [C13] <;> iassumption
  icases H with ⟨Hend, HS, HB⟩
  imod (stop_own X Wt κ c) $$ [Hend] with Hsem
  · isplitr; · iexact HR
    iexact Hend
  imod (stop_bar X Wt κ c) $$ [Hat] with Hbar
  · isplitr; · iexact HR
    iexact Hat
  imodintro
  iapply Hk
  isplitl [Hi]; · iexact Hi
  isplitl [Hw]; · iexact Hw
  isplitl [Ho]; · iexact Ho
  isplitl [HS]; · iexact HS
  isplitl [HB]; · unfold rBlks; iexact HB
  isplitl [Hsem]; · iexact Hsem
  isplitl [Hbar] <;> iassumption

theorem wp_body (sx sw : F .f32) (Q : PUnit.{1} → sProp (MT nD τ sig ℕ (Elt F) ℕ UU ℕ)) :
    iprop(ctx X Wt κ ∗ ins X Wt c ∗ words c sx sw ∗ places c ∗ (∃ f, pts c cc0_stg8_0 f) ∗ sBlks c ∗ rBlks c ∗ started c ∗ talk c ∗ ow c (owed₀ c))
      ⊢ iprop(((ins X Wt c ∗ words c sx sw ∗ places c ∗ pts c cc0_stg8_0 (outW X Wt (Scalar.mulf sx sw) c) ∗ sBlks c ∗ rBlks c ∗ sems0 c ∗ semVal (barC c) 0 ∗ ow c 0)
            -∗ Q ⟨⟩) -∗ wpb c (body (F := F)) Q) := by
  unfold body
  iintro ⟨⟨#HR, #Hlev⟩, Hi, Hw, ⟨P4, P5, P6⟩, Ho, HS, HB, Hst, Ht, HO⟩ Hk
  iapply (wp_ldS1 c Q posM rfl (fun _ => posW c) (posW c) rfl) $$ P4
  iintro P4
  iapply (wp_assume 𝒱₀ (c : Thread nD τ) none Set.univ (chk3_pos c))
  iapply (wp_ldS1 c Q nxtM rfl (fun _ => BitVec.ofNat 32 (nxt c).val) (BitVec.ofNat 32 (nxt c).val) rfl) $$ P5
  iintro P5
  iapply (wp_assume 𝒱₀ (c : Thread nD τ) none Set.univ (chk2_nxt c))
  iapply (wp_ldS1 c Q prvM rfl (fun _ => BitVec.ofNat 32 (prv c).val) (BitVec.ofNat 32 (prv c).val) rfl) $$ P6
  iintro P6
  iapply (wp_assume 𝒱₀ (c : Thread nD τ) none Set.univ (chk1_prv c))
  iapply (wp_rest X Wt κ c sx sw _ _ (devOf_ofNat (nxt c) _) (devOf_ofNat (prv c) _) (chk3_pos c) Q) $$ [Hi Hw Ho HS HB Hst Ht HO]
  · isplitr; · isplitr <;> iassumption
    isplitl [Hi]; · iexact Hi
    isplitl [Hw]; · iexact Hw
    isplitl [Ho]; · iexact Ho
    isplitl [HS]; · iexact HS
    isplitl [HB]; · iexact HB
    isplitl [Hst]; · iexact Hst
    isplitl [Ht] <;> iassumption
  iintro ⟨Hi, Hw, Ho⟩
  iapply Hk
  isplitl [Hi]; · iexact Hi
  isplitl [Hw]; · iexact Hw
  isplitl [P4 P5 P6]
  · isplitl [P4]; · iexact P4
    isplitl [P5] <;> iassumption
  iexact Ho

end Cert.KernelIdeal.Ring

end
-- ==== Proof.KernelIdeal.Host.lean ====
/- What the region's buffers hold when the body is called and when it has returned: the operands as they were given, the device's ring
   position and its two neighbours as the host computes them, the ring's table, and the device's block of the output. -/
module

public import proofs.«01_k».proof.Proof.KernelIdeal.Body

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig ℕ (Elt F) ℕ UU ℕ

variable (m : (ℓ : Loc nD τ sig) → Buf (Elt F) ℓ) (c : Dev nD)

/-- Entry `k` of a table of sixteen words. -/
def at16 (f : Vec F S16 .i32) (k : Fin 16) : BitVec 32 := f fun a => match a with | 0 => k
/-- The word of a one-entry array. -/
def at1 {e : EltTy} (f : S1.Idx → Elt F e) : Elt F e := f fun a => match a with | 0 => (0 : Fin 1)
theorem at16_ext (f g : Vec F S16 .i32) (h : ∀ k, at16 f k = at16 g k) : f = g := by
  funext i
  have hi : i = fun a => match a with | 0 => i 0 := funext fun a => by fin_cases a; rfl
  rw [hi]; exact h (i 0)
theorem at1_idx (i : S1.Idx) : i = fun a => match a with | 0 => (0 : Fin 1) := funext fun a => by
  fin_cases a; exact Fin.ext (Nat.lt_one_iff.mp (i 0).isLt)
/-- A one-entry array is its word everywhere. -/
theorem at1_eq {e : EltTy} (f : S1.Idx → Elt F e) : f = fun _ => at1 f := funext fun i => congrArg f (at1_idx i)

/-- What the operands of device `c` hold at the launch. -/
def X₀ : Vec F S4096x256 .fp8e5m2 := m ((c : Thread nD τ).loc main_arg0)
def Wt₀ : Vec F S256x2048 .fp8e5m2 := m ((c : Thread nD τ).loc main_arg1)
def sx₀ : F .f32 := at1 (F := F) (e := .f32) (m ((c : Thread nD τ).loc main_arg2))
def sw₀ : F .f32 := at1 (F := F) (e := .f32) (m ((c : Thread nD τ).loc main_arg3))
/-- The device's block of the output. -/
def out₀ : Vec F S256x2048 .f32 := outW (X₀ m) (Wt₀ m) (Scalar.mulf (sx₀ m c) (sw₀ m c)) c

/-! ## What the host leaves -/

theorem host_x : V1 m c main_arg0 = X₀ m c := (V1_of m c main_arg0 (by decide)).trans rfl
theorem host_w : V1 m c main_arg1 = Wt₀ m c := (V1_of m c main_arg1 (by decide)).trans rfl
theorem host_sx : V1 m c main_arg2 = fun _ => sx₀ m c := ((V1_of m c main_arg2 (by decide)).trans rfl).trans (at1_eq (F := F) (e := .f32) _)
theorem host_sw : V1 m c main_arg3 = fun _ => sw₀ m c := ((V1_of m c main_arg3 (by decide)).trans rfl).trans (at1_eq (F := F) (e := .f32) _)
theorem host_ring : V1 m c main_c_2 = (ringT (F := F)) :=
  at16_ext _ _ (of_decide_eq_true (by chain_rfl))
theorem host_pos1 : ∀ c : Dev nD, at1 (F := F) (e := .i32) (V1 m c main_v10) = posW c :=
  of_decide_eq_true (by chain_rfl)
theorem host_nxt1 : ∀ c : Dev nD, at1 (F := F) (e := .i32) (V1 m c main_v16) = BitVec.ofNat 32 (nxt c).val :=
  of_decide_eq_true (by chain_rfl)
theorem host_prv1 : ∀ c : Dev nD, at1 (F := F) (e := .i32) (V1 m c main_v22) = BitVec.ofNat 32 (prv c).val :=
  of_decide_eq_true (by chain_rfl)
theorem host_pos : V1 m c main_v10 = fun _ => posW c :=
  (at1_eq (F := F) (e := .i32) _).trans (funext fun _ => host_pos1 m c)
theorem host_nxt : V1 m c main_v16 = fun _ => BitVec.ofNat 32 (nxt c).val :=
  (at1_eq (F := F) (e := .i32) _).trans (funext fun _ => host_nxt1 m c)
theorem host_prv : V1 m c main_v22 = fun _ => BitVec.ofNat 32 (prv c).val :=
  (at1_eq (F := F) (e := .i32) _).trans (funext fun _ => host_prv1 m c)

/-! ## A transfer of a whole array -/

/-- The rectangle of all of a shape leaves an index as it is. -/
theorem emb_all {s : Shape} (off : Fin s.rank → ℕ) (h : ∀ a, off a + s.size a ≤ s.size a) (j : s.Idx) :
    (Rect.unit (s := s) off s.size h).emb j = j := funext fun a => Fin.ext (by
  rw [Rect.emb_apply]
  have h0 : off a = 0 := by have := h a; omega
  show off a + 1 * (j a).val = (j a).val
  rw [h0]; omega)
/-- Read through it, contents are what they were. -/
theorem read_all (b : Ref sig .tc) (off : Fin b.ty.shape.rank → ℕ) (h : ∀ a, off a + b.ty.shape.size a ≤ b.ty.shape.size a) (f : b.ty.Contents (Elt F)) :
    (fun j => f ((Rect.unit (s := b.ty.shape) off b.ty.shape.size h).emb j)) = f := funext fun j => congrArg f (emb_all off h j)

end Cert.KernelIdeal.Ring

end
-- ==== Proof.KernelIdeal.Data.lean ====
/- The region of the kernel: what it is entered with and left at, and its body's obligation. -/
module

public import proofs.«01_k».proof.Proof.KernelIdeal.Host
public import proofs.«01_k».proof.Proof.Gen.KernelIdeal.Points

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig ℕ (Elt F) ℕ UU ℕ

variable (m : (ℓ : Loc nD τ sig) → Buf (Elt F) ℓ) (c : Dev nD)

/-- What the body takes over beside the staged operands: the schedule's records, the device's own semaphores started, and its part in the talk. -/
def entry : sProp 𝕄 := iprop((∃ κ, ctx (X₀ m) (Wt₀ m) κ) ∗ started c ∗ talk c)
/-- What it leaves: all its semaphores at zero. -/
def exit₀ : sProp 𝕄 := iprop(sems0 c ∗ semVal (barC c) 0)

/-- The region's proof data at device `c`. -/
def dat : Pipeline.Dat τ (Elt F) ℕ ℕ UU ℕ cfg0 c where
  A w := V1 m c (Proc.devRef .tc (Pipeline.arrRef spec0 w))
  after w := match w with
    | 0 => fun _ => X₀ m c
    | 1 => fun _ => Wt₀ m c
    | 2 => fun _ => fun _ => sx₀ m c
    | 3 => fun _ => fun _ => sw₀ m c
    | 4 => fun _ => fun _ => posW c
    | 5 => fun _ => fun _ => BitVec.ofNat 32 (nxt c).val
    | 6 => fun _ => fun _ => BitVec.ofNat 32 (prv c).val
    | 7 => fun _ => ringT (F := F)
    | 8 => fun _ => out₀ m c
  Φ t := if t.val = 0 then iprop(entry m c ∗ (sBlks c ∗ rBlks c) ∗ ∃ r, prngReg c r) else iprop(exit₀ c ∗ (sBlks c ∗ rBlks c) ∗ ∃ r, prngReg c r)
  q _ := fullShare
  owed t := if t.val = 0 then owed₀ c else 0
  recorded _ := Set.univ

def pdats : (p : Fin 1) → (c : Dev nD) → Pipeline.Dat τ (Elt F) ℕ ℕ UU ℕ (Pipeline.pin (pcfgs (F := F)) adm p) c
  | 0, c => dat m c

/-- A window that is not fetched in parts holds, once fetched, its whole array. -/
theorem before0 (d) : (dat m c).before 0 t0_0 d = X₀ m c :=
  ((dat m c).before_fetched 0 t0_0 (fetch0_0 _) d).trans ((read_all main_arg0 _ _ _).trans (host_x m c))
theorem before1 (d) : (dat m c).before 1 t0_0 d = Wt₀ m c :=
  ((dat m c).before_fetched 1 t0_0 (fetch0_1 _) d).trans ((read_all main_arg1 _ _ _).trans (host_w m c))
theorem before2 (d) : (dat m c).before 2 t0_0 d = fun _ => sx₀ m c :=
  ((dat m c).before_fetched 2 t0_0 (fetch0_2 _) d).trans ((read_all main_arg2 _ _ _).trans (host_sx m c))
theorem before3 (d) : (dat m c).before 3 t0_0 d = fun _ => sw₀ m c :=
  ((dat m c).before_fetched 3 t0_0 (fetch0_3 _) d).trans ((read_all main_arg3 _ _ _).trans (host_sw m c))
theorem before4 (d) : (dat m c).before 4 t0_0 d = fun _ => posW c :=
  ((dat m c).before_fetched 4 t0_0 (fetch0_4 _) d).trans ((read_all main_v10 _ _ _).trans (host_pos m c))
theorem before5 (d) : (dat m c).before 5 t0_0 d = fun _ => BitVec.ofNat 32 (nxt c).val :=
  ((dat m c).before_fetched 5 t0_0 (fetch0_5 _) d).trans ((read_all main_v16 _ _ _).trans (host_nxt m c))
theorem before6 (d) : (dat m c).before 6 t0_0 d = fun _ => BitVec.ofNat 32 (prv c).val :=
  ((dat m c).before_fetched 6 t0_0 (fetch0_6 _) d).trans ((read_all main_v22 _ _ _).trans (host_prv m c))
theorem before7 (d) : (dat m c).before 7 t0_0 d = ringT (F := F) :=
  ((dat m c).before_fetched 7 t0_0 (fetch0_7 _) d).trans ((read_all main_c_2 _ _ _).trans (host_ring m c))

theorem owed_first : (dat m c).owed t0_0.castSucc = owed₀ c := rfl
theorem owed_last : (dat m c).owed t0_0.succ = 0 := rfl

theorem owesAt_intro (t) (O) (h0 : (dat m c).owed t = O) : ow c O ⊢ (dat m c).owesAt 0 t := by
  unfold Pipeline.Dat.owesAt Pipeline.owesWithin Pipeline.Dat.bound ow; rw [h0]
  iintro ⟨%W, HO⟩; iexists W
  isplitr; · ipureintro; exact fun _ _ => Or.inl trivial
  iexact HO
theorem owesAt_elim (t) (O) (h0 : (dat m c).owed t = O) : (dat m c).owesAt 0 t ⊢ (ow c O : sProp 𝕄) := by
  unfold Pipeline.Dat.owesAt Pipeline.owesWithin ow; rw [h0]
  iintro ⟨%W, -, HO⟩; iexists W; iexact HO

set_option maxRecDepth 100000 in
/-- The body's obligation at the grid's one point. -/
theorem obligation : Pipeline.BodyObligation (dat m c) defs₀ 𝒱₀ 0 Set.univ := fun t => by
  obtain rfl := fin_N0 t
  rw [bigSep_W0, bigSep_W0]
  show iprop(iprop(entry m c ∗ (sBlks c ∗ rBlks c) ∗ ∃ r, prngReg c r) ∗ (dat m c).owesAt 0 t0_0.castSucc
      ∗ (∃ d, owns c xM fullShare ((dat m c).before 0 t0_0 d)) ∗ (∃ d, owns c wM fullShare ((dat m c).before 1 t0_0 d))
      ∗ (∃ d, owns c sxM fullShare ((dat m c).before 2 t0_0 d)) ∗ (∃ d, owns c swM fullShare ((dat m c).before 3 t0_0 d))
      ∗ (∃ d, owns c posM fullShare ((dat m c).before 4 t0_0 d)) ∗ (∃ d, owns c nxtM fullShare ((dat m c).before 5 t0_0 d))
      ∗ (∃ d, owns c prvM fullShare ((dat m c).before 6 t0_0 d)) ∗ (∃ d, owns c ringM fullShare ((dat m c).before 7 t0_0 d))
      ∗ (∃ d, owns c outM fullShare ((dat m c).before 8 t0_0 d)))
    ⊢ wpb c (bodyAt0 t0_0) fun _ => iprop(iprop(exit₀ c ∗ (sBlks c ∗ rBlks c) ∗ ∃ r, prngReg c r) ∗ (dat m c).owesAt 0 t0_0.succ
      ∗ owns c xM fullShare (X₀ m c) ∗ owns c wM fullShare (Wt₀ m c)
      ∗ owns c sxM fullShare (fun _ => sx₀ m c) ∗ owns c swM fullShare (fun _ => sw₀ m c)
      ∗ owns c posM fullShare (fun _ => posW c) ∗ owns c nxtM fullShare (fun _ => BitVec.ofNat 32 (nxt c).val)
      ∗ owns c prvM fullShare (fun _ => BitVec.ofNat 32 (prv c).val) ∗ owns c ringM fullShare (ringT (F := F)) ∗ owns c outM fullShare (out₀ m c))
  rw [show bodyAt0 (F := F) t0_0 = body from body_eq _ _ _ _ _ _ _ _ _ _ _ _ _]
  simp only [before0, before1, before2, before3, before4, before5, before6, before7]
  unfold entry exit₀
  iintro ⟨⟨⟨⟨%κ, Hctx⟩, Hst, Htk⟩, ⟨HS, HB⟩, Hp⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HO' := (owesAt_elim m c _ (owed₀ c) (owed_first m c)) $$ HO
  iapply (wp_body (X₀ m) (Wt₀ m) κ c (sx₀ m c) (sw₀ m c) _) $$ [Hctx Hst Htk HS HB HO' H0 H1 H2 H3 H4 H5 H6 H7 H8]
  · isplitl [Hctx]; · iexact Hctx
    isplitl [H0 H1 H7]
    · isplitl [H0]; · iapply (Entails.of_eq (owns_whole c cc0_stg0_0 fullShare _)) $$ H0
      isplitl [H1]; · iapply (Entails.of_eq (owns_whole c cc0_stg1_0 fullShare _)) $$ H1
      iapply (Entails.of_eq (owns_whole c cc0_stg7_0 fullShare _)) $$ H7
    isplitl [H2 H3]
    · isplitl [H2]; · iapply (Entails.of_eq (owns_whole c cc0_stg2_0 fullShare _)) $$ H2
      iapply (Entails.of_eq (owns_whole c cc0_stg3_0 fullShare _)) $$ H3
    isplitl [H4 H5 H6]
    · isplitl [H4]; · iapply (Entails.of_eq (owns_whole c cc0_stg4_0 fullShare _)) $$ H4
      isplitl [H5]; · iapply (Entails.of_eq (owns_whole c cc0_stg5_0 fullShare _)) $$ H5
      iapply (Entails.of_eq (owns_whole c cc0_stg6_0 fullShare _)) $$ H6
    isplitl [H8]; · iexists _; iapply (Entails.of_eq (owns_whole c cc0_stg8_0 fullShare _)) $$ H8
    isplitl [HS]; · iexact HS
    isplitl [HB]; · iexact HB
    isplitl [Hst]; · iexact Hst
    isplitl [Htk]; · iexact Htk
    iexact HO'
  iintro ⟨⟨H0, H1, H7⟩, ⟨H2, H3⟩, ⟨H4, H5, H6⟩, H8, HS, HB, Hsem, Hbar, HO⟩
  isplitl [HS HB Hsem Hbar Hp]
  · isplitl [Hsem Hbar]; · isplitl [Hsem] <;> iassumption
    isplitl [HS HB]; · isplitl [HS] <;> iassumption
    iexact Hp
  isplitl [HO]; · iapply (owesAt_intro m c t0_0.succ 0 (owed_last m c)) $$ HO
  isplitl [H0]; · iapply (Entails.of_eq (owns_whole c cc0_stg0_0 fullShare _).symm) $$ H0
  isplitl [H1]; · iapply (Entails.of_eq (owns_whole c cc0_stg1_0 fullShare _).symm) $$ H1
  isplitl [H2]; · iapply (Entails.of_eq (owns_whole c cc0_stg2_0 fullShare _).symm) $$ H2
  isplitl [H3]; · iapply (Entails.of_eq (owns_whole c cc0_stg3_0 fullShare _).symm) $$ H3
  isplitl [H4]; · iapply (Entails.of_eq (owns_whole c cc0_stg4_0 fullShare _).symm) $$ H4
  isplitl [H5]; · iapply (Entails.of_eq (owns_whole c cc0_stg5_0 fullShare _).symm) $$ H5
  isplitl [H6]; · iapply (Entails.of_eq (owns_whole c cc0_stg6_0 fullShare _).symm) $$ H6
  isplitl [H7]; · iapply (Entails.of_eq (owns_whole c cc0_stg7_0 fullShare _).symm) $$ H7
  iapply (Entails.of_eq (owns_whole c cc0_stg8_0 fullShare _).symm) $$ H8

end Cert.KernelIdeal.Ring

end
-- ==== Proof.KernelIdeal.Region.lean ====
/- The record of the kernel's region that the launch is given: how the buffers and the semaphores come to the body and go back. -/
module

public import proofs.«01_k».proof.Proof.KernelIdeal.Data
public import Idealize.ShloMosaic.Lib.Pipeline.ValueKit.Geometry

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig ℕ (Elt F) ℕ UU ℕ

variable (m : (ℓ : Loc nD τ sig) → Buf (Elt F) ℓ) (c : Dev nD)

/-! ## The buffers that no window stages -/

theorem set_s0 (b : Fin 2) (s : Fin 4) : (blkM (sM 0) b s).view.set = (blkR b s).set := (set_blkM (sM 0) b s).symm.trans (View.set_slice_whole cc0_scratch0 _)
theorem set_s1 (b : Fin 2) (s : Fin 4) : (blkM (sM 1) b s).view.set = (blkR b s).set := (set_blkM (sM 1) b s).symm.trans (View.set_slice_whole cc0_scratch1 _)
theorem set_r0 (b : Fin 2) (s : Fin 4) : (blkM (rM 0) b s).view.set = (blkR b s).set := (set_blkM (rM 0) b s).symm.trans (View.set_slice_whole cc0_scratch2 _)
theorem set_r1 (b : Fin 2) (s : Fin 4) : (blkM (rM 1) b s).view.set = (blkR b s).set := (set_blkM (rM 1) b s).symm.trans (View.set_slice_whole cc0_scratch3 _)

/-- Sets that are the blocks' are disjoint, -/
theorem disj_of (I : Fin 2 × Fin 4 → Finset S2x4x256x256.Idx) (hI : ∀ i, I i = (blkR i.1 i.2).set) (b b' : Fin 2 × Fin 4) (h : b ≠ b') : Disjoint (I b) (I b') := by
  rw [hI, hI]; exact blocks_disj b b' h
/-- and cover. -/
theorem cover_of (I : Fin 2 × Fin 4 → Finset S2x4x256x256.Idx) (hI : ∀ i, I i = (blkR i.1 i.2).set) : Finset.univ.biUnion I = Finset.univ := by
  rw [funext hI]; exact blocks_cover

/-- Contents for a buffer of no concern. -/
abbrev filler : S2x4x256x256.Idx → F .bf16 := fun _ => FloatOps.ofBits .bf16 0

theorem split_s0 : iprop(∃ f : Buf (Elt F) ((c : Thread nD τ).loc cc0_scratch0), ((c : Thread nD τ).loc cc0_scratch0) ↦{fullShare} f)
    ⊢ (two fun b => four fun s => blkAny (sM 0) c b s : sProp 𝕄) :=
  split_at c cc0_scratch0 rfl (fun i => (blkM (sM 0) i.1 i.2).view.set) (disj_of _ fun i => set_s0 i.1 i.2) (cover_of _ fun i => set_s0 i.1 i.2)
theorem join_s0 : (two fun b => four fun s => blkAny (sM 0) c b s : sProp 𝕄)
    ⊢ iprop(∃ f : Buf (Elt F) ((c : Thread nD τ).loc cc0_scratch0), ((c : Thread nD τ).loc cc0_scratch0) ↦{fullShare} f) :=
  join_at c cc0_scratch0 filler (fun i => (blkM (sM 0) i.1 i.2).view.set) (disj_of _ fun i => set_s0 i.1 i.2) (cover_of _ fun i => set_s0 i.1 i.2)
theorem split_s1 : iprop(∃ f : Buf (Elt F) ((c : Thread nD τ).loc cc0_scratch1), ((c : Thread nD τ).loc cc0_scratch1) ↦{fullShare} f)
    ⊢ (two fun b => four fun s => blkAny (sM 1) c b s : sProp 𝕄) :=
  split_at c cc0_scratch1 rfl (fun i => (blkM (sM 1) i.1 i.2).view.set) (disj_of _ fun i => set_s1 i.1 i.2) (cover_of _ fun i => set_s1 i.1 i.2)
theorem join_s1 : (two fun b => four fun s => blkAny (sM 1) c b s : sProp 𝕄)
    ⊢ iprop(∃ f : Buf (Elt F) ((c : Thread nD τ).loc cc0_scratch1), ((c : Thread nD τ).loc cc0_scratch1) ↦{fullShare} f) :=
  join_at c cc0_scratch1 filler (fun i => (blkM (sM 1) i.1 i.2).view.set) (disj_of _ fun i => set_s1 i.1 i.2) (cover_of _ fun i => set_s1 i.1 i.2)
theorem split_r0 : iprop(∃ f : Buf (Elt F) ((c : Thread nD τ).loc cc0_scratch2), ((c : Thread nD τ).loc cc0_scratch2) ↦{fullShare} f)
    ⊢ (two fun b => four fun s => blkAny (rM 0) c b s : sProp 𝕄) :=
  split_at c cc0_scratch2 rfl (fun i => (blkM (rM 0) i.1 i.2).view.set) (disj_of _ fun i => set_r0 i.1 i.2) (cover_of _ fun i => set_r0 i.1 i.2)
theorem join_r0 : (two fun b => four fun s => blkAny (rM 0) c b s : sProp 𝕄)
    ⊢ iprop(∃ f : Buf (Elt F) ((c : Thread nD τ).loc cc0_scratch2), ((c : Thread nD τ).loc cc0_scratch2) ↦{fullShare} f) :=
  join_at c cc0_scratch2 filler (fun i => (blkM (rM 0) i.1 i.2).view.set) (disj_of _ fun i => set_r0 i.1 i.2) (cover_of _ fun i => set_r0 i.1 i.2)
theorem split_r1 : iprop(∃ f : Buf (Elt F) ((c : Thread nD τ).loc cc0_scratch3), ((c : Thread nD τ).loc cc0_scratch3) ↦{fullShare} f)
    ⊢ (two fun b => four fun s => blkAny (rM 1) c b s : sProp 𝕄) :=
  split_at c cc0_scratch3 rfl (fun i => (blkM (rM 1) i.1 i.2).view.set) (disj_of _ fun i => set_r1 i.1 i.2) (cover_of _ fun i => set_r1 i.1 i.2)
theorem join_r1 : (two fun b => four fun s => blkAny (rM 1) c b s : sProp 𝕄)
    ⊢ iprop(∃ f : Buf (Elt F) ((c : Thread nD τ).loc cc0_scratch3), ((c : Thread nD τ).loc cc0_scratch3) ↦{fullShare} f) :=
  join_at c cc0_scratch3 filler (fun i => (blkM (rM 1) i.1 i.2).view.set) (disj_of _ fun i => set_r1 i.1 i.2) (cover_of _ fun i => set_r1 i.1 i.2)

/-- The four whole buffers are the blocks the schedule speaks of, -/
theorem blocks_of : (Pipeline.scopedRest spec0 c : sProp 𝕄) ⊢ iprop(sBlks c ∗ rBlks c) := by
  rw [scopedRest0_eq]
  unfold sBlks rBlks
  iintro ⟨H0, H1, H2, H3⟩
  isplitl [H0 H1]
  · isplitl [H0]; · iapply (split_s0 c) $$ H0
    iapply (split_s1 c) $$ H1
  · isplitl [H2]; · iapply (split_r0 c) $$ H2
    iapply (split_r1 c) $$ H3
/-- and the blocks make the buffers up. -/
theorem of_blocks : iprop(sBlks c ∗ rBlks c) ⊢ (Pipeline.scopedRest spec0 c : sProp 𝕄) := by
  rw [scopedRest0_eq]
  unfold sBlks rBlks
  iintro ⟨⟨H0, H1⟩, ⟨H2, H3⟩⟩
  isplitl [H0]; · iapply (join_s0 c) $$ H0
  isplitl [H1]; · iapply (join_s1 c) $$ H1
  isplitl [H2]; · iapply (join_r0 c) $$ H2
  iapply (join_r1 c) $$ H3

/-! ## The kernel's own semaphores -/

/-- The kernel's own semaphores: sends and receives per direction, slot and sub-block, credits per direction and slot. -/
abbrev Own : Type := (Fin 2 × Fin 2 × Fin 4) ⊕ (Fin 2 × Fin 2 × Fin 4) ⊕ (Fin 2 × Fin 2)
abbrev osem : Own → SemLoc sig
  | .inl i => .dma (sndS i.1 i.2.1 i.2.2)
  | .inr (.inl i) => .dma (rcvS i.1 i.2.1 i.2.2)
  | .inr (.inr i) => .reg (crdS i.1 i.2)
theorem ownFacts : Pipeline.OwnSemFacts spec0 osem := by decide +kernel
theorem ownSems_eq : (Pipeline.ownSems0 osem c : sProp 𝕄) = sems0 c := by
  unfold Pipeline.ownSems0 sems0
  rw [bigSep_univ_sum, bigSep_univ_sum, ttf_eq, ttf_eq, tt_eq]
  rfl

/-! ## The region's record -/

/-- What the launch keeps for the region: the records, the leave to start on the own semaphores, and the device's part in the talk. -/
def kept : sProp 𝕄 := iprop((∃ κ, records (X₀ m) (Wt₀ m) κ ∗ opens c) ∗ talk c)

theorem opening : iprop(kept m c ∗ Pipeline.ownSems0 osem c ∗ levAts L lv) ⊢ (|={Set.univ}=> entry m c : sProp 𝕄) := by
  rw [ownSems_eq]
  unfold kept entry
  iintro ⟨⟨⟨%κ, #HR, Ho⟩, Htk⟩, Hs, #Hlev⟩
  imod (start_own (X₀ m) (Wt₀ m) κ c) $$ [Ho Hs] with Hst
  · isplitr; · iexact HR
    isplitl [Ho] <;> iassumption
  imodintro
  isplitr
  · iexists κ; isplitr; · iexact HR
    iexact Hlev
  isplitl [Hst] <;> iassumption

theorem entering : iprop(Pipeline.scopedRest spec0 c ∗ (∃ r, prngReg c r) ∗ StableHlo.held (c.tc : Thread nD τ) ∅ (V1 m c) ∗ entry m c)
    ⊢ (dat m c).Φ 0 := by
  show _ ⊢ iprop(entry m c ∗ (sBlks c ∗ rBlks c) ∗ ∃ r, prngReg c r)
  iintro ⟨Hs, Hp, -, HX⟩
  isplitl [HX]; · iexact HX
  isplitl [Hs]; · iapply (blocks_of c) $$ Hs
  iexact Hp

/-- What device `c`'s buffers hold once the region has run: its block of the output, and all else as it was. -/
abbrev VN : Valuation τ sig (Elt F) := Function.update (V1 m c) (Proc.devRef .tc main_v23) (out₀ m c)

theorem leaving : (dat m c).Φ (Fin.last cfg0.N)
    ⊢ iprop(Pipeline.scopedRest spec0 c ∗ (∃ r, prngReg c r) ∗ StableHlo.held (c.tc : Thread nD τ) ∅ (VN m c) ∗ Pipeline.ownSems0 osem c ∗ semVal (barC c) 0) := by
  show iprop(exit₀ c ∗ (sBlks c ∗ rBlks c) ∗ ∃ r, prngReg c r) ⊢ _
  rw [ownSems_eq]
  unfold exit₀
  iintro ⟨⟨Hs, Hb⟩, HB, Hp⟩
  isplitl [HB]; · iapply (of_blocks c) $$ HB
  isplitl [Hp]; · iexact Hp
  isplitr
  · unfold StableHlo.held; rw [bigSep_empty]; iempintro
  isplitl [Hs] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share_full (w : Fin 9) : (dat m c).share w = fullShare := by unfold Pipeline.Dat.share; exact ite_self _

theorem owed_above (t : Fin (cfg0.N + 1)) (g : GSem nD τ sig) (i : ℕ) (h : 0 < (dat m c).owed t g i) : i ∈ L g ∧ 0 < lv g i := by
  have e : (dat m c).owed t = if t.val = 0 then owed₀ c else 0 := rfl
  rw [e] at h
  split at h
  · exact above_owed₀ g i h
  · exact absurd h (Nat.lt_irrefl 0)

theorem arrays_end (w : Fin 9) : (dat m c).arrAt w cfg0.N = VN m c (Proc.devRef .tc (Pipeline.arrRef spec0 w)) := by
  have hin : ∀ w : Fin 9, Pipeline.arrRef spec0 w ≠ main_v23 → (cfg0.win w).isOut = false
      → (dat m c).arrAt w cfg0.N = VN m c (Proc.devRef .tc (Pipeline.arrRef spec0 w)) := fun w hne hw =>
    have e : VN m c (Proc.devRef .tc (Pipeline.arrRef spec0 w)) = V1 m c (Proc.devRef .tc (Pipeline.arrRef spec0 w)) :=
      Function.update_of_ne (fun h => hne (Proc.devRef_injective _ h)) ..
    ((dat m c).arrAt_in w hw _).trans e.symm
  match w with
  | 0 => exact hin 0 (by decide) rfl
  | 1 => exact hin 1 (by decide) rfl
  | 2 => exact hin 2 (by decide) rfl
  | 3 => exact hin 3 (by decide) rfl
  | 4 => exact hin 4 (by decide) rfl
  | 5 => exact hin 5 (by decide) rfl
  | 6 => exact hin 6 (by decide) rfl
  | 7 => exact hin 7 (by decide) rfl
  | 8 =>
    refine Eq.trans ?_ (Function.update_self (Proc.devRef .tc main_v23) (out₀ m c) (V1 m c)).symm
    exact (dat m c).arrAt_eq_of_after_last 8 t0_0 (by decide +kernel) (out₀ m c) (fun j => rfl) (Memref.isWhole_whole _)

/-- The buffers beside the windows' arrays. -/
abbrev others : Finset (DevRef τ sig) := Pipeline.ucRefs τ sig \ Pipeline.arrRefs (τ := τ) spec0

theorem others_end (b : DevRef τ sig) (hb : b ∈ others \ ∅) : VN m c b = V1 m c b := by
  rw [Finset.sdiff_empty, Finset.mem_sdiff] at hb
  refine Function.update_of_ne (fun h => hb.2 ?_) ..
  rw [h]
  exact Finset.mem_map.mpr ⟨main_v23, Finset.mem_image.mpr ⟨8, Finset.mem_univ _, rfl⟩, rfl⟩

set_option backward.isDefEq.respectTransparency.types false in
/-- The region, as the launch takes it. -/
def region : Pipeline.RegionSeg (pcfgs (F := F)) adm (pdats m) 0 defs₀ 𝒱₀ L lv 0 :=
  Pipeline.RegionSeg.ofTalk (pcfgs (F := F)) adm (pdats m) 0 defs₀ 𝒱₀ L lv 0 osem ownFacts
    ∅ others (Finset.empty_subset _) kitP rfl (fun c => (obligation m c).loose)
    (fun _ => 0) owed₀ (fun c => (zero_add _).symm) (fun _ => rfl) (fun _ => rfl) (fun c w => share_full m c w)
    (V1 m) (VN m) (fun c b hb => others_end m c b hb)
    (kept m) (fun c => semVal (barC c) 0) (entry m) (fun c => semVal (barC c) 0) (opening m) (entering m) (leaving m)
    (fun c => by iintro H; imodintro; iexact H)
    (fun _ => 0)
    ⟨fun c w s => by rw [L_tc]; decide, fun c w s => by fin_cases w <;> fin_cases s <;> exact Nat.le_of_eq rfl, fun c t g i h => owed_above m c t g i h⟩
    (fun _ => iprop(emp))
    (fun _ _ => rfl) (fun c w => arrays_end m c w)

end Cert.KernelIdeal.Ring

end
-- ==== Proof.KernelIdeal.Deal.lean ====
/- A device's rights and credits, given as families over all transfers, in the order in which its steps use them up. -/
module

public import proofs.«01_k».proof.Proof.KernelIdeal.Region
public import Idealize.SL.BI.BigOpNat

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig ℕ (Elt F) ℕ UU ℕ

variable (c : Dev nD)

/-- A family over the first `n` numbers. -/
theorem fin_range (n : ℕ) (Φ : ℕ → sProp 𝕄) : bigSep (Finset.univ : Finset (Fin n)) (fun i => Φ i.val) = bigSep (Finset.range n) Φ := by
  rw [show Finset.range n = (Finset.univ : Finset (Fin n)).map Fin.valEmbedding from by ext x; simp [Fin.exists_iff], bigSep_map]
  rfl
/-- Its first member apart. -/
theorem range_front (n : ℕ) (Φ : ℕ → sProp 𝕄) : bigSep (Finset.range (n + 1)) Φ = iprop(Φ 0 ∗ bigSep (Finset.range n) fun i => Φ (i + 1)) := by
  rw [← fin_range, Fin.univ_succ, Finset.cons_eq_insert, bigSep_insert (by simp), bigSep_map, ← fin_range]
  rfl

/-- The steps' resources from the families over the steps. -/
theorem stepsRes_intro : ∀ m g : ℕ, iprop(bigSep (Finset.range m) (fun i => stepRes c (g + i))
    ∗ bigSep (Finset.range m) (fun i => if g + i < 12 then crdRes c (g + i + 1) else iprop(emp))) ⊢ (stepsRes c m g : sProp 𝕄)
  | 0, g => by unfold stepsRes; iintro -; iempintro
  | m + 1, g => by
    have ih := stepsRes_intro m (g + 1)
    have e : ∀ i, g + 1 + i = g + (i + 1) := fun i => by omega
    simp only [e] at ih
    rw [range_front, range_front]
    unfold stepsRes
    iintro ⟨⟨HA, HAs⟩, ⟨HB, HBs⟩⟩
    isplitl [HA]; · iexact HA
    isplitl [HB]; · iexact HB
    iapply ih
    isplitl [HAs] <;> iassumption

/-- All the steps' resources, and the last credit for what is received, from the families over the transfers. -/
theorem allRes_intro :
    iprop(bigSep (Finset.range 15) (fun t => four fun s => two (toks c t s)) ∗ bigSep (Finset.range 15) (fun t => four fun s => two fun d => vCred c d t s)
        ∗ bigSep (Finset.range 13) (fun t => crdRes c t) ∗ bigSep (Finset.range 13) (fun t => two fun d => cCred c d t))
      ⊢ (iprop(allRes c ∗ four (fun s => two fun d => vCred c d 14 s)) : sProp 𝕄) := by
  have hstep : iprop(bigSep (Finset.range 13) (fun i => four fun s => two fun d => vCred c d (i + 1) s) ∗ bigSep (Finset.range 13) (fun i => four fun s => two (toks c (i + 1 + 1) s))
      ∗ bigSep (Finset.range 13) (fun t => two fun d => cCred c d t)) = (bigSep (Finset.range 13) fun i => stepRes c i : sProp 𝕄) := by
    rw [← bigSep_sep', ← bigSep_sep']; rfl
  have hcrd : bigSep (Finset.range 12) (fun i => crdRes c (i + 1)) ⊢ (bigSep (Finset.range 13) fun i => if i < 12 then crdRes c (i + 1) else iprop(emp) : sProp 𝕄) := by
    rw [BI.bigSep_range_succ 12]
    rw [bigSep_congr (s := Finset.range 12) (Φ := fun i => (if i < 12 then crdRes c (i + 1) else iprop(emp) : sProp 𝕄)) (Ψ := fun i => crdRes c (i + 1))
      fun i hi => if_pos (Finset.mem_range.mp hi)]
    iintro H
    isplitr
    · iempintro
    · iexact H
  have hs := stepsRes_intro (F := F) c 13 0
  simp only [Nat.zero_add] at hs
  rw [range_front 14, range_front 13, range_front 14, range_front 12 (fun t => crdRes c t), BI.bigSep_range_succ 13]
  unfold allRes
  iintro ⟨⟨P0, P1, Ps⟩, ⟨V0, V14, Vs⟩, ⟨C0, Cs⟩, Ds⟩
  isplitr [V14]
  · isplitl [P0]; · iexact P0
    isplitl [P1]; · iexact P1
    isplitl [V0]; · iexact V0
    isplitl [C0]; · iexact C0
    iapply hs
    isplitr [Cs]
    · iapply (Entails.of_eq hstep)
      isplitl [Vs]; · iexact Vs
      isplitl [Ps] <;> iassumption
    · iapply hcrd $$ Cs
  iexact V14

end Cert.KernelIdeal.Ring

end
-- ==== Proof.KernelIdeal.Cells.lean ====
/- The launch's supply: every right and every credit of the schedule, first where it is issued and then at the device that uses it. -/
module

public import proofs.«01_k».proof.Proof.KernelIdeal.Deal
public import Mathlib.Tactic.Abel

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig ℕ (Elt F) ℕ UU ℕ

/-! ## Indices -/

/-- A transfer of a sub-block: its number, the sub-block, the direction. -/
abbrev TK : Type := Fin 15 × Fin 4 × Fin 2
/-- A credit: its transfer and the direction. -/
abbrev CK : Type := Fin 13 × Fin 2
/-- The rights that concern one device: to send, to land, to credit, to announce. -/
abbrev Right : Type := TK ⊕ TK ⊕ CK ⊕ Fin 2

/-- A right's semaphore: one of the device's own, or its barrier semaphore. -/
def rightSem : Right → Own ⊕ Unit
  | .inl k => .inl (.inl (k.2.2, slot k.1, k.2.1))
  | .inr (.inl k) => .inl (.inr (.inl (k.2.2, slot k.1, k.2.1)))
  | .inr (.inr (.inl k)) => .inl (.inr (.inr (k.2, slot k.1)))
  | .inr (.inr (.inr _)) => .inr ()
/-- Its round. -/
def rightRound : Right → ℕ
  | .inl k => k.1 / 2
  | .inr (.inl k) => k.1 / 2
  | .inr (.inr (.inl k)) => k.1 / 2
  | .inr (.inr (.inr _)) => 0
/-- Its duty in the round. -/
def rightDuty : Right → Fin 2
  | .inr (.inr (.inr d)) => d
  | _ => 0

theorem right_inj : ∀ a b : Right, rightSem a = rightSem b → rightRound a = rightRound b → rightDuty a = rightDuty b → a = b := by
  have ht : ∀ {n : ℕ} (t u : Fin n), slot t.val = slot u.val → t.val / 2 = u.val / 2 → t = u := fun t u h h' => by
    have := congrArg Fin.val h
    exact Fin.ext (by simp only at this; omega)
  rintro (⟨t, s, d⟩ | ⟨t, s, d⟩ | ⟨t, d⟩ | d) (⟨t', s', d'⟩ | ⟨t', s', d'⟩ | ⟨t', d'⟩ | d') h h' h'' <;>
    simp only [rightSem, reduceCtorEq, Sum.inl.injEq, Sum.inr.injEq, Prod.mk.injEq] at h <;> first
    | (obtain ⟨rfl, hs, rfl⟩ := h
       obtain rfl := ht _ _ hs h'
       rfl)
    | (obtain ⟨rfl, hs⟩ := h
       obtain rfl := ht _ _ hs h'
       rfl)
    | (obtain rfl : d = d' := h''
       rfl)

/-- The semaphore itself. -/
def semAt : Own ⊕ Unit → SemLoc sig
  | .inl k => osem k
  | .inr _ => .reg barS

theorem own_ne_bar : ∀ k : Own, osem k ≠ .reg barS := by decide
theorem semAt_inj : Function.Injective semAt
  | .inl _, .inl _, h => congrArg Sum.inl (ownFacts.inj h)
  | .inl _, .inr _, h => absurd h (own_ne_bar _)
  | .inr _, .inl _, h => absurd h.symm (own_ne_bar _)
  | .inr _, .inr _, _ => rfl

/-! ## The semaphores and the rights of the whole machine -/

def barEmb : Dev nD ↪ GSem nD τ sig := ⟨barC, fun _ _ h => congrArg (fun g : GSem nD τ sig => g.1.1) h⟩
def ownEmb : Dev nD × Own ↪ GSem nD τ sig :=
  ⟨fun i => ((i.1 : Thread nD τ), osem i.2), fun i j h => Prod.ext (congrArg (fun g : GSem nD τ sig => g.1.1) h) (ownFacts.inj (congrArg Prod.snd h))⟩
def rightEmb : Dev nD × Right ↪ GSem nD τ sig × ℕ × Fin 2 :=
  ⟨fun i => (((i.1 : Thread nD τ), semAt (rightSem i.2)), rightRound i.2, rightDuty i.2), fun i j h => by
    obtain ⟨c, a⟩ := i; obtain ⟨c', b⟩ := j
    have h₁ : c = c' := congrArg (fun g : GSem nD τ sig × ℕ × Fin 2 => g.1.1.1) h
    have h₂ : a = b := right_inj a b (semAt_inj (congrArg (fun g : GSem nD τ sig × ℕ × Fin 2 => g.1.2) h))
      (congrArg (fun g : GSem nD τ sig × ℕ × Fin 2 => g.2.1) h) (congrArg (fun g : GSem nD τ sig × ℕ × Fin 2 => g.2.2) h)
    rw [h₁, h₂]⟩

abbrev barCells : Finset (GSem nD τ sig) := Finset.univ.map barEmb
abbrev ownCells : Finset (GSem nD τ sig) := Finset.univ.map ownEmb
abbrev rights : Finset (GSem nD τ sig × ℕ × Fin 2) := Finset.univ.map rightEmb

theorem cells_disjoint : Disjoint barCells ownCells := by
  rw [Finset.disjoint_left]
  intro g hb ho
  obtain ⟨c, -, rfl⟩ := Finset.mem_map.mp hb
  obtain ⟨i, -, h⟩ := Finset.mem_map.mp ho
  exact own_ne_bar i.2 (congrArg Prod.snd h)

theorem assoc_eq (A B C : sProp 𝕄) : iprop((A ∗ B) ∗ C) = iprop(A ∗ B ∗ C) := BI.equiv_iff.mp ⟨BI.sep_assoc, BI.sep_assoc'⟩

/-! ## Rights move to the device that uses them -/

/-- A family over the devices and an index, read at another device for each index. -/
theorem around {K : Type} [Fintype K] (e e' : K → Dev nD → Dev nD) (h : ∀ k c, e' k (e k c) = c) (h' : ∀ k c, e k (e' k c) = c) (Φ : Dev nD → K → sProp 𝕄) :
    (bigSep Finset.univ fun c => bigSep Finset.univ fun k => Φ c k) = bigSep Finset.univ fun c => bigSep Finset.univ fun k => Φ (e k c) k := by
  rw [← bigSep_univ_prod (fun x : Dev nD × K => Φ x.1 x.2), ← bigSep_univ_prod (fun x : Dev nD × K => Φ (e x.2 x.1) x.2)]
  exact bigSep_univ_equiv (⟨fun x => (e x.2 x.1, x.2), fun x => (e' x.2 x.1, x.2), fun x => Prod.ext (h _ _) rfl, fun x => Prod.ext (h' _ _) rfl⟩ : Dev nD × K ≃ Dev nD × K) _

/-- The same of sums. -/
theorem sum_around {K M : Type} [Fintype K] [AddCommMonoid M] (e e' : K → Dev nD → Dev nD) (h : ∀ k c, e' k (e k c) = c) (h' : ∀ k c, e k (e' k c) = c) (f : Dev nD → K → M) :
    ∑ c, ∑ k, f (e k c) k = ∑ c, ∑ k, f c k := by
  rw [Finset.sum_comm, Finset.sum_comm (f := fun c k => f c k)]
  exact Finset.sum_congr rfl fun k _ => Equiv.sum_comp (⟨e k, e' k, h k, h' k⟩ : Dev nD ≃ Dev nD) fun c => f c k

/-- A family over transfers of sub-blocks, one transfer after the other. -/
theorem tk_eq (Φ : ℕ → Fin 4 → Fin 2 → sProp 𝕄) : (bigSep Finset.univ fun k : TK => Φ k.1 k.2.1 k.2.2) = bigSep (Finset.range 15) fun t => four fun s => two (Φ t s) := by
  rw [← fin_range, bigSep_univ_prod]
  exact bigSep_congr fun t _ => (ft_eq _).symm
theorem ck_eq (Φ : ℕ → Fin 2 → sProp 𝕄) : (bigSep Finset.univ fun k : CK => Φ k.1 k.2) = bigSep (Finset.range 13) fun t => two (Φ t) := by
  rw [← fin_range, bigSep_univ_prod]
  exact bigSep_congr fun t _ => (two_eq _).symm

/-- The rights `c` uses. -/
def uses (c : Dev nD) : sProp 𝕄 :=
  iprop(bigSep (Finset.range 15) (fun t => four fun s => two (toks c t s)) ∗ bigSep (Finset.range 13) (fun t => crdRes c t)
    ∗ two fun d => dutyTok ER (barC (src d c)) 0 d)

/-- All the rights there are, each at the device that uses it. -/
theorem rights_eq : bigSep rights (fun x => (dutyTok ER x.1 x.2.1 x.2.2 : sProp 𝕄)) = bigSep Finset.univ fun c => uses c := by
  have e : ∀ c : Dev nD, (uses c : sProp 𝕄) = iprop((bigSep Finset.univ fun k : TK => sTok c k.2.2 k.1 k.2.1)
      ∗ (bigSep Finset.univ fun k : TK => vTok c k.2.2 k.1 k.2.1) ∗ (bigSep Finset.univ fun k : CK => cTok c k.2 k.1)
      ∗ bigSep Finset.univ fun d : Fin 2 => dutyTok ER (barC (src d c)) 0 d) := fun c => by
    rw [tk_eq (fun t s d => sTok c d t s), tk_eq (fun t s d => vTok c d t s), ck_eq (fun t d => cTok c d t), ← two_eq]
    unfold uses
    have h : (bigSep (Finset.range 15) (fun t => four fun s => two (toks c t s)) : sProp 𝕄)
        = iprop(bigSep (Finset.range 15) (fun t => four fun s => two fun d => sTok c d t s) ∗ bigSep (Finset.range 15) (fun t => four fun s => two fun d => vTok c d t s)) := by
      rw [← bigSep_sep']
      exact bigSep_congr fun t _ => by
        rw [ft_eq, ft_eq, ft_eq, ← bigSep_sep']; rfl
    rw [h]
    exact assoc_eq _ _ _
  rw [bigSep_congr (s := (Finset.univ : Finset (Dev nD))) fun c _ => e c, bigSep_sep', bigSep_sep', bigSep_sep']
  have a₁ : (bigSep Finset.univ fun c : Dev nD => bigSep Finset.univ fun k : TK => dutyTok ER (rcvC c k.2.2 (slot k.1) k.2.1) (k.1.val / 2) 0 : sProp 𝕄)
      = bigSep Finset.univ fun c : Dev nD => bigSep Finset.univ fun k : TK => vTok c k.2.2 k.1 k.2.1 := around (K := TK) (fun k => dst k.2.2) (fun k => src k.2.2) (fun k => src_dst k.2.2) (fun k => dst_src k.2.2)
      fun c k => dutyTok ER (rcvC c k.2.2 (slot k.1) k.2.1) (k.1.val / 2) 0
  have a₂ : (bigSep Finset.univ fun c : Dev nD => bigSep Finset.univ fun k : CK => dutyTok ER (crdC c k.2 (slot k.1)) (k.1.val / 2) 0 : sProp 𝕄)
      = bigSep Finset.univ fun c : Dev nD => bigSep Finset.univ fun k : CK => cTok c k.2 k.1 := around (K := CK) (fun k => src k.2) (fun k => dst k.2) (fun k => dst_src k.2) (fun k => src_dst k.2)
      fun c k => dutyTok ER (crdC c k.2 (slot k.1)) (k.1.val / 2) 0
  have a₃ : (bigSep Finset.univ fun c : Dev nD => bigSep Finset.univ fun d : Fin 2 => dutyTok ER (barC c) 0 d : sProp 𝕄)
      = bigSep Finset.univ fun c : Dev nD => bigSep Finset.univ fun d : Fin 2 => dutyTok ER (barC (src d c)) 0 d := around src dst dst_src src_dst fun c d => dutyTok ER (barC c) 0 d
  rw [← a₁, ← a₂, ← a₃]
  rw [← bigSep_sep', ← bigSep_sep', ← bigSep_sep']
  rw [bigSep_map, bigSep_univ_prod]
  exact bigSep_congr fun c _ => by rw [bigSep_univ_sum, bigSep_univ_sum, bigSep_univ_sum]; rfl

/-! ## Credits -/

section Sums
variable (c : Dev nD)

/-- What `c` owes of transfer `t`. -/
abbrev owT (t : ℕ) : CellTallies nD τ sig ℕ := ∑ k : Fin 4 × Fin 2, vOwe c k.2 t k.1
/-- What `c` owes of the credits of transfer `t`. -/
abbrev owC (t : ℕ) : CellTallies nD τ sig ℕ := ∑ d : Fin 2, cOwe c d t

theorem owSubs_eq (t : ℕ) (O : CellTallies nD τ sig ℕ) : owSubs c t O = O + owT c t := by
  unfold owSubs owSub
  rw [owT, Fintype.sum_prod_type, Fin.sum_univ_four]
  simp only [Fin.sum_univ_two]
  abel
theorem owCrd_eq (t : ℕ) (O : CellTallies nD τ sig ℕ) : owCrd c t O = O + owC c t := by
  unfold owCrd
  rw [owC, Fin.sum_univ_two]
  abel

theorem owSteps_eq : ∀ m g : ℕ, owSteps c m g = (∑ i ∈ Finset.range m, owT c (g + i + 2)) + ∑ i ∈ Finset.range m, if g + i < 12 then owC c (g + i + 1) else 0
  | 0, g => by simp only [owSteps, Finset.range_zero, Finset.sum_empty, add_zero]
  | m + 1, g => by
    have e : ∀ i, g + 1 + i = g + (i + 1) := fun i => by omega
    have ih := owSteps_eq m (g + 1)
    simp only [e] at ih
    rw [Finset.sum_range_succ', Finset.sum_range_succ']
    simp only [owSteps, owStep, owSubs_eq, owCrd_eq, ih, Nat.add_zero]
    split <;> abel

theorem owed_eq : owed₀ c = (∑ k : TK, vOwe c k.2.2 k.1 k.2.1) + (∑ k : CK, cOwe c k.2 k.1) + ∑ d : Fin 2, tallyAt (barC (src d c)) 0 1 := by
  have hT : (∑ k : TK, vOwe c k.2.2 k.1 k.2.1) = ∑ t ∈ Finset.range 15, owT c t := by
    rw [Fintype.sum_prod_type, Finset.sum_range]
  have hC : (∑ k : CK, cOwe c k.2 k.1) = ∑ t ∈ Finset.range 13, owC c t := by
    rw [Fintype.sum_prod_type, Finset.sum_range]
  have hC' : (∑ i ∈ Finset.range 13, if 0 + i < 12 then owC c (0 + i + 1) else 0) = ∑ i ∈ Finset.range 12, owC c (i + 1) := by
    rw [Finset.sum_range_succ, if_neg (by decide), add_zero]
    exact Finset.sum_congr rfl fun i hi => by rw [Nat.zero_add, if_pos (Finset.mem_range.mp hi)]
  unfold owed₀ owAll
  rw [hT, hC, owSubs_eq, owSubs_eq, owCrd_eq, owSteps_eq, hC', Finset.sum_range_succ' _ 14, Finset.sum_range_succ' _ 13, Finset.sum_range_succ' (fun t => owC c t) 12, Fin.sum_univ_two]
  simp only [Nat.zero_add]
  abel

/-- What `c` waits for in all. -/
def due : CellTallies nD τ sig ℕ :=
  (∑ k : TK, tallyAt (rcvC c k.2.2 (slot k.1) k.2.1) (k.1.val / 2) N) + (∑ k : CK, tallyAt (crdC c k.2 (slot k.1)) (k.1.val / 2) 1) + tallyAt (barC c) 0 2

theorem due_own (g : GSem nD τ sig) (h : due c g ≠ 0) : g.1 = (c.tc : Thread nD τ) := by
  by_contra hne
  refine h ?_
  have hz : ∀ (sm : SemLoc sig) (r n : ℕ), tallyAt (((c : Thread nD τ), sm) : GSem nD τ sig) r n g = 0 := fun sm r n =>
    tallyAt_ne_cell (g := ((c : Thread nD τ), sm)) (g' := g) (fun e => hne (by rw [e])) r n
  unfold due
  rw [Pi.add_apply, Pi.add_apply, Finset.sum_apply, Finset.sum_apply, Finset.sum_eq_zero fun k _ => hz _ _ _, Finset.sum_eq_zero fun k _ => hz _ _ _, hz, add_zero, add_zero]

end Sums

/-- All that is owed is all that is waited for. -/
theorem owed_due : (∑ c, owed₀ c) = ∑ c, due c := by
  rw [Finset.sum_congr rfl fun c _ => owed_eq c]
  unfold due
  rw [Finset.sum_add_distrib, Finset.sum_add_distrib, Finset.sum_add_distrib, Finset.sum_add_distrib]
  have a₁ : (∑ c : Dev nD, ∑ k : TK, vOwe c k.2.2 k.1 k.2.1) = ∑ c : Dev nD, ∑ k : TK, tallyAt (rcvC c k.2.2 (slot k.1) k.2.1) (k.1.val / 2) N :=
    sum_around (K := TK) (fun k => dst k.2.2) (fun k => src k.2.2) (fun k => src_dst k.2.2) (fun k => dst_src k.2.2) fun c k => tallyAt (rcvC c k.2.2 (slot k.1) k.2.1) (k.1.val / 2) N
  have a₂ : (∑ c : Dev nD, ∑ k : CK, cOwe c k.2 k.1) = ∑ c : Dev nD, ∑ k : CK, tallyAt (crdC c k.2 (slot k.1)) (k.1.val / 2) 1 :=
    sum_around (K := CK) (fun k => src k.2) (fun k => dst k.2) (fun k => dst_src k.2) (fun k => src_dst k.2) fun c k => tallyAt (crdC c k.2 (slot k.1)) (k.1.val / 2) 1
  have a₃ : (∑ c : Dev nD, ∑ d : Fin 2, tallyAt (barC (src d c)) (0 : ℕ) 1) = ∑ c : Dev nD, ∑ _d : Fin 2, tallyAt (barC c) 0 1 :=
    sum_around src dst dst_src src_dst fun c _ => tallyAt (barC c) 0 1
  rw [a₁, a₂, a₃]
  congr 1
  exact Finset.sum_congr rfl fun c _ => by rw [Fin.sum_univ_two, tallyAt_add]

/-- Credit for a sum is credit for each summand. -/
theorem cred_family {K : Type} [DecidableEq K] (S : Finset K) (T : K → CellTallies nD τ sig ℕ) : (cred (∑ k ∈ S, T k) : sProp 𝕄) = bigSep S fun k => cred (T k) := by
  induction S using Finset.induction_on with
  | empty => rw [Finset.sum_empty, bigSep_empty]; exact cred_zero
  | insert k S hk ih => rw [Finset.sum_insert hk, bigSep_insert hk, ← ih]; exact BI.Entails.antisymm (cred_add _ _).1 (cred_add _ _).2

/-- A device's credit at launch is for all it waits for. -/
theorem credit (c : Dev nD) : (Pipeline.launchCred owed₀ c : sProp 𝕄)
    = iprop((bigSep (Finset.range 15) fun t => four fun s => two fun d => vCred c d t s) ∗ (bigSep (Finset.range 13) fun t => two fun d => cCred c d t)
      ∗ cred (tallyAt (barC c) 0 2)) := by
  have hadd : ∀ A B : CellTallies nD τ sig ℕ, (cred (A + B) : sProp 𝕄) = iprop(cred A ∗ cred B) := fun A B => BI.Entails.antisymm (cred_add _ _).1 (cred_add _ _).2
  rw [Pipeline.launchCred_of_sum owed₀ due owed_due due_own c]
  unfold due
  rw [hadd, hadd, cred_family, cred_family, tk_eq (fun t s d => vCred c d t s), ck_eq (fun t d => cCred c d t)]
  exact assoc_eq _ _ _

end Cert.KernelIdeal.Ring

end
-- ==== Proof.KernelIdeal.Launch.lean ====
/- The launch: the schedule is started on every semaphore, each device gets its part, and @main is run to its end. -/
module

public import proofs.«01_k».proof.Proof.KernelIdeal.Cells
public import proofs.«01_k».proof.Proof.Gen.KernelIdeal.Regions

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig ℕ (Elt F) ℕ UU ℕ

variable (m : (ℓ : Loc nD τ sig) → Buf (Elt F) ℓ)

/-! ## What each device gets -/

/-- A device's part in the talk: its place at the barrier, its credit, and the rights it uses. -/
theorem talk_intro (c : Dev nD) : iprop(atPos ER (barC c) 0 ∅ 0 ∗ Pipeline.launchCred owed₀ c ∗ uses c) ⊢ (talk c : sProp 𝕄) := by
  rw [credit c]
  unfold uses talk
  iintro ⟨Hat, ⟨HV, HD, Hb⟩, HP, HC, Ht⟩
  isplitl [Hat]; · iexact Hat
  isplitl [Hb]; · iexact Hb
  isplitl [Ht]; · iexact Ht
  iapply (allRes_intro c)
  isplitl [HP]; · iexact HP
  isplitl [HV]; · iexact HV
  isplitl [HC] <;> iassumption

/-- The schedule's records, from its being started on every semaphore. -/
theorem records_intro (X : Dev nD → Vec F S4096x256 .fp8e5m2) (Wt : Dev nD → Vec F S256x2048 .fp8e5m2) (κ : GSem nD τ sig → ℕ) :
    iprop(bigSep (barCells ∪ ownCells) (fun g => cellInv ER (Rd X Wt) (κ g) g) ∗ bigSep barCells (fun g => reached ER g 0)) ⊢ records X Wt κ := by
  have hinv : ∀ g ∈ barCells ∪ ownCells, (bigSep (barCells ∪ ownCells) (fun g => cellInv ER (Rd X Wt) (κ g) g) : sProp 𝕄) ⊢ cellInv ER (Rd X Wt) (κ g) g :=
    fun g hg => bigSep_elim (Φ := fun g => cellInv ER (Rd X Wt) (κ g) g) hg
  have hbar : ∀ c : Dev nD, barC c ∈ barCells := fun c => Finset.mem_map_of_mem barEmb (Finset.mem_univ c)
  have hown : ∀ (c : Dev nD) (k : Own), ((c : Thread nD τ), osem k) ∈ barCells ∪ ownCells := fun c k =>
    Finset.mem_union_right _ (Finset.mem_map_of_mem ownEmb (Finset.mem_univ (c, k)))
  have hre : ∀ c : Dev nD, (bigSep barCells (fun g => reached ER g 0) : sProp 𝕄) ⊢ reached ER (barC c) 0 :=
    fun c => bigSep_elim (Φ := fun g => reached ER g 0) (hbar c)
  have each : ∀ {R : sProp 𝕄} [BI.Persistent R] {J : Type} [Fintype J] [DecidableEq J] {Ψ : J → sProp 𝕄}, (∀ i, R ⊢ Ψ i) → R ⊢ bigSep Finset.univ Ψ :=
    fun h => (bigSep_of_persistent Finset.univ _).trans (bigSep_mono fun i _ => h i)
  unfold records
  iintro ⟨#HI, #HR⟩
  isplitr
  · iapply (each (R := iprop(bigSep (barCells ∪ ownCells) (fun g => cellInv ER (Rd X Wt) (κ g) g) ∗ bigSep barCells (fun g => reached ER g 0)))
      (fun c : Dev nD => BIClass.sep_mono (hinv _ (Finset.mem_union_left _ (hbar c))) (hre c)))
    isplitr; · iexact HI
    iexact HR
  isplitr
  · iapply (each fun i : Dev nD × Fin 2 × Fin 2 × Fin 4 => show (bigSep (barCells ∪ ownCells) (fun g => cellInv ER (Rd X Wt) (κ g) g) : sProp 𝕄) ⊢ _ by
      iintro #H
      isplitr
      · iapply (hinv _ (hown i.1 (.inl i.2))) $$ H
      · iapply (hinv _ (hown i.1 (.inr (.inl i.2)))) $$ H) $$ HI
  · iapply (each fun i : Dev nD × Fin 2 × Fin 2 => hinv _ (hown i.1 (.inr (.inr i.2)))) $$ HI

/-- The leave to start on its own semaphores, device by device. -/
theorem opens_eq : bigSep ownCells (fun g => (openTok ER g : sProp 𝕄)) = bigSep Finset.univ fun c : Dev nD => opens c := by
  rw [bigSep_map, bigSep_univ_prod]
  refine bigSep_congr fun c _ => ?_
  unfold opens
  rw [bigSep_univ_sum, bigSep_univ_sum, ttf_eq, ttf_eq, tt_eq]
  rfl

/-- What a device has besides its buffers when @main begins. -/
def rest₀ (c : Dev nD) : sProp 𝕄 := iprop((∃ r, prngReg c r) ∗ kept m c ∗ ∃ W, owes (c : Thread nD τ) (owed₀ c) W)

/-- The ghost state of the whole machine. -/
def u₀ : UU :=
  (initOf (Pipeline.cells (Pipeline.pin (pcfgs (F := F)) adm) cellOf_inj) (Pipeline.launchToks (Pipeline.pin (pcfgs (F := F)) adm) cellOf_inj),
    launchOf barCells ownCells rights)

/-- The schedule's part of it, in the hands of device 0 until it is dealt out. -/
def seed (c : Dev nD) : sProp 𝕄 := if c = 0 then BI.own (ER (launchOf barCells ownCells rights)) else iprop(emp)
theorem seed_eq : (bigSep Finset.univ fun c : Dev nD => seed c) = (BI.own (ER (launchOf barCells ownCells rights)) : sProp 𝕄) := by
  rw [bigSep_univ_at _ (0 : Dev nD), bigSep_congr (s := Finset.univ.erase (0 : Dev nD)) (Φ := fun c => (seed c : sProp 𝕄)) (Ψ := fun _ => (iprop(emp) : sProp 𝕄)) fun c hc => if_neg (Finset.ne_of_mem_erase hc),
    show bigSep (Finset.univ.erase (0 : Dev nD)) (fun _ => (iprop(emp) : sProp 𝕄)) = iprop(emp) from BI.bigSep_emp_const _]
  unfold seed
  rw [if_pos rfl]
  exact BI.equiv_iff.mp sep_emp

theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide, bigSep_singleton]

variable (ρ : Dev nD → PrngReg)

/-- Two families over the devices as one. -/
theorem pair {Φ Ψ : Dev nD → sProp 𝕄} : iprop(bigSep Finset.univ Φ ∗ bigSep Finset.univ Ψ) ⊢ bigSep Finset.univ fun c => iprop(Φ c ∗ Ψ c) :=
  Entails.of_eq (bigSep_sep' _ _ _).symm

/-- From the launch's state, every device has its buffers and its part. -/
theorem init : iprop((bigSep Finset.univ fun c : Dev nD => iprop(unscopedBufs c (fun b => m ((c.tc : Thread nD τ).loc b)) ∗ unscopedSems0 c
          ∗ owes (c.tc : Thread nD τ) (owed₀ c) ∅ ∗ Pipeline.launchCred owed₀ c ∗ prngReg c (ρ c) ∗ seed c)) ∗ levAts L lv)
    ⊢ (|={Set.univ}=> bigSep Finset.univ fun c : Dev nD => iprop(StableHlo.held (c.tc : Thread nD τ) (Pipeline.ucRefs τ sig) (V0 m c) ∗ rest₀ m c) : sProp 𝕄) := by
  have hbufs : ∀ c : Dev nD, (unscopedBufs c (fun b => m ((c.tc : Thread nD τ).loc b)) : sProp 𝕄) = StableHlo.held (c.tc : Thread nD τ) (Pipeline.ucRefs τ sig) (V0 m c) := fun c =>
    Pipeline.unscopedBufs_held (Ix := ℕ) (Name := ℕ) (U := UU) (Lvl := ℕ) c (V0 m c)
  have hv : (bigSep Finset.univ fun c : Dev nD => (semVal (barC c) 0 : sProp 𝕄)) = bigSep barCells fun g => (semVal g 0 : sProp 𝕄) :=
    (bigSep_map (s := Finset.univ) barEmb (Φ := fun g : GSem nD τ sig => (semVal g 0 : sProp 𝕄))).symm
  have hat : bigSep barCells (fun g => (atPos ER g 0 ∅ 0 : sProp 𝕄)) = bigSep Finset.univ fun c : Dev nD => (atPos ER (barC c) 0 ∅ 0 : sProp 𝕄) :=
    bigSep_map (s := Finset.univ) barEmb (Φ := fun g : GSem nD τ sig => (atPos ER g 0 ∅ 0 : sProp 𝕄))
  have hsplit : (bigSep Finset.univ fun c : Dev nD => iprop(unscopedBufs c (fun b => m ((c.tc : Thread nD τ).loc b)) ∗ unscopedSems0 c
          ∗ owes (c.tc : Thread nD τ) (owed₀ c) ∅ ∗ Pipeline.launchCred owed₀ c ∗ prngReg c (ρ c) ∗ seed c))
      = (iprop((bigSep Finset.univ fun c : Dev nD => StableHlo.held (c.tc : Thread nD τ) (Pipeline.ucRefs τ sig) (V0 m c)) ∗ (bigSep barCells fun g => semVal g 0)
        ∗ (bigSep Finset.univ fun c : Dev nD => owes (c.tc : Thread nD τ) (owed₀ c) ∅) ∗ (bigSep Finset.univ fun c : Dev nD => Pipeline.launchCred owed₀ c)
        ∗ (bigSep Finset.univ fun c : Dev nD => prngReg c (ρ c)) ∗ BI.own (ER (launchOf barCells ownCells rights))) : sProp 𝕄) := by
    rw [← hv, ← seed_eq, ← bigSep_sep', ← bigSep_sep', ← bigSep_sep', ← bigSep_sep', ← bigSep_sep']
    exact bigSep_congr fun c _ => by rw [hbufs c, unscopedSems0_eq]
  rw [hsplit]
  iintro ⟨⟨Hh, Hv, HO, Hc, Hp, Hu⟩, -⟩
  imod (Rounds.fund_launch ER (Rd (X₀ m) (Wt₀ m)) cells_disjoint (fun g _ h => h) rights) $$ [Hv Hu] with ⟨%κ, -, #Hinv, #Hr, Hat, Hopen, Htok⟩
  · isplitl [Hv] <;> iassumption
  imodintro
  ihave Hat := (Entails.of_eq hat) $$ Hat
  ihave Hopen := (Entails.of_eq (opens_eq (F := F))) $$ Hopen
  ihave Htok := (Entails.of_eq (rights_eq (F := F))) $$ Htok
  iapply (bigSep_with_persistent (R := records (X₀ m) (Wt₀ m) κ)
    (Φ := fun c : Dev nD => iprop(StableHlo.held (c.tc : Thread nD τ) (Pipeline.ucRefs τ sig) (V0 m c) ∗ owes (c.tc : Thread nD τ) (owed₀ c) ∅ ∗ Pipeline.launchCred owed₀ c
      ∗ prngReg c (ρ c) ∗ atPos ER (barC c) 0 ∅ 0 ∗ opens c ∗ uses c)) fun c _ => by
    unfold rest₀ kept
    iintro ⟨#HR, Hh, HO, Hc, Hp, Hat, Ho, Hu⟩
    isplitl [Hh]; · iexact Hh
    isplitl [Hp]; · iexists (ρ c); iexact Hp
    isplitr [HO]
    · isplitl [Ho]
      · iexists κ; isplitr; · iexact HR
        iexact Ho
      iapply (talk_intro c)
      isplitl [Hat]; · iexact Hat
      isplitl [Hc] <;> iassumption
    · iexists ∅; iexact HO)
  isplitr
  · iapply (records_intro (X₀ m) (Wt₀ m) κ)
    isplitr; · iexact Hinv
    iexact Hr
  iapply pair; isplitl [Hh]; · iexact Hh
  iapply pair; isplitl [HO]; · iexact HO
  iapply pair; isplitl [Hc]; · iexact Hc
  iapply pair; isplitl [Hp]; · iexact Hp
  iapply pair; isplitl [Hat]; · iexact Hat
  iapply pair; isplitl [Hopen]; · iexact Hopen
  iexact Htok

/-! ## The run -/

theorem arrRefs_sub : Pipeline.arrRefs (τ := τ) spec0 ⊆ Pipeline.ucRefs τ sig := by
  intro b hb
  obtain ⟨r, hr, rfl⟩ := Finset.mem_map.mp hb
  obtain ⟨w, -, rfl⟩ := Finset.mem_image.mp hr
  refine Finset.mem_filter.mpr ⟨StableHlo.devRef_mem_tcRefs _, ?_⟩
  revert w; decide

theorem held_split (c : Dev nD) (W : Valuation τ sig (Elt F)) : (StableHlo.held (c.tc : Thread nD τ) (Pipeline.ucRefs τ sig) W : sProp 𝕄)
    = iprop(StableHlo.held (c.tc : Thread nD τ) (Pipeline.arrRefs spec0) W ∗ StableHlo.held (c.tc : Thread nD τ) others W) :=
  StableHlo.held_sub_split (c.tc : Thread nD τ) arrRefs_sub W

/-- A device enters its region with what it has after the host's lines. -/
theorem region_pre (c : Dev nD) : iprop(StableHlo.held (c.tc : Thread nD τ) (Pipeline.ucRefs τ sig) (V1 m c) ∗ rest₀ m c) ⊢ (region m).pre c := by
  show _ ⊢ iprop(StableHlo.held (c.tc : Thread nD τ) (Pipeline.arrRefs spec0) (V1 m c) ∗ (∃ r, prngReg c r) ∗ (StableHlo.held (c.tc : Thread nD τ) others (V1 m c) ∗ emp)
    ∗ kept m c ∗ ∃ Wd, owes (c.tc : Thread nD τ) (0 + owed₀ c) Wd)
  rw [held_split, zero_add]
  unfold rest₀
  iintro ⟨⟨Ha, Hs⟩, Hp, Hk, HO⟩
  isplitl [Ha]; · iexact Ha
  isplitl [Hp]; · iexact Hp
  isplitl [Hs]
  · isplitl [Hs]; · iexact Hs
    iempintro
  isplitl [Hk] <;> iassumption

/-- What a device has at the end. -/
def done (c : Dev nD) : sProp 𝕄 := iprop(StableHlo.held (c.tc : Thread nD τ) (Pipeline.ucRefs τ sig) (VN m c) ∗ semVal (barC c) 0)

theorem region_post (c : Dev nD) : (region m).post c ⊢ iprop(done m c ∗ ∃ W, owes (c.tc : Thread nD τ) (0 : CellTallies nD τ sig ℕ) W) := by
  show iprop(StableHlo.held (c.tc : Thread nD τ) (Pipeline.arrRefs spec0) (VN m c) ∗ (∃ r, prngReg c r) ∗ (StableHlo.held (c.tc : Thread nD τ) others (VN m c) ∗ emp)
    ∗ semVal (barC c) 0 ∗ ∃ Wd, owes (c.tc : Thread nD τ) (0 : CellTallies nD τ sig ℕ) Wd) ⊢ _
  unfold done
  rw [held_split]
  iintro ⟨Ha, -, ⟨Hs, -⟩, Hb, HO⟩
  isplitr [HO]
  · isplitr [Hb]
    · isplitl [Ha] <;> iassumption
    · iexact Hb
  · iexact HO

theorem unscoped_eq : ∀ sm : SemLoc sig, sm.isScoped .tc = false → sm = .reg barS := by decide

theorem VN_of (c : Dev nD) (r : Ref sig .tc) (h : r ∉ hostOps0_W) (h' : r ≠ main_v23) : VN m c (Proc.devRef .tc r) = m ((c.tc : Thread nD τ).loc r) := by
  have e : VN m c (Proc.devRef .tc r) = V1 m c r := Function.update_of_ne (fun h => h' (Proc.devRef_injective _ h)) ..
  exact e.trans ((V1_of m c r h).trans rfl)

/-- What each device's memory holds when @main has returned: the arguments as launched, the result the device's block of the output. -/
def Ends (c : Dev nD) (s : (ℓ : Loc nD τ sig) → Buf (Elt F) ℓ) : Prop :=
  s ((c.tc : Thread nD τ).loc main_arg0) = m ((c.tc : Thread nD τ).loc main_arg0) ∧ s ((c.tc : Thread nD τ).loc main_arg1) = m ((c.tc : Thread nD τ).loc main_arg1)
    ∧ s ((c.tc : Thread nD τ).loc main_arg2) = m ((c.tc : Thread nD τ).loc main_arg2) ∧ s ((c.tc : Thread nD τ).loc main_arg3) = m ((c.tc : Thread nD τ).loc main_arg3)
    ∧ s ((c.tc : Thread nD τ).loc main_v23) = out₀ m c

set_option backward.isDefEq.respectTransparency.types false in
/-- Every run of @main from zero counters ends, and ends so, with every counter at zero. -/
theorem run_main : θ_run defs (onTc (τ := τ) (main (F := F))) ⟨m, fun _ => 0, ρ⟩ (fun r => (∀ c : Dev nD, Ends m c r.2.mem) ∧ r.2.sem = fun _ => 0) :=
  Pipeline.θ_run_regions_kit_dev_sems (pcfgs (F := F)) adm (pdats m) 0 cellOf_inj EP defs₀ 𝒱₀ L lv m ρ main
    (segs m 𝒱₀ L lv (fun _ => rest₀ m) 0 (pdats m) (region m))
    (fun c Q => by
      rewrite [main_chain c, Pipeline.Seg.run_eq_chain,
        show (segs m 𝒱₀ L lv (fun _ => rest₀ m) 0 (pdats m) (region m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := owed₀) (hL := L_of_ne) (G := seed) (u₀ := u₀)
    (hu₀ := by
      unfold u₀
      rw [seed_eq]
      iintro Hu
      ihave H := (ownU_pair _ _) $$ Hu
      icases H with ⟨HP, HX⟩
      imodintro
      isplitl [HP] <;> iassumption)
    (T₀ := fun c => iprop(StableHlo.held (c.tc : Thread nD τ) (Pipeline.ucRefs τ sig) (V0 m c) ∗ rest₀ m c)) (Tₙ := done m)
    (hch := fun c => ⟨.rfl, region_pre m c, region_post m c⟩)
    (hinit := init m ρ)
    (QY := fun c s => Ends m c s.mem ∧ s.sem (barC c) = 0)
    (hfin := fun c s' => by
      unfold done StableHlo.held
      iintro ⟨⟨Hh, Hb⟩, HSI⟩
      icombine HSI Hb gives %hb
      ihave Hr := (pointsTo_read_all (Pipeline.ucRefs τ sig) (fun b => ((c : Thread nD τ).1, b)) (VN m c) s') $$ [Hh HSI]
      · isplitl [Hh] <;> iassumption
      icases Hr with ⟨%h, HSI⟩
      imodintro
      isplitr
      · ipureintro
        have at' : ∀ r : Ref sig .tc, (Proc.devRef (τ := τ) .tc r).isScoped = false → s'.mem.mem ((c.tc : Thread nD τ).loc r) = VN m c (Proc.devRef .tc r) := fun r hr =>
          h (Proc.devRef .tc r) (Finset.mem_filter.mpr ⟨StableHlo.devRef_mem_tcRefs r, by simp [hr]⟩)
        exact ⟨⟨(at' main_arg0 (by decide)).trans (VN_of m c _ (by decide) (by decide)), (at' main_arg1 (by decide)).trans (VN_of m c _ (by decide) (by decide)),
          (at' main_arg2 (by decide)).trans (VN_of m c _ (by decide) (by decide)), (at' main_arg3 (by decide)).trans (VN_of m c _ (by decide) (by decide)),
          (at' main_v23 (by decide)).trans (Function.update_self ..)⟩, by simpa using hb⟩
      · iexact HSI)
    (hQ := fun s h hs => ⟨fun c => (h c).1, sem_eq_zero hs fun c sm hsm => by
      obtain rfl := unscoped_eq sm hsm
      exact (h c).2⟩)

end Cert.KernelIdeal.Ring

end
-- ==== Proof.Value.Sums.lean ====
/- Over the extended reals: what the ring leaves at a device is the sum of all devices' products, and that is the device's rows of
   the whole product. -/
module

public import proofs.«01_k».proof.Proof.KernelIdeal.Host
public import Idealize.ShloMosaic.Lib.MatmulPlain
public import Idealize.ShloMosaic.Lib.Pipeline.Value
public import Idealize.ShloMosaic.Lib.Layout

@[expose] public section

noncomputable section

namespace Cert.Value

open Idealize.ShloMosaic Idealize.ShloMosaic.ValueIdx
open Cert.KernelIdeal Cert.KernelIdeal.Ring
open scoped BigOperators

variable (X : Dev nD → Vec Ideal S4096x256 .fp8e5m2) (Wt : Dev nD → Vec Ideal S256x2048 .fp8e5m2)

/-! ## One product -/

/-- Column `j` of sub-block `s` of direction `d`'s half, in the whole width. -/
def col (d : Fin 2) (s : Fin 4) (j : Fin 256) : Fin 2048 := ⟨1024 * d.val + 256 * s.val + j.val, by omega⟩
/-- Row `i` of device `r`'s rows, among all. -/
def row (r : Fin 16) (i : Fin 256) : Fin 4096 := ⟨256 * r.val + i.val, by omega⟩

/-- Device `e`'s contribution to row `i` of device `r`'s rows and column `j`. -/
def term (r : Fin 16) (i : Fin 256) (j : Fin 2048) (e : Dev nD) : EReal := ∑ k : Fin 256, (X e (ix2 (row r i) k) : EReal) * (Wt e (ix2 k j) : EReal)

/-- An entry of a 256 × 1024 product. -/
theorem prod_apply (x : Vec Ideal S256x256 .fp8e5m2) (w : Vec Ideal S256x1024 .fp8e5m2) (i : Fin 256) (j : Fin 1024) :
    prod x w (ix2 i j) = ∑ k : Fin 256, (x (ix2 i k) : EReal) * (w (ix2 k j) : EReal) := by
  refine (Ideal.matmul_plain_apply (M := 256) (K := 256) (N := 1024) (φ₁ := .fp8e5m2) (φ₂ := .fp8e5m2) none
    (shapeCast S256x256 x _) (shapeCast S256x1024 w _) (constant S256x1024 .f32 0x00000000#32) i j).trans ?_
  rw [shapeCast_self, shapeCast_self]
  show Ideal.ofBits .f32 0x00000000#32 + _ = _
  rw [Ideal.ofBits_zero_f32, zero_add]

/-- An entry of a sub-block of device `c`'s product at step `h` is its contribution to that row and column. -/
theorem cut_apply (d : Fin 2) (s : Fin 4) (h : ℕ) (c : Dev nD) (i j : Fin 256) :
    cut s (prodAt X Wt d h c) (ix2 i j) = term X Wt (chunk d h c) i (col d s j) c := by
  have e : cut s (prodAt X Wt d h c) (ix2 i j) = prodAt X Wt d h c (ix2 i (⟨256 * s.val + j.val, by omega⟩ : Fin 1024)) := by
    refine congrArg (prodAt X Wt d h c) (funext fun a => ?_)
    match a with
    | 0 => exact Fin.ext (by show 0 + i.val = i.val; omega)
    | 1 => exact Fin.ext rfl
  rw [e]
  unfold prodAt
  rw [prod_apply]
  unfold term
  refine Finset.sum_congr rfl fun k _ => ?_
  have hx : xrows (X c) (chunk d h c) (ix2 i k) = X c (ix2 (row (chunk d h c) i) k) := by
    refine congrArg (X c) (funext fun a => ?_)
    match a with
    | 0 => exact Fin.ext (by show 256 * (chunk d h c).val + 1 * i.val = 256 * (chunk d h c).val + i.val; omega)
    | 1 => exact Fin.ext (by show 0 + 1 * k.val = k.val; omega)
  have hw : whalf (Wt c) d (ix2 k (⟨256 * s.val + j.val, by omega⟩ : Fin 1024)) = Wt c (ix2 k (col d s j)) := by
    refine congrArg (Wt c) (funext fun a => ?_)
    match a with
    | 0 => exact Fin.ext (by show 0 + 1 * k.val = k.val; omega)
    | 1 => exact Fin.ext (by show 1024 * d.val + 1 * (256 * s.val + j.val) = 1024 * d.val + 256 * s.val + j.val; omega)
  rw [hx, hw]

/-! ## The ring's sum -/

/-- The rows that `c` works on at a step are those that the device behind it worked on at the step before; -/
theorem chunk_src : ∀ (d : Fin 2) (h : Fin 15) (c : Dev nD), chunk d h.val (src d c) = chunk d (h.val + 1) c := by decide +kernel
/-- and at the last step they are its own. -/
theorem chunk_last : ∀ (d : Fin 2) (c : Dev nD), chunk d 15 c = c := by decide +kernel

/-- At step `h` a device has the sum of the products of the devices behind it, as far as the message went. -/
theorem part_apply (d : Fin 2) (s : Fin 4) (i j : Fin 256) : ∀ (h : ℕ), h < 16 → ∀ c : Dev nD,
    part X Wt d s h c (ix2 i j) = ∑ n ∈ Finset.range (h + 1), term X Wt (chunk d h c) i (col d s j) ((src d)^[n] c)
  | 0, _, c => by
    rw [Finset.sum_range_one]
    exact cut_apply X Wt d s 0 c i j
  | h + 1, hh, c => by
    have e : part X Wt d s (h + 1) c (ix2 i j) = (part X Wt d s h (src d c) (ix2 i j) + cut s (prodAt X Wt d (h + 1) c) (ix2 i j) : EReal) := rfl
    rw [e, part_apply d s i j h (by omega) (src d c), cut_apply, Finset.sum_range_succ' _ (h + 1), chunk_src d ⟨h, by omega⟩ c]
    rfl

/-- Sixteen steps back along the ring meet every device once. -/
theorem src_steps : ∀ (d : Fin 2) (c : Dev nD), Function.Bijective fun n : Fin 16 => ((src d)^[n.val] c : Dev nD) := by decide +kernel

/-- After the last step it has the sum over all devices. -/
theorem part_last (d : Fin 2) (s : Fin 4) (i j : Fin 256) (c : Dev nD) : part X Wt d s 15 c (ix2 i j) = ∑ e : Dev nD, term X Wt c i (col d s j) e := by
  rw [part_apply X Wt d s i j 15 (by decide) c, chunk_last, Finset.sum_range]
  exact Function.Bijective.sum_comp (src_steps d c) fun e => term X Wt c i (col d s j) e

/-- A device's result, entry by entry. -/
theorem out_apply (sc : Ideal .f32) (c : Dev nD) (i : Fin 256) (j : Fin 2048) :
    outW X Wt sc c (ix2 i j) = FloatOps.maximumf (FloatOps.mulf (∑ e : Dev nD, term X Wt c i j e : Ideal .f32) sc) (Scalar.ofBits .f32 0x00000000#32) := by
  have hj : col (outD (ix2 i j)) (outS (ix2 i j)) ⟨j.val % 256, Nat.mod_lt _ (by decide)⟩ = j :=
    Fin.ext (by show 1024 * (j.val / 1024 % 2) + 256 * (j.val / 256 % 4) + j.val % 256 = j.val; omega)
  have hl : outL (ix2 i j) = ix2 i (⟨j.val % 256, Nat.mod_lt _ (by decide)⟩ : Fin 256) := by
    funext a
    match a with
    | 0 => rfl
    | 1 => rfl
  have e := part_last X Wt (outD (ix2 i j)) (outS (ix2 i j)) i ⟨j.val % 256, Nat.mod_lt _ (by decide)⟩ c
  rw [hj] at e
  unfold outW
  rw [hl, ← e]
  rfl

/-! ## The whole product -/

/-- Column `k` of device `e`'s block, among all. -/
def at2 (e : Fin 16) (k : Fin 256) : Fin 4096 := ⟨e.val * 256 + k.val, by omega⟩

/-- The sum over all 4096 columns of `x`, device by device. -/
theorem sum_blocks (f : Fin 4096 → EReal) : ∑ k : Fin 4096, f k = ∑ e : Fin 16, ∑ k : Fin 256, f (at2 e k) := by
  rw [← Fintype.sum_prod_type' (fun (e : Fin 16) (k : Fin 256) => f (at2 e k))]
  refine (Equiv.sum_comp (finProdFinEquiv (m := 16) (n := 256)) f).symm.trans (Finset.sum_congr rfl fun x _ => congrArg f (Fin.ext ?_))
  show x.2.val + 256 * x.1.val = x.1.val * 256 + x.2.val
  omega

/-- Entry `(i, j)` of the whole result. -/
def whole (x : Vec Ideal ⟨2, ![4096, 4096]⟩ .fp8e5m2) (w : Vec Ideal ⟨2, ![4096, 2048]⟩ .fp8e5m2) (sc : Ideal .f32) (i : Fin 4096) (j : Fin 2048) : Ideal .f32 :=
  FloatOps.maximumf (FloatOps.mulf (∑ k : Fin 4096, (x (ix2 i k) : EReal) * (w (ix2 k j) : EReal) : Ideal .f32) sc) (Scalar.ofBits .f32 0x00000000#32)

/-- Where each device holds its block of the whole arrays, its result is its rows of the whole result. -/
theorem out_whole (x : Vec Ideal ⟨2, ![4096, 4096]⟩ .fp8e5m2) (w : Vec Ideal ⟨2, ![4096, 2048]⟩ .fp8e5m2) (sc : Ideal .f32)
    (hx : ∀ c, X c = Layout.block ⟨2, ![4096, 256]⟩ ⟨2, ![4096, 4096]⟩ 1 16 c x) (hw : ∀ c, Wt c = Layout.block ⟨2, ![256, 2048]⟩ ⟨2, ![4096, 2048]⟩ 0 16 c w)
    (c : Dev nD) (i : Fin 256) (j : Fin 2048) : outW X Wt sc c (ix2 i j) = whole x w sc (row c i) j := by
  rw [out_apply]
  unfold whole
  rw [sum_blocks]
  refine congrArg (fun a : EReal => FloatOps.maximumf (FloatOps.mulf (a : Ideal .f32) sc) (Scalar.ofBits .f32 0x00000000#32)) (Finset.sum_congr rfl fun e _ => Finset.sum_congr rfl fun k _ => ?_)
  rw [hx e, hw e]
  have h₁ : ∀ h, (Layout.Tiles.idx (S := ⟨2, ![4096, 256]⟩) (T := ⟨2, ![4096, 4096]⟩) (a := 1) (k := 16) h e (ix2 (row c i) k)) = ix2 (row c i) (at2 e k) := fun h => by
    funext a
    match a with
    | 0 => rfl
    | 1 => rfl
  have h₂ : ∀ h, (Layout.Tiles.idx (S := ⟨2, ![256, 2048]⟩) (T := ⟨2, ![4096, 2048]⟩) (a := 0) (k := 16) h e (ix2 k j)) = ix2 (at2 e k) j := fun h => by
    funext a
    match a with
    | 0 => rfl
    | 1 => rfl
  rw [Layout.block_apply, Layout.block_apply, h₁, h₂]

end Cert.Value

end
-- ==== Proof.Value.Reference.lean ====
/- The reference's run over the extended reals: its result is the whole product, scaled and cut off at zero, entry by entry. -/
module

public import proofs.«01_k».proof.Proof.Value.Sums
public import proofs.«01_k».proof.Proof.Gen.ReferenceIdeal.Value
public import Idealize.ShloMosaic.Lib.VecWindow

@[expose] public section

noncomputable section

namespace Cert.Value

open Idealize.ShloMosaic Idealize.ShloMosaic.ValueIdx Idealize.ShloMosaic.TcCoe Idealize.SL.Sem
open Cert.ReferenceIdeal Cert.ReferenceIdeal.Gen
open Cert.KernelIdeal.Ring (at1 at1_idx)

/-- The whole result of two matrices and two scales. -/
def result (x : Vec Ideal S4096x4096 .fp8e5m2) (w : Vec Ideal S4096x2048 .fp8e5m2) (a b : Vec Ideal S1 .f32) : Vec Ideal S4096x2048 .f32 :=
  fun i => whole x w (Scalar.mulf (at1 (F := Ideal) (e := .f32) a) (at1 (F := Ideal) (e := .f32) b)) (i 0) (i 1)

/-- What the reference stores, entry by entry. -/
theorem pay_apply (x : Vec Ideal S4096x4096 .fp8e5m2) (w : Vec Ideal S4096x2048 .fp8e5m2) (u v : Ideal .f32) (i : Fin 4096) (j : Fin 2048) :
    k0_pay1 (F := Ideal) x w u v (ix2 i j) = whole x w (Scalar.mulf u v) i j := by
  have e : FloatOps.matmul (φ₁ := .fp8e5m2) (φ₂ := .fp8e5m2) dot_S4096x4096_S4096x2048_S4096x2048_1_0_0_1_n_n none x w (constant (F := Ideal) S4096x2048 .f32 0x00000000#32) (ix2 i j)
      = ∑ k : Fin 4096, (x (ix2 i k) : EReal) * (w (ix2 k j) : EReal) := by
    refine (Ideal.matmul_plain_apply (M := 4096) (K := 4096) (N := 2048) (φ₁ := .fp8e5m2) (φ₂ := .fp8e5m2) none x w _ i j).trans ?_
    show Ideal.ofBits .f32 0x00000000#32 + _ = _
    rw [Ideal.ofBits_zero_f32, zero_add]
  unfold whole
  rw [← e]
  rfl

/-- So what it stores is `result` of what it loaded. -/
theorem pay_eq (x : Vec Ideal S4096x4096 .fp8e5m2) (w : Vec Ideal S4096x2048 .fp8e5m2) (a b : Vec Ideal S1 .f32) :
    k0_pay1 (F := Ideal) x w (at1 (F := Ideal) (e := .f32) a) (at1 (F := Ideal) (e := .f32) b) = result x w a b := funext fun i =>
  (congrArg _ (funext fun a => by match a with | 0 => rfl | 1 => rfl : i = ix2 (n0 := 4096) (n1 := 2048) (i 0) (i 1))).trans (pay_apply x w _ _ (i 0) (i 1))

/-- What the body leaves in the staged result, whatever its buffers: the one store's value. -/
theorem left_eq (c : Dev nD) (arg0 : Memref sig .tc .vmem S4096x4096 .fp8e5m2) (h0 : arg0.IsWhole) (arg1 : Memref sig .tc .vmem S4096x2048 .fp8e5m2) (h1 : arg1.IsWhole)
    (arg2 : Memref sig .tc .smem S1 .f32) (h2 : arg2.IsWhole) (arg3 : Memref sig .tc .smem S1 .f32) (h3 : arg3.IsWhole) (arg4 : Memref sig .tc .vmem S4096x2048 .f32) (h4 : arg4.IsWhole)
    (x : Vec Ideal S4096x4096 .fp8e5m2) (w : Vec Ideal S4096x2048 .fp8e5m2) (a b : Vec Ideal S1 .f32) :
    out0_A_4 c arg0 h0 arg1 h1 arg2 h2 arg3 h3 arg4 h4 x w a b = result x w a b := by
  refine (View.read_writes_full VO0_4 VO0_4.junk inb_S4096x2048_S4096x2048_0_0 _ []).trans ?_
  rw [← pay_eq]
  have hx : View.readAt (Elt Ideal) arg0.view (Rect.unit ![0, 0] S4096x4096.size inb_S4096x4096_S4096x4096_0_0).toLoadRect (h0.unread x) = x := by
    rw [View.readAt_full, h0.read_unread]
  have hw : View.readAt (Elt Ideal) arg1.view (Rect.unit ![0, 0] S4096x2048.size inb_S4096x2048_S4096x2048_0_0).toLoadRect (h1.unread w) = w := by
    rw [View.readAt_full, h1.read_unread]
  have ha : View.readAt (Elt Ideal) arg2.view (Rect.unit (s := S1) ![0] S1.size inb_S1_S1_0).toLoadRect (h2.unread a) = a := by
    rw [View.readAt_full, h2.read_unread]
  have hb : View.readAt (Elt Ideal) arg3.view (Rect.unit (s := S1) ![0] S1.size inb_S1_S1_0).toLoadRect (h3.unread b) = b := by
    rw [View.readAt_full, h3.read_unread]
  exact congr (congrArg₂ (fun x w => k0_pay1 (F := Ideal) x w) hx hw |> fun h => congr h ((congrFun ha _).trans (congrArg a (at1_idx _)))) ((congrFun hb _).trans (congrArg b (at1_idx _)))

variable (m : (ℓ : Loc nD τ sig) → Buf (Elt Ideal) ℓ) (ρ : Dev nD → PrngReg)

/-- The one block of a window that is its whole array leaves an index as it is. -/
theorem whole_rect {s : Shape} {e : EltTy} {cs : CoreSpace} (arr : Memref sig .tc .hbm s e) (o y : Bool) (stage : Memref sig .tc (.core cs) ⟨s.rank, s.size⟩ e)
    (sem : DmaSem sig) (harr : arr.IsWhole) (hstage : stage.IsWhole) (t : Fin Pipeline.Grid.none.N) (j : s.Idx) :
    ((Pipeline.Window.whole arr o y stage sem harr hstage).rect t).emb j = j := funext fun a => Fin.ext (by
  rw [Rect.emb_apply]
  show 0 * s.size a + 1 * (j a).val = (j a).val
  omega)
/-- So read through it, contents are what they were. -/
theorem whole_read {s : Shape} {e : EltTy} {cs : CoreSpace} (arr : Memref sig .tc .hbm s e) (o y : Bool) (stage : Memref sig .tc (.core cs) ⟨s.rank, s.size⟩ e)
    (sem : DmaSem sig) (harr : arr.IsWhole) (hstage : stage.IsWhole) (t : Fin Pipeline.Grid.none.N) (f : s.Idx → Elt Ideal e) :
    (fun j : s.Idx => f (((Pipeline.Window.whole arr o y stage sem harr hstage).rect t).emb j)) = f :=
  funext fun j => congrArg f (whole_rect arr o y stage sem harr hstage t j)

/-- What each argument's window brings in: the argument. -/
theorem block0 (c : Dev nD) (t : Fin cfg0.N) : iblk m c 0 t = V m c main_arg0 := whole_read (e := .fp8e5m2) _ _ _ _ _ (Memref.isWhole_whole _) (hstage0_0 0) t (V m c main_arg0)
theorem block1 (c : Dev nD) (t : Fin cfg0.N) : iblk m c 1 t = V m c main_arg1 := whole_read (e := .fp8e5m2) _ _ _ _ _ (Memref.isWhole_whole _) (hstage0_1 0) t (V m c main_arg1)
theorem block2 (c : Dev nD) (t : Fin cfg0.N) : iblk m c 2 t = V m c main_arg2 := whole_read (e := .f32) _ _ _ _ _ (Memref.isWhole_whole _) (hstage0_2 0) t (V m c main_arg2)
theorem block3 (c : Dev nD) (t : Fin cfg0.N) : iblk m c 3 t = V m c main_arg3 := whole_read (e := .f32) _ _ _ _ _ (Memref.isWhole_whole _) (hstage0_3 0) t (V m c main_arg3)

/-- The result array after the run. -/
theorem array_eq (c : Dev nD) : (dats m 0 c).arrAt 4 cfg0.N
    = result (m ((c : Thread nD τ).loc main_arg0)) (m ((c : Thread nD τ).loc main_arg1)) (m ((c : Thread nD τ).loc main_arg2)) (m ((c : Thread nD τ).loc main_arg3)) := by
  have h := Cert.ReferenceIdeal.Value.blocks4 m c ⟨0, by decide⟩ (flush0_4 _)
  rw [Cert.ReferenceIdeal.Value.flushed4_A, left_eq, block0, block1, block2, block3] at h
  rw [← V_main_arg0 m c, ← V_main_arg1 m c, ← V_main_arg2 m c, ← V_main_arg3 m c]
  exact (whole_read (e := .f32) _ _ _ _ _ (Memref.isWhole_whole _) (hstage0_4 0) ⟨0, by decide⟩ ((dats m 0 c).arrAt 4 cfg0.N)).symm.trans h

/-- The reference ends with the whole result, its arguments as they were. -/
theorem reference_run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (array_eq m c), (h c).2⟩) (Cert.ReferenceIdeal.Value.run_blocks m ρ)

end Cert.Value

end
-- ==== Proof.Value.Equal.lean ====
/- The kernel's result over the extended reals: each device ends with its 256 rows of the reference's result. -/
module

public import proofs.«01_k».proof.Proof.Value.Reference
public import proofs.«01_k».proof.Proof.KernelIdeal.Launch

@[expose] public section

noncomputable section

namespace Cert.Value

open Idealize.ShloMosaic Idealize.ShloMosaic.ValueIdx Idealize.ShloMosaic.TcCoe Idealize.SL.Sem
open Cert.KernelIdeal Cert.KernelIdeal.Ring

variable (m : (ℓ : Loc nD τ sig) → Buf (Elt Ideal) ℓ)

/-- Where every device holds its block of `x` and of `w` and both scales, its part of the kernel's result is its rows of `result`. -/
theorem out_eq (x : Vec Ideal ⟨2, ![4096, 4096]⟩ .fp8e5m2) (w : Vec Ideal ⟨2, ![4096, 2048]⟩ .fp8e5m2) (a b : Vec Ideal S1 .f32)
    (h : ∀ c : Dev nD, m ((c : Thread nD τ).loc main_arg0) = Layout.block ⟨2, ![4096, 256]⟩ ⟨2, ![4096, 4096]⟩ 1 16 c x
      ∧ m ((c : Thread nD τ).loc main_arg1) = Layout.block ⟨2, ![256, 2048]⟩ ⟨2, ![4096, 2048]⟩ 0 16 c w
      ∧ m ((c : Thread nD τ).loc main_arg2) = a ∧ m ((c : Thread nD τ).loc main_arg3) = b)
    (c : Dev nD) : out₀ m c = Layout.block ⟨2, ![256, 2048]⟩ ⟨2, ![4096, 2048]⟩ 0 16 c (result x w a b) := by
  funext i
  have hs : Scalar.mulf (sx₀ m c) (sw₀ m c) = Scalar.mulf (at1 (F := Ideal) (e := .f32) a) (at1 (F := Ideal) (e := .f32) b) := by
    unfold sx₀ sw₀
    rw [(h c).2.2.1, (h c).2.2.2]
  have hi : i = ix2 (n0 := 256) (n1 := 2048) (i 0) (i 1) := funext fun a => by match a with | 0 => rfl | 1 => rfl
  have e := out_whole (X₀ m) (Wt₀ m) x w (Scalar.mulf (sx₀ m c) (sw₀ m c)) (fun c => (h c).1) (fun c => (h c).2.1) c (i 0) (i 1)
  refine ((congrArg (out₀ m c) hi).trans e).trans ?_
  rw [hs, Layout.block_apply]
  refine congrArg (fun r : Fin 4096 => whole x w _ r (i 1)) (Fin.ext ?_)
  show 256 * c.val + (i 0).val = c.val * 256 + (i 0).val
  omega

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Launch
public import proofs.«01_k».proof.Proof.KernelIdeal.Launch
public import proofs.«01_k».proof.Proof.Gen.ReferenceIdeal.Value
public import proofs.«01_k».proof.Proof.Value.Equal
public import Idealize.ShloMosaic.Adequacy
public import Idealize.ShloMosaic.Init

@[expose] public section

noncomputable section

namespace Cert.Proof

open Idealize.ShloMosaic Idealize.SL.Sem Cert.Kernel

/-- The kernel at the device's floats: its run with the result dropped. -/
theorem frame_kernel : Cert.quiescent_Kernel (hKernel := Cert.Kernel.Gen.facts) := fun m g _ =>
  (θ_run _ _ _).mono (fun r h => ⟨fun c => ⟨(h.1 c).1, (h.1 c).2.1, (h.1 c).2.2.1, (h.1 c).2.2.2.1⟩, h.2⟩) (Cert.Kernel.Ring.run_main m g)

/-- The kernel at the extended reals: its run with the result dropped. -/
theorem frame_kernelIdeal : Cert.quiescent_KernelIdeal (hKernelIdeal := Cert.KernelIdeal.Gen.facts) := fun m g _ =>
  (θ_run _ _ _).mono (fun r h => ⟨fun c => ⟨(h.1 c).1, (h.1 c).2.1, (h.1 c).2.2.1, (h.1 c).2.2.2.1⟩, h.2⟩) (Cert.KernelIdeal.Ring.run_main m g)

/-- Over the extended reals every device ends with its rows of the reference's result. -/
theorem algebraic : Cert.algebraic_KernelIdeal_ReferenceIdeal (hKernelIdeal := Cert.KernelIdeal.Gen.facts) (hReferenceIdeal := Cert.ReferenceIdeal.Gen.facts) :=
  fun m g m' g' _ h => ⟨_,
    (θ_run _ _ _).mono (fun _ r c => ⟨(r.1 c).2.2.2.2.trans (Cert.Value.out_eq m _ _ _ _ h c), (r.1 c).1, (r.1 c).2.1, (r.1 c).2.2.1, (r.1 c).2.2.2.1⟩)
      (Cert.KernelIdeal.Ring.run_main m g),
    (θ_run _ _ _).mono (fun _ r => r 0) (Cert.Value.reference_run m' g')⟩

theorem claim : Cert.Claim := ⟨Cert.Kernel.Gen.facts, Cert.KernelIdeal.Gen.facts, Cert.ReferenceIdeal.Gen.facts,
  frame_kernel, frame_kernelIdeal, fun m g _ => Cert.ReferenceIdeal.Gen.frame m g, trivial, algebraic⟩

end Cert.Proof

end
